-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S4096x256 : Shape := ⟨2, ![4096, 256]⟩
abbrev S2048x256 : Shape := ⟨2, ![2048, 256]⟩
abbrev S3x3 : Shape := ⟨2, ![3, 3]⟩
abbrev S3 : Shape := ⟨1, ![3]⟩
abbrev S_ : Shape := ⟨0, ![]⟩
abbrev S1x1 : Shape := ⟨2, ![1, 1]⟩
abbrev S512x512 : Shape := ⟨2, ![512, 512]⟩
abbrev S1024x256 : Shape := ⟨2, ![1024, 256]⟩
abbrev S512x1024 : Shape := ⟨2, ![512, 1024]⟩
abbrev S512x2048 : Shape := ⟨2, ![512, 2048]⟩
abbrev S512x4096 : Shape := ⟨2, ![512, 4096]⟩
abbrev S256x256 : Shape := ⟨2, ![256, 256]⟩
abbrev S256x4096 : Shape := ⟨2, ![256, 4096]⟩
abbrev S1 : Shape := ⟨1, ![1]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S4096x256, .bf16⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S2048x256, .bf16⟩
  | .local _ .vmem, ⟨15, _⟩ => ⟨S2048x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v18 : BitVec 32 := Scalar.xori v2 c1_i32_7
  let c1_i32_9 : BitVec 32 := 1#32
  let v19 : BitVec 32 := Scalar.muli v18 c1_i32_9
  let v20 : BitVec 32 := Scalar.addi c0_i32 v19
  v20.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v21 : BitVec 32 := Scalar.xori v2 c3_i32
  let c1_i32_11 : BitVec 32 := 1#32
  let v22 : BitVec 32 := Scalar.muli v21 c1_i32_11
  let v23 : BitVec 32 := Scalar.addi c0_i32_12 v22
  v23.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v24 : BitVec 32 := Scalar.xori v2 c4_i32_13
  let c1_i32_15 : BitVec 32 := 1#32
  let v25 : BitVec 32 := Scalar.muli v24 c1_i32_15
  let v26 : BitVec 32 := Scalar.addi c0_i32_16 v25
  v26.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v29 : BitVec 32 := Scalar.muli v2 c512_i32
  let v33 : Index := Scalar.indexCast v29
  let c0_21 : Index := 0#32
  ![v33.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrui v2 c1_i32_1
  let c1_i32_2 : BitVec 32 := 1#32
  let v5 : BitVec 32 := Scalar.andi v4 c1_i32_2
  let c2_i32_4 : BitVec 32 := 2#32
  let c2_i32 : BitVec 32 := 2#32
  let v6 : BitVec 32 := Scalar.shrui v2 c2_i32
  let c1_i32_3 : BitVec 32 := 1#32
  let v7 : BitVec 32 := Scalar.andi v6 c1_i32_3
  let v9 : BitVec 32 := Scalar.muli c2_i32_4 v7
  let v10 : BitVec 32 := Scalar.addi v5 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c512_i32_25 : BitVec 32 := 512#32
  let v43 : BitVec 32 := Scalar.muli v12 c512_i32_25
  let v47 : Index := Scalar.indexCast v43
  let c0_28 : Index := 0#32
  ![v47.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c512_i32_32 : BitVec 32 := 512#32
  let v57 : BitVec 32 := Scalar.muli v16 c512_i32_32
  let v61 : Index := Scalar.indexCast v57
  let c0_35 : Index := 0#32
  ![v61.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v71 : BitVec 32 := Scalar.andi v2 c7_i32
  let c512_i32_41 : BitVec 32 := 512#32
  let v74 : BitVec 32 := Scalar.muli v71 c512_i32_41
  let c0_i32_48 : BitVec 32 := 0#32
  ![v74.toNat, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v73 : BitVec 32 := Scalar.xori v2 c1_i32_40
  let c1_i32_46 : BitVec 32 := 1#32
  let v75 : BitVec 32 := Scalar.muli v73 c1_i32_46
  let v76 : BitVec 32 := Scalar.addi c0_i32_47 v75
  v76.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v73 : BitVec 32 := Scalar.xori v2 c1_i32_40
  let c1_i32_54 : BitVec 32 := 1#32
  let v83 : BitVec 32 := Scalar.muli v73 c1_i32_54
  let v84 : BitVec 32 := Scalar.addi c0_i32_55 v83
  v84.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrui v2 c1_i32_1
  let c1_i32_2 : BitVec 32 := 1#32
  let v5 : BitVec 32 := Scalar.andi v4 c1_i32_2
  let c2_i32_4 : BitVec 32 := 2#32
  let c2_i32 : BitVec 32 := 2#32
  let v6 : BitVec 32 := Scalar.shrui v2 c2_i32
  let c1_i32_3 : BitVec 32 := 1#32
  let v7 : BitVec 32 := Scalar.andi v6 c1_i32_3
  let v9 : BitVec 32 := Scalar.muli c2_i32_4 v7
  let v10 : BitVec 32 := Scalar.addi v5 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c7_i32_59 : BitVec 32 := 7#32
  let v92 : BitVec 32 := Scalar.andi v12 c7_i32_59
  let c512_i32_62 : BitVec 32 := 512#32
  let v95 : BitVec 32 := Scalar.muli v92 c512_i32_62
  let c0_i32_69 : BitVec 32 := 0#32
  ![v95.toNat, 0]
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_61 : BitVec 32 := 3#32
  let v94 : BitVec 32 := Scalar.xori v2 c3_i32_61
  let c1_i32_67 : BitVec 32 := 1#32
  let v96 : BitVec 32 := Scalar.muli v94 c1_i32_67
  let v97 : BitVec 32 := Scalar.addi c0_i32_68 v96
  v97.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_61 : BitVec 32 := 3#32
  let v94 : BitVec 32 := Scalar.xori v2 c3_i32_61
  let c1_i32_75 : BitVec 32 := 1#32
  let v104 : BitVec 32 := Scalar.muli v94 c1_i32_75
  let v105 : BitVec 32 := Scalar.addi c0_i32_76 v104
  v105.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c7_i32_80 : BitVec 32 := 7#32
  let v113 : BitVec 32 := Scalar.andi v16 c7_i32_80
  let c512_i32_83 : BitVec 32 := 512#32
  let v116 : BitVec 32 := Scalar.muli v113 c512_i32_83
  let c0_i32_90 : BitVec 32 := 0#32
  ![v116.toNat, 0]
def k0_dev8 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_82 : BitVec 32 := 4#32
  let v115 : BitVec 32 := Scalar.xori v2 c4_i32_82
  let c1_i32_88 : BitVec 32 := 1#32
  let v117 : BitVec 32 := Scalar.muli v115 c1_i32_88
  let v118 : BitVec 32 := Scalar.addi c0_i32_89 v117
  v118.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_82 : BitVec 32 := 4#32
  let v115 : BitVec 32 := Scalar.xori v2 c4_i32_82
  let c1_i32_96 : BitVec 32 := 1#32
  let v125 : BitVec 32 := Scalar.muli v115 c1_i32_96
  let v126 : BitVec 32 := Scalar.addi c0_i32_97 v125
  v126.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v71 : BitVec 32 := Scalar.andi v2 c7_i32
  let c1_i32_39 : BitVec 32 := 1#32
  let v72 : BitVec 32 := Scalar.xori v71 c1_i32_39
  let c512_i32_58 : BitVec 32 := 512#32
  let v91 : BitVec 32 := Scalar.muli v72 c512_i32_58
  let c0_i32_112 : BitVec 32 := 0#32
  ![v91.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrui v2 c1_i32_1
  let c1_i32_2 : BitVec 32 := 1#32
  let v5 : BitVec 32 := Scalar.andi v4 c1_i32_2
  let c2_i32_4 : BitVec 32 := 2#32
  let c2_i32 : BitVec 32 := 2#32
  let v6 : BitVec 32 := Scalar.shrui v2 c2_i32
  let c1_i32_3 : BitVec 32 := 1#32
  let v7 : BitVec 32 := Scalar.andi v6 c1_i32_3
  let v9 : BitVec 32 := Scalar.muli c2_i32_4 v7
  let v10 : BitVec 32 := Scalar.addi v5 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c7_i32_59 : BitVec 32 := 7#32
  let v92 : BitVec 32 := Scalar.andi v12 c7_i32_59
  let c1_i32_60 : BitVec 32 := 1#32
  let v93 : BitVec 32 := Scalar.xori v92 c1_i32_60
  let c512_i32_79 : BitVec 32 := 512#32
  let v112 : BitVec 32 := Scalar.muli v93 c512_i32_79
  let c0_i32_142 : BitVec 32 := 0#32
  ![v112.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c7_i32_80 : BitVec 32 := 7#32
  let v113 : BitVec 32 := Scalar.andi v16 c7_i32_80
  let c1_i32_81 : BitVec 32 := 1#32
  let v114 : BitVec 32 := Scalar.xori v113 c1_i32_81
  let c512_i32_100 : BitVec 32 := 512#32
  let v133 : BitVec 32 := Scalar.muli v114 c512_i32_100
  let c0_i32_172 : BitVec 32 := 0#32
  ![v133.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v204 : BitVec 32 := Scalar.andi v2 c6_i32
  let c512_i32_198 : BitVec 32 := 512#32
  let v207 : BitVec 32 := Scalar.muli v204 c512_i32_198
  let c0_i32_205 : BitVec 32 := 0#32
  ![v207.toNat, 0]
def k0_dev10 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_197 : BitVec 32 := 3#32
  let v206 : BitVec 32 := Scalar.xori v2 c3_i32_197
  let c1_i32_203 : BitVec 32 := 1#32
  let v208 : BitVec 32 := Scalar.muli v206 c1_i32_203
  let v209 : BitVec 32 := Scalar.addi c0_i32_204 v208
  v209.toNat
def k0_dev11 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_197 : BitVec 32 := 3#32
  let v206 : BitVec 32 := Scalar.xori v2 c3_i32_197
  let c1_i32_211 : BitVec 32 := 1#32
  let v216 : BitVec 32 := Scalar.muli v206 c1_i32_211
  let v217 : BitVec 32 := Scalar.addi c0_i32_212 v216
  v217.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrui v2 c1_i32_1
  let c1_i32_2 : BitVec 32 := 1#32
  let v5 : BitVec 32 := Scalar.andi v4 c1_i32_2
  let c2_i32_4 : BitVec 32 := 2#32
  let c2_i32 : BitVec 32 := 2#32
  let v6 : BitVec 32 := Scalar.shrui v2 c2_i32
  let c1_i32_3 : BitVec 32 := 1#32
  let v7 : BitVec 32 := Scalar.andi v6 c1_i32_3
  let v9 : BitVec 32 := Scalar.muli c2_i32_4 v7
  let v10 : BitVec 32 := Scalar.addi v5 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c6_i32_216 : BitVec 32 := 6#32
  let v225 : BitVec 32 := Scalar.andi v12 c6_i32_216
  let c512_i32_219 : BitVec 32 := 512#32
  let v228 : BitVec 32 := Scalar.muli v225 c512_i32_219
  let c0_i32_226 : BitVec 32 := 0#32
  ![v228.toNat, 0]
def k0_dev12 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_218 : BitVec 32 := 4#32
  let v227 : BitVec 32 := Scalar.xori v2 c4_i32_218
  let c1_i32_224 : BitVec 32 := 1#32
  let v229 : BitVec 32 := Scalar.muli v227 c1_i32_224
  let v230 : BitVec 32 := Scalar.addi c0_i32_225 v229
  v230.toNat
def k0_dev13 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_218 : BitVec 32 := 4#32
  let v227 : BitVec 32 := Scalar.xori v2 c4_i32_218
  let c1_i32_232 : BitVec 32 := 1#32
  let v237 : BitVec 32 := Scalar.muli v227 c1_i32_232
  let v238 : BitVec 32 := Scalar.addi c0_i32_233 v237
  v238.toNat
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c6_i32_237 : BitVec 32 := 6#32
  let v246 : BitVec 32 := Scalar.andi v16 c6_i32_237
  let c512_i32_240 : BitVec 32 := 512#32
  let v249 : BitVec 32 := Scalar.muli v246 c512_i32_240
  let c0_i32_247 : BitVec 32 := 0#32
  ![v249.toNat, 0]
def k0_dev14 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v248 : BitVec 32 := Scalar.xori v2 c1_i32_239
  let c1_i32_245 : BitVec 32 := 1#32
  let v250 : BitVec 32 := Scalar.muli v248 c1_i32_245
  let v251 : BitVec 32 := Scalar.addi c0_i32_246 v250
  v251.toNat
def k0_dev15 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v248 : BitVec 32 := Scalar.xori v2 c1_i32_239
  let c1_i32_253 : BitVec 32 := 1#32
  let v258 : BitVec 32 := Scalar.muli v248 c1_i32_253
  let v259 : BitVec 32 := Scalar.addi c0_i32_254 v258
  v259.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_258 : BitVec 32 := 1#32
  let v267 : BitVec 32 := Scalar.xori v2 c1_i32_258
  let c512_i32_259 : BitVec 32 := 512#32
  let v268 : BitVec 32 := Scalar.muli v267 c512_i32_259
  let v269 : Index := Scalar.indexCast v268
  let c0_260 : Index := 0#32
  ![v269.toNat, 0]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v204 : BitVec 32 := Scalar.andi v2 c6_i32
  let c2_i32_196 : BitVec 32 := 2#32
  let v205 : BitVec 32 := Scalar.xori v204 c2_i32_196
  let c512_i32_215 : BitVec 32 := 512#32
  let v224 : BitVec 32 := Scalar.muli v205 c512_i32_215
  let c0_i32_271 : BitVec 32 := 0#32
  ![v224.toNat, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrui v2 c1_i32_1
  let c1_i32_2 : BitVec 32 := 1#32
  let v5 : BitVec 32 := Scalar.andi v4 c1_i32_2
  let c2_i32_4 : BitVec 32 := 2#32
  let c2_i32 : BitVec 32 := 2#32
  let v6 : BitVec 32 := Scalar.shrui v2 c2_i32
  let c1_i32_3 : BitVec 32 := 1#32
  let v7 : BitVec 32 := Scalar.andi v6 c1_i32_3
  let v9 : BitVec 32 := Scalar.muli c2_i32_4 v7
  let v10 : BitVec 32 := Scalar.addi v5 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c6_i32_216 : BitVec 32 := 6#32
  let v225 : BitVec 32 := Scalar.andi v12 c6_i32_216
  let c2_i32_217 : BitVec 32 := 2#32
  let v226 : BitVec 32 := Scalar.xori v225 c2_i32_217
  let c512_i32_236 : BitVec 32 := 512#32
  let v245 : BitVec 32 := Scalar.muli v226 c512_i32_236
  let c0_i32_301 : BitVec 32 := 0#32
  ![v245.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c6_i32_237 : BitVec 32 := 6#32
  let v246 : BitVec 32 := Scalar.andi v16 c6_i32_237
  let c2_i32_238 : BitVec 32 := 2#32
  let v247 : BitVec 32 := Scalar.xori v246 c2_i32_238
  let c512_i32_257 : BitVec 32 := 512#32
  let v266 : BitVec 32 := Scalar.muli v247 c512_i32_257
  let c0_i32_331 : BitVec 32 := 0#32
  ![v266.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_355 : BitVec 32 := 4#32
  let v339 : BitVec 32 := Scalar.andi v2 c4_i32_355
  let c512_i32_358 : BitVec 32 := 512#32
  let v342 : BitVec 32 := Scalar.muli v339 c512_i32_358
  let c0_i32_365 : BitVec 32 := 0#32
  ![v342.toNat, 0]
def k0_dev16 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_357 : BitVec 32 := 4#32
  let v341 : BitVec 32 := Scalar.xori v2 c4_i32_357
  let c1_i32_363 : BitVec 32 := 1#32
  let v343 : BitVec 32 := Scalar.muli v341 c1_i32_363
  let v344 : BitVec 32 := Scalar.addi c0_i32_364 v343
  v344.toNat
def k0_dev17 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_357 : BitVec 32 := 4#32
  let v341 : BitVec 32 := Scalar.xori v2 c4_i32_357
  let c1_i32_371 : BitVec 32 := 1#32
  let v351 : BitVec 32 := Scalar.muli v341 c1_i32_371
  let v352 : BitVec 32 := Scalar.addi c0_i32_372 v351
  v352.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrui v2 c1_i32_1
  let c1_i32_2 : BitVec 32 := 1#32
  let v5 : BitVec 32 := Scalar.andi v4 c1_i32_2
  let c2_i32_4 : BitVec 32 := 2#32
  let c2_i32 : BitVec 32 := 2#32
  let v6 : BitVec 32 := Scalar.shrui v2 c2_i32
  let c1_i32_3 : BitVec 32 := 1#32
  let v7 : BitVec 32 := Scalar.andi v6 c1_i32_3
  let v9 : BitVec 32 := Scalar.muli c2_i32_4 v7
  let v10 : BitVec 32 := Scalar.addi v5 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c4_i32_376 : BitVec 32 := 4#32
  let v360 : BitVec 32 := Scalar.andi v12 c4_i32_376
  let c512_i32_379 : BitVec 32 := 512#32
  let v363 : BitVec 32 := Scalar.muli v360 c512_i32_379
  let c0_i32_386 : BitVec 32 := 0#32
  ![v363.toNat, 0]
def k0_dev18 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_378 : BitVec 32 := 1#32
  let v362 : BitVec 32 := Scalar.xori v2 c1_i32_378
  let c1_i32_384 : BitVec 32 := 1#32
  let v364 : BitVec 32 := Scalar.muli v362 c1_i32_384
  let v365 : BitVec 32 := Scalar.addi c0_i32_385 v364
  v365.toNat
def k0_dev19 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_378 : BitVec 32 := 1#32
  let v362 : BitVec 32 := Scalar.xori v2 c1_i32_378
  let c1_i32_392 : BitVec 32 := 1#32
  let v372 : BitVec 32 := Scalar.muli v362 c1_i32_392
  let v373 : BitVec 32 := Scalar.addi c0_i32_393 v372
  v373.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c4_i32_397 : BitVec 32 := 4#32
  let v381 : BitVec 32 := Scalar.andi v16 c4_i32_397
  let c512_i32_400 : BitVec 32 := 512#32
  let v384 : BitVec 32 := Scalar.muli v381 c512_i32_400
  let c0_i32_407 : BitVec 32 := 0#32
  ![v384.toNat, 0]
def k0_dev20 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_399 : BitVec 32 := 3#32
  let v383 : BitVec 32 := Scalar.xori v2 c3_i32_399
  let c1_i32_405 : BitVec 32 := 1#32
  let v385 : BitVec 32 := Scalar.muli v383 c1_i32_405
  let v386 : BitVec 32 := Scalar.addi c0_i32_406 v385
  v386.toNat
def k0_dev21 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_399 : BitVec 32 := 3#32
  let v383 : BitVec 32 := Scalar.xori v2 c3_i32_399
  let c1_i32_413 : BitVec 32 := 1#32
  let v393 : BitVec 32 := Scalar.muli v383 c1_i32_413
  let v394 : BitVec 32 := Scalar.addi c0_i32_414 v393
  v394.toNat
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_418 : BitVec 32 := 6#32
  let v402 : BitVec 32 := Scalar.andi v2 c6_i32_418
  let c2_i32_419 : BitVec 32 := 2#32
  let v403 : BitVec 32 := Scalar.xori v402 c2_i32_419
  let c512_i32_420 : BitVec 32 := 512#32
  let v404 : BitVec 32 := Scalar.muli v403 c512_i32_420
  let v405 : Index := Scalar.indexCast v404
  let c0_421 : Index := 0#32
  ![v405.toNat, 0]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_355 : BitVec 32 := 4#32
  let v339 : BitVec 32 := Scalar.andi v2 c4_i32_355
  let c4_i32_356 : BitVec 32 := 4#32
  let v340 : BitVec 32 := Scalar.xori v339 c4_i32_356
  let c512_i32_375 : BitVec 32 := 512#32
  let v359 : BitVec 32 := Scalar.muli v340 c512_i32_375
  let c0_i32_432 : BitVec 32 := 0#32
  ![v359.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrui v2 c1_i32_1
  let c1_i32_2 : BitVec 32 := 1#32
  let v5 : BitVec 32 := Scalar.andi v4 c1_i32_2
  let c2_i32_4 : BitVec 32 := 2#32
  let c2_i32 : BitVec 32 := 2#32
  let v6 : BitVec 32 := Scalar.shrui v2 c2_i32
  let c1_i32_3 : BitVec 32 := 1#32
  let v7 : BitVec 32 := Scalar.andi v6 c1_i32_3
  let v9 : BitVec 32 := Scalar.muli c2_i32_4 v7
  let v10 : BitVec 32 := Scalar.addi v5 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c4_i32_376 : BitVec 32 := 4#32
  let v360 : BitVec 32 := Scalar.andi v12 c4_i32_376
  let c4_i32_377 : BitVec 32 := 4#32
  let v361 : BitVec 32 := Scalar.xori v360 c4_i32_377
  let c512_i32_396 : BitVec 32 := 512#32
  let v380 : BitVec 32 := Scalar.muli v361 c512_i32_396
  let c0_i32_462 : BitVec 32 := 0#32
  ![v380.toNat, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c4_i32_397 : BitVec 32 := 4#32
  let v381 : BitVec 32 := Scalar.andi v16 c4_i32_397
  let c4_i32_398 : BitVec 32 := 4#32
  let v382 : BitVec 32 := Scalar.xori v381 c4_i32_398
  let c512_i32_417 : BitVec 32 := 512#32
  let v401 : BitVec 32 := Scalar.muli v382 c512_i32_417
  let c0_i32_492 : BitVec 32 := 0#32
  ![v401.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_516 : BitVec 32 := 4#32
  let v475 : BitVec 32 := Scalar.andi v2 c4_i32_516
  let c4_i32_517 : BitVec 32 := 4#32
  let v476 : BitVec 32 := Scalar.xori v475 c4_i32_517
  let c512_i32_518 : BitVec 32 := 512#32
  let v477 : BitVec 32 := Scalar.muli v476 c512_i32_518
  let v478 : Index := Scalar.indexCast v477
  let c0_519 : Index := 0#32
  ![v478.toNat, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v506 : BitVec 32 := Scalar.muli v2 c256_i32
  let v507 : Index := Scalar.indexCast v506
  let c0_538 : Index := 0#32
  ![v507.toNat, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_539 : BitVec 32 := 7#32
  let v511 : BitVec 32 := Scalar.andi v2 c7_i32_539
  let c256_i32_543 : BitVec 32 := 256#32
  let v515 : BitVec 32 := Scalar.muli v511 c256_i32_543
  let c0_i32_548 : BitVec 32 := 0#32
  ![v515.toNat, 0]
def k0_dev22 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_541 : BitVec 32 := 1#32
  let v513 : BitVec 32 := Scalar.xori v2 c1_i32_541
  let c1_i32_546 : BitVec 32 := 1#32
  let v516 : BitVec 32 := Scalar.muli v513 c1_i32_546
  let v517 : BitVec 32 := Scalar.addi c0_i32_547 v516
  v517.toNat
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c256_i32_559 : BitVec 32 := 256#32
  let v535 : BitVec 32 := Scalar.muli v16 c256_i32_559
  let v536 : Index := Scalar.indexCast v535
  let c0_560 : Index := 0#32
  ![v536.toNat, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_539 : BitVec 32 := 7#32
  let v511 : BitVec 32 := Scalar.andi v2 c7_i32_539
  let c1_i32_540 : BitVec 32 := 1#32
  let v512 : BitVec 32 := Scalar.xori v511 c1_i32_540
  let c256_i32_551 : BitVec 32 := 256#32
  let v525 : BitVec 32 := Scalar.muli v512 c256_i32_551
  let c0_i32_565 : BitVec 32 := 0#32
  ![v525.toNat, 0]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_572 : BitVec 32 := 6#32
  let v550 : BitVec 32 := Scalar.andi v2 c6_i32_572
  let c256_i32_576 : BitVec 32 := 256#32
  let v554 : BitVec 32 := Scalar.muli v550 c256_i32_576
  let c0_i32_581 : BitVec 32 := 0#32
  ![v554.toNat, 0]
def k0_dev23 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_574 : BitVec 32 := 3#32
  let v552 : BitVec 32 := Scalar.xori v2 c3_i32_574
  let c1_i32_579 : BitVec 32 := 1#32
  let v555 : BitVec 32 := Scalar.muli v552 c1_i32_579
  let v556 : BitVec 32 := Scalar.addi c0_i32_580 v555
  v556.toNat
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c7_i32_585 : BitVec 32 := 7#32
  let v565 : BitVec 32 := Scalar.andi v16 c7_i32_585
  let c256_i32_589 : BitVec 32 := 256#32
  let v569 : BitVec 32 := Scalar.muli v565 c256_i32_589
  let c0_i32_594 : BitVec 32 := 0#32
  ![v569.toNat, 0]
def k0_dev24 (d0 : Dev nD) : Nat :=
  let c0_i32_593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_587 : BitVec 32 := 4#32
  let v567 : BitVec 32 := Scalar.xori v2 c4_i32_587
  let c1_i32_592 : BitVec 32 := 1#32
  let v570 : BitVec 32 := Scalar.muli v567 c1_i32_592
  let v571 : BitVec 32 := Scalar.addi c0_i32_593 v570
  v571.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_572 : BitVec 32 := 6#32
  let v550 : BitVec 32 := Scalar.andi v2 c6_i32_572
  let c2_i32_573 : BitVec 32 := 2#32
  let v551 : BitVec 32 := Scalar.xori v550 c2_i32_573
  let c256_i32_584 : BitVec 32 := 256#32
  let v564 : BitVec 32 := Scalar.muli v551 c256_i32_584
  let c0_i32_602 : BitVec 32 := 0#32
  ![v564.toNat, 0]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c7_i32_585 : BitVec 32 := 7#32
  let v565 : BitVec 32 := Scalar.andi v16 c7_i32_585
  let c1_i32_586 : BitVec 32 := 1#32
  let v566 : BitVec 32 := Scalar.xori v565 c1_i32_586
  let c256_i32_597 : BitVec 32 := 256#32
  let v579 : BitVec 32 := Scalar.muli v566 c256_i32_597
  let c0_i32_608 : BitVec 32 := 0#32
  ![v579.toNat, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_620 : BitVec 32 := 4#32
  let v600 : BitVec 32 := Scalar.andi v2 c4_i32_620
  let c256_i32_624 : BitVec 32 := 256#32
  let v604 : BitVec 32 := Scalar.muli v600 c256_i32_624
  let c0_i32_629 : BitVec 32 := 0#32
  ![v604.toNat, 0]
def k0_dev25 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_622 : BitVec 32 := 4#32
  let v602 : BitVec 32 := Scalar.xori v2 c4_i32_622
  let c1_i32_627 : BitVec 32 := 1#32
  let v605 : BitVec 32 := Scalar.muli v602 c1_i32_627
  let v606 : BitVec 32 := Scalar.addi c0_i32_628 v605
  v606.toNat
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c6_i32_633 : BitVec 32 := 6#32
  let v615 : BitVec 32 := Scalar.andi v16 c6_i32_633
  let c256_i32_637 : BitVec 32 := 256#32
  let v619 : BitVec 32 := Scalar.muli v615 c256_i32_637
  let c0_i32_642 : BitVec 32 := 0#32
  ![v619.toNat, 0]
def k0_dev26 (d0 : Dev nD) : Nat :=
  let c0_i32_641 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_635 : BitVec 32 := 1#32
  let v617 : BitVec 32 := Scalar.xori v2 c1_i32_635
  let c1_i32_640 : BitVec 32 := 1#32
  let v620 : BitVec 32 := Scalar.muli v617 c1_i32_640
  let v621 : BitVec 32 := Scalar.addi c0_i32_641 v620
  v621.toNat
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_620 : BitVec 32 := 4#32
  let v600 : BitVec 32 := Scalar.andi v2 c4_i32_620
  let c4_i32_621 : BitVec 32 := 4#32
  let v601 : BitVec 32 := Scalar.xori v600 c4_i32_621
  let c256_i32_632 : BitVec 32 := 256#32
  let v614 : BitVec 32 := Scalar.muli v601 c256_i32_632
  let c0_i32_650 : BitVec 32 := 0#32
  ![v614.toNat, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c6_i32_633 : BitVec 32 := 6#32
  let v615 : BitVec 32 := Scalar.andi v16 c6_i32_633
  let c2_i32_634 : BitVec 32 := 2#32
  let v616 : BitVec 32 := Scalar.xori v615 c2_i32_634
  let c256_i32_645 : BitVec 32 := 256#32
  let v629 : BitVec 32 := Scalar.muli v616 c256_i32_645
  let c0_i32_656 : BitVec 32 := 0#32
  ![v629.toNat, 0]
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c4_i32_668 : BitVec 32 := 4#32
  let v650 : BitVec 32 := Scalar.andi v16 c4_i32_668
  let c256_i32_672 : BitVec 32 := 256#32
  let v654 : BitVec 32 := Scalar.muli v650 c256_i32_672
  let c0_i32_677 : BitVec 32 := 0#32
  ![v654.toNat, 0]
def k0_dev27 (d0 : Dev nD) : Nat :=
  let c0_i32_676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_670 : BitVec 32 := 3#32
  let v652 : BitVec 32 := Scalar.xori v2 c3_i32_670
  let c1_i32_675 : BitVec 32 := 1#32
  let v655 : BitVec 32 := Scalar.muli v652 c1_i32_675
  let v656 : BitVec 32 := Scalar.addi c0_i32_676 v655
  v656.toNat
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrui v2 c2_i32
  let c1_i32_3 : BitVec 32 := 1#32
  let v7 : BitVec 32 := Scalar.andi v6 c1_i32_3
  let c2_i32_5 : BitVec 32 := 2#32
  let c1_i32_0 : BitVec 32 := 1#32
  let v3 : BitVec 32 := Scalar.andi v2 c1_i32_0
  let c1_i32_1 : BitVec 32 := 1#32
  let v4 : BitVec 32 := Scalar.shrui v2 c1_i32_1
  let c1_i32_2 : BitVec 32 := 1#32
  let v5 : BitVec 32 := Scalar.andi v4 c1_i32_2
  let v8 : BitVec 32 := Scalar.xori v3 v5
  let v13 : BitVec 32 := Scalar.muli c2_i32_5 v8
  let v14 : BitVec 32 := Scalar.addi v7 v13
  let c4_i32_6 : BitVec 32 := 4#32
  let v15 : BitVec 32 := Scalar.muli c4_i32_6 v5
  let v16 : BitVec 32 := Scalar.addi v14 v15
  let c4_i32_668 : BitVec 32 := 4#32
  let v650 : BitVec 32 := Scalar.andi v16 c4_i32_668
  let c4_i32_669 : BitVec 32 := 4#32
  let v651 : BitVec 32 := Scalar.xori v650 c4_i32_669
  let c256_i32_680 : BitVec 32 := 256#32
  let v664 : BitVec 32 := Scalar.muli v651 c256_i32_680
  let c0_i32_685 : BitVec 32 := 0#32
  ![v664.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x256 : Shape := ⟨2, ![4096, 256]⟩
abbrev S256x4096 : Shape := ⟨2, ![256, 4096]⟩
abbrev S4096x4096 : Shape := ⟨2, ![4096, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x4096, .bf16⟩
  | .hbm, ⟨2, _⟩ => ⟨S256x4096, .bf16⟩
  | .hbm, ⟨3, _⟩ => ⟨S256x4096, .bf16⟩
  | .hbm, ⟨4, _⟩ => ⟨S4096x256, .bf16⟩
  | .hbm, ⟨5, _⟩ => ⟨S4096x256, .bf16⟩
  | .hbm, ⟨6, _⟩ => ⟨S4096x256, .bf16⟩
  | .hbm, ⟨7, _⟩ => ⟨S4096x256, .f32⟩
  | .hbm, ⟨8, _⟩ => ⟨S256x4096, .f32⟩
  | .hbm, ⟨9, _⟩ => ⟨S4096x4096, .f32⟩
  | .hbm, ⟨10, _⟩ => ⟨S4096x4096, .bf16⟩
  | .hbm, ⟨11, _⟩ => ⟨S_, .bf16⟩
  | .hbm, ⟨12, _⟩ => ⟨S4096x4096, .bf16⟩
  | .hbm, ⟨13, _⟩ => ⟨S4096x4096, .bf16⟩
  | .hbm, ⟨14, _⟩ => ⟨S4096x4096, .f32⟩
  | .hbm, ⟨15, _⟩ => ⟨S4096x256, .f32⟩
  | .hbm, ⟨16, _⟩ => ⟨S4096x256, .f32⟩
  | .hbm, ⟨17, _⟩ => ⟨S4096x256, .bf16⟩
  | .hbm, ⟨18, _⟩ => ⟨S4096x256, .f32⟩
  | .hbm, ⟨19, _⟩ => ⟨S256x4096, .f32⟩
  | .hbm, ⟨20, _⟩ => ⟨S4096x4096, .f32⟩
  | .hbm, ⟨21, _⟩ => ⟨S4096x4096, .bf16⟩
  | .hbm, ⟨22, _⟩ => ⟨S_, .bf16⟩
  | .hbm, ⟨23, _⟩ => ⟨S4096x4096, .bf16⟩
  | .hbm, ⟨24, _⟩ => ⟨S4096x4096, .bf16⟩
  | .hbm, ⟨25, _⟩ => ⟨S4096x4096, .f32⟩
  | .hbm, ⟨26, _⟩ => ⟨S4096x256, .f32⟩
  | .hbm, ⟨27, _⟩ => ⟨S4096x256, .f32⟩
  | .hbm, ⟨28, _⟩ => ⟨S4096x256, .bf16⟩
  | .hbm, ⟨29, _⟩ => ⟨S4096x256, .f32⟩
  | .hbm, ⟨30, _⟩ => ⟨S256x4096, .f32⟩
  | .hbm, ⟨31, _⟩ => ⟨S4096x4096, .f32⟩
  | .hbm, ⟨32, _⟩ => ⟨S4096x4096, .bf16⟩
  | .hbm, ⟨33, _⟩ => ⟨S_, .bf16⟩
  | .hbm, ⟨34, _⟩ => ⟨S4096x4096, .bf16⟩
  | .hbm, ⟨35, _⟩ => ⟨S4096x4096, .bf16⟩
  | .hbm, ⟨36, _⟩ => ⟨S4096x4096, .f32⟩
  | .hbm, ⟨37, _⟩ => ⟨S4096x256, .f32⟩
  | .hbm, ⟨38, _⟩ => ⟨S4096x256, .f32⟩
  | .hbm, ⟨39, _⟩ => ⟨S4096x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Protocol.lean ====
/-
`Protocol`: the exchange the kernel runs, as data. Twenty-four numbered remote copies per device, the memory regions
they move, the semaphore cells they credit, what each credit carries, and what each device owes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices, slots and the numbered copies -/

/-- The three partners of a device: across the axes 1, 3 and 4 of the cube. -/
def par (i : Fin 3) (c : Dev nD) : Dev nD :=
  (![![1, 0, 3, 2, 5, 4, 7, 6], ![3, 2, 1, 0, 7, 6, 5, 4], ![4, 5, 6, 7, 0, 1, 2, 3]] : Fin 3 → Fin 8 → Fin 8) i c

theorem par_par (i : Fin 3) (c : Dev nD) : par i (par i c) = c := by revert i c; decide

/-- Partnership along one axis, as a permutation of the devices. -/
def parEquiv (i : Fin 3) : Dev nD ≃ Dev nD := ⟨par i, par i, par_par i, par_par i⟩

/-- A copy's number, in the order the kernel issues them. -/
abbrev J : Type := Fin 24

/-- The axis a copy goes along. -/
def axis (j : J) : Fin 3 :=
  (![0, 0, 1, 1, 2, 2, 1, 1, 2, 2, 0, 0, 2, 2, 0, 0, 1, 1, 0, 1, 2, 2, 0, 1] : Fin 24 → Fin 3) j

/-- The device a copy goes to (and the one its counterpart comes from). -/
def peer (j : J) (c : Dev nD) : Dev nD := par (axis j) c

theorem peer_peer (j : J) (c : Dev nD) : peer j (peer j c) = c := par_par _ c

/-- The gathered buffer a copy works on: the three transposed input weights, the three output weights, the two halves
    of the result. -/
def buf (j : J) : Fin 8 :=
  (![0, 3, 1, 4, 2, 5, 0, 3, 1, 4, 2, 5, 0, 3, 1, 4, 2, 5, 6, 6, 7, 6, 7, 7] : Fin 24 → Fin 8) j

/-- The doubling step of a copy: it moves `2 ^ st j` slots. -/
def st (j : J) : ℕ :=
  (![0, 0, 0, 0, 0, 0, 1, 1, 1, 1, 1, 1, 2, 2, 2, 2, 2, 2, 0, 1, 0, 2, 1, 2] : Fin 24 → ℕ) j

/-- The slot of a device's own block in each gathered buffer. -/
def sl (β : Fin 8) (c : Dev nD) : Fin 8 :=
  (![![0, 1, 2, 3, 4, 5, 6, 7], ![0, 4, 5, 1, 2, 6, 7, 3], ![0, 2, 6, 4, 1, 3, 7, 5], ![0, 1, 2, 3, 4, 5, 6, 7],
     ![0, 4, 5, 1, 2, 6, 7, 3], ![0, 2, 6, 4, 1, 3, 7, 5], ![0, 1, 2, 3, 4, 5, 6, 7], ![0, 2, 6, 4, 1, 3, 7, 5]]
    : Fin 8 → Fin 8 → Fin 8) β c

/-- The device whose block is in a slot. -/
def who (β : Fin 8) (t : Fin 8) : Dev nD :=
  (![![0, 1, 2, 3, 4, 5, 6, 7], ![0, 3, 4, 7, 1, 2, 5, 6], ![0, 4, 1, 5, 3, 7, 2, 6], ![0, 1, 2, 3, 4, 5, 6, 7],
     ![0, 3, 4, 7, 1, 2, 5, 6], ![0, 4, 1, 5, 3, 7, 2, 6], ![0, 1, 2, 3, 4, 5, 6, 7], ![0, 4, 1, 5, 3, 7, 2, 6]]
    : Fin 8 → Fin 8 → Fin 8) β t

theorem who_sl (β : Fin 8) (c : Dev nD) : who β (sl β c) = c := by revert β c; decide
theorem sl_who (β : Fin 8) (t : Fin 8) : sl β (who β t) = t := by revert β t; decide

/-- The slots device `c` holds of buffer `β` after `s` doubling steps. -/
def my (β : Fin 8) (s : ℕ) (c : Dev nD) : Finset (Fin 8) :=
  Finset.univ.filter fun t => t.val / 2 ^ s = (sl β c).val / 2 ^ s

/-- The slots device `c` receives of buffer `β` at step `s`. -/
def pb (β : Fin 8) (s : ℕ) (c : Dev nD) : Finset (Fin 8) :=
  Finset.univ.filter fun t => t.val / 2 ^ s = ((sl β c).val / 2 ^ s) ^^^ 1

theorem my_succ (β : Fin 8) (s : Fin 3) (c : Dev nD) : my β (s.val + 1) c = my β s.val c ∪ pb β s.val c := by
  revert β s c; decide +kernel
theorem my_pb_disj (β : Fin 8) (s : Fin 3) (c : Dev nD) : Disjoint (my β s.val c) (pb β s.val c) := by
  revert β s c; decide +kernel
theorem my_zero (β : Fin 8) (c : Dev nD) : my β 0 c = {sl β c} := by revert β c; decide +kernel
theorem my_three (β : Fin 8) (c : Dev nD) : my β 3 c = Finset.univ := by revert β c; decide +kernel
/-- What a copy's receiver gets is what its sender holds. -/
theorem pb_peer (j : J) (c : Dev nD) : pb (buf j) (st j) (peer j c) = my (buf j) (st j) c := by
  revert j c; decide +kernel

/-! ## The gathered buffers and their regions -/

/-- The gathered buffers: the six weight buffers and the two result halves. -/
abbrev bufR (β : Fin 8) : Ref sig .tc :=
  match β with
  | 0 => cc0_scratch0 | 1 => cc0_scratch1 | 2 => cc0_scratch2 | 3 => cc0_scratch3
  | 4 => cc0_scratch4 | 5 => cc0_scratch5 | 6 => cc0_scratch6 | 7 => cc0_scratch7

/-- Rows per slot. -/
def uu (β : Fin 8) : ℕ := (![512, 512, 512, 512, 512, 512, 256, 256] : Fin 8 → ℕ) β

/-- The row of an index (its first coordinate). -/
def rowN {s : Shape} (i : s.Idx) : ℕ := if h : 0 < s.rank then (i ⟨0, h⟩).val else 0

/-- The indices lying in a set of slots of `u` rows each. -/
def slotSet (s : Shape) (u : ℕ) (T : Finset (Fin 8)) : Finset s.Idx :=
  Finset.univ.filter fun i => ∃ t ∈ T, rowN i / u = t.val

abbrev rows (β : Fin 8) (T : Finset (Fin 8)) : Finset (bufR β).ty.shape.Idx := slotSet (bufR β).ty.shape (uu β) T

theorem mem_slotSet {s : Shape} {u : ℕ} {T : Finset (Fin 8)} {i : s.Idx} :
    i ∈ slotSet s u T ↔ ∃ t ∈ T, rowN i / u = t.val := by simp [slotSet]

theorem slotSet_union (s : Shape) (u : ℕ) (T T' : Finset (Fin 8)) : slotSet s u (T ∪ T') = slotSet s u T ∪ slotSet s u T' := by
  ext i; simp only [mem_slotSet, Finset.mem_union]
  constructor
  · rintro ⟨t, h | h, e⟩
    · exact Or.inl ⟨t, h, e⟩
    · exact Or.inr ⟨t, h, e⟩
  · rintro (⟨t, h, e⟩ | ⟨t, h, e⟩)
    · exact ⟨t, Or.inl h, e⟩
    · exact ⟨t, Or.inr h, e⟩

theorem slotSet_disj (s : Shape) (u : ℕ) {T T' : Finset (Fin 8)} (h : Disjoint T T') : Disjoint (slotSet s u T) (slotSet s u T') := by
  rw [Finset.disjoint_left]
  intro i h1 h2
  obtain ⟨t, ht, e⟩ := mem_slotSet.mp h1
  obtain ⟨t', ht', e'⟩ := mem_slotSet.mp h2
  have : t = t' := Fin.ext (e.symm.trans e')
  exact Finset.disjoint_left.mp h ht (this ▸ ht')

theorem slotSet_mono (s : Shape) (u : ℕ) {T T' : Finset (Fin 8)} (h : T ⊆ T') : slotSet s u T ⊆ slotSet s u T' := fun i hi => by
  obtain ⟨t, ht, e⟩ := mem_slotSet.mp hi
  exact mem_slotSet.mpr ⟨t, h ht, e⟩

/-- A rectangle of whole rows is the set of the slots it covers. -/
theorem rect_slots {n u : ℕ} (hu : 0 < u) {off size : Fin 2 → ℕ} (inb) (T : Finset (Fin 8)) (h0 : off 1 = 0) (h1 : size 1 = 256)
    (hn : n = 8 * u) (a b : ℕ) (ha : off 0 = a * u) (hb : size 0 = b * u) (hT : ∀ t : Fin 8, t ∈ T ↔ a ≤ t.val ∧ t.val < a + b) :
    (Rect.unit (s := (⟨2, ![n, 256]⟩ : Shape)) off size inb).set = slotSet ⟨2, ![n, 256]⟩ u T := by
  ext i
  rw [Rect.mem_set_unit, mem_slotSet]
  have hrow : rowN i = (i 0).val := by unfold rowN; rw [dif_pos (show 0 < 2 from Nat.zero_lt_two)]; rfl
  have hi0 : (i 0).val < n := (i 0).isLt
  have hi1 : (i 1).val < 256 := (i 1).isLt
  have hdiv : (i 0).val / u < 8 := by rw [Nat.div_lt_iff_lt_mul hu]; omega
  rw [hrow]
  constructor
  · intro h
    have := h 0
    rw [ha, hb, ← Nat.add_mul] at this
    refine ⟨⟨(i 0).val / u, hdiv⟩, (hT _).mpr ⟨?_, ?_⟩, rfl⟩
    · exact (Nat.le_div_iff_mul_le hu).mpr this.1
    · exact (Nat.div_lt_iff_lt_mul hu).mpr this.2
  · rintro ⟨t, ht, e⟩ x
    obtain ⟨h2, h3⟩ := (hT t).mp ht
    rw [← e] at h2 h3
    match x with
    | ⟨0, _⟩ =>
      show off 0 ≤ (i 0).val ∧ (i 0).val < off 0 + size 0
      rw [ha, hb, ← Nat.add_mul]
      exact ⟨(Nat.le_div_iff_mul_le hu).mp h2, (Nat.div_lt_iff_lt_mul hu).mp h3⟩
    | ⟨1, _⟩ =>
      show off 1 ≤ (i 1).val ∧ (i 1).val < off 1 + size 1
      rw [h0, h1]; omega

/-! ## The semaphore cells -/

/-- The runtime's barrier semaphore of collective id 0. -/
abbrev barS : Sem sig := (SemArray.scalar (sig.barrier 0 rfl) : Sems sig S_).sem

/-- The semaphore a copy credits: at its sender (`false`, when the source is read) or at its receiver (`true`, when it
    has landed). -/
def dsem (b : Bool) (j : J) : DmaSem sig :=
  if b then (![17, 35, 20, 38, 23, 41, 18, 36, 21, 39, 24, 42, 19, 37, 22, 40, 25, 43, 47, 48, 53, 49, 54, 55] : Fin 24 → Fin 56) j
  else (![8, 26, 11, 29, 14, 32, 9, 27, 12, 30, 15, 33, 10, 28, 13, 31, 16, 34, 44, 45, 50, 46, 51, 52] : Fin 24 → Fin 56) j

/-- Which copy's which semaphore a DMA semaphore is. -/
def dec (q : DmaSem sig) : Option (Bool × J) :=
  (![none, none, none, none, none, none, none, none,
    some (false, 0), some (false, 6), some (false, 12), some (false, 2), some (false, 8), some (false, 14), some (false, 4), some (false, 10), some (false, 16),
    some (true, 0), some (true, 6), some (true, 12), some (true, 2), some (true, 8), some (true, 14), some (true, 4), some (true, 10), some (true, 16),
    some (false, 1), some (false, 7), some (false, 13), some (false, 3), some (false, 9), some (false, 15), some (false, 5), some (false, 11), some (false, 17),
    some (true, 1), some (true, 7), some (true, 13), some (true, 3), some (true, 9), some (true, 15), some (true, 5), some (true, 11), some (true, 17),
    some (false, 18), some (false, 19), some (false, 21), some (true, 18), some (true, 19), some (true, 21),
    some (false, 20), some (false, 22), some (false, 23), some (true, 20), some (true, 22), some (true, 23)] : Fin 56 → Option (Bool × J)) q

theorem dec_dsem (b : Bool) (j : J) : dec (dsem b j) = some (b, j) := by revert b j; decide +kernel
theorem dsem_dec (q : DmaSem sig) (b : Bool) (j : J) (h : dec q = some (b, j)) : q = dsem b j := by
  revert q b j; decide +kernel

/-- The exchange's semaphores at a device: the barrier, and two for each copy. -/
abbrev CI : Type := Option (Bool × J)
abbrev csem (k : CI) : SemLoc sig := match k with | none => .reg barS | some (b, j) => .dma (dsem b j)
abbrev kcell (p : Dev nD × CI) : GSem nD τ sig := ((p.1 : Thread nD τ), csem p.2)
abbrev barCell (c : Dev nD) : GSem nD τ sig := kcell (c, none)
abbrev dcell (b : Bool) (j : J) (c : Dev nD) : GSem nD τ sig := kcell (c, some (b, j))

/-! ## Amounts -/

/-- The shape of a copy. -/
def shp (j : J) : Shape := ⟨2, ![2 ^ st j * uu (buf j), 256]⟩
/-- The units a copy credits. -/
def amt (j : J) : ℕ := (bufR (buf j)).dmaCredit (shp j) .bf16

theorem shp_pos (j : J) : 0 < (shp j).numel := by revert j; decide +kernel
theorem amt_pos (j : J) : 0 < amt j := sig.dmaCredit_pos _ _ _ _ _ (shp_pos j)

/-! ## What the credits carry -/

section Contents

/- Gathered contents `G`: for each buffer, the contents every device ends with. -/
variable (G : (β : Fin 8) → (bufR β).ty.Contents (Elt F))

/-- Device `c`'s slots `T` of buffer `β` at share `q`, holding the gathered contents. -/
def RB (β : Fin 8) (c : Dev nD) (T : Finset (Fin 8)) (q : PosShare TreeShare) : sProp 𝕄 :=
  ((c : Thread nD τ).loc (bufR β)) ↦[rows β T]{q} G β
/-- Device `c`'s slots `T` of buffer `β`, whatever they hold. -/
def RA (β : Fin 8) (c : Dev nD) (T : Finset (Fin 8)) : sProp 𝕄 :=
  iprop(∃ f : (bufR β).ty.Contents (Elt F), ((c : Thread nD τ).loc (bufR β)) ↦[rows β T]{fullShare} f)

instance RB_storable (β c T q) : BI.Storable (upEmb : UEmb _ 𝕄) (RB (F := F) G β c T q) := by unfold RB; infer_instance
instance RA_storable (β c T) : BI.Storable (upEmb : UEmb _ 𝕄) (RA (F := F) β c T) := by unfold RA; infer_instance

theorem RB_union (β : Fin 8) (c : Dev nD) {T T' : Finset (Fin 8)} (h : Disjoint T T') (q : PosShare TreeShare) :
    (RB G β c (T ∪ T') q : sProp 𝕄) ⊣⊢ iprop(RB G β c T q ∗ RB G β c T' q) := by
  unfold RB rows; rw [slotSet_union]; exact pointsTo_union (slotSet_disj _ _ h)
omit [FloatOps F] in
theorem RA_union (β : Fin 8) (c : Dev nD) {T T' : Finset (Fin 8)} (h : Disjoint T T') :
    (RA β c (T ∪ T') : sProp 𝕄) ⊢ iprop(RA β c T ∗ RA β c T') := by
  unfold RA rows; rw [slotSet_union]
  iintro ⟨%f, H⟩
  ihave H2 := (pointsTo_union (slotSet_disj _ _ h)).1 $$ H
  icases H2 with ⟨H1, H2⟩
  isplitl [H1]
  · iexists f; iexact H1
  · iexists f; iexact H2
theorem RB_halves (β : Fin 8) (c : Dev nD) (T : Finset (Fin 8)) :
    (RB G β c T fullShare : sProp 𝕄) ⊣⊢ iprop(RB G β c T fullShare.left ∗ RB G β c T fullShare.right) :=
  pointsTo_share (PosShare.mem_left_op_right fullShare)

/-- A partner's landing regions for one copy. -/
def land (j : J) (c : Dev nD) : sProp 𝕄 := RA (buf j) c (pb (buf j) (st j) c)

/-- What the signal along axis `i` brings device `c`: leave to write where its copies along that axis land. -/
def barPay (c : Dev nD) (i : Fin 3) : sProp 𝕄 := bigSep (Finset.univ.filter fun j => axis j = i) fun j => land (F := F) j (par i c)
/-- What a copy's completion brings: back the lent half of the source, or the landed slots. -/
def dmaPay (c : Dev nD) (b : Bool) (j : J) : sProp 𝕄 :=
  match b with
  | true => RB G (buf j) c (pb (buf j) (st j) c) fullShare
  | false => RB G (buf j) c (my (buf j) (st j) c) fullShare.left

omit [FloatOps F] in
instance land_storable (j c) : BI.Storable (upEmb : UEmb _ 𝕄) (land (F := F) j c) := by unfold land; infer_instance
omit [FloatOps F] in
instance barPay_storable (c i) : BI.Storable (upEmb : UEmb _ 𝕄) (barPay (F := F) c i) := by unfold barPay; infer_instance
instance dmaPay_storable (c b j) : BI.Storable (upEmb : UEmb _ 𝕄) (dmaPay (F := F) G c b j) := by
  unfold dmaPay; split <;> infer_instance

/-- The schedule: one round. A barrier cell has three duties of one unit, one per axis; a copy's cell one duty of its
    amount. -/
def Rd : Rounds.Schedule (GSem nD τ sig) (Fin 3) 𝕄 where
  duties g r := if r = 0 ∧ g.1.2 = .tc then
      (match g.2 with
        | .reg s => if s = barS then Finset.univ else ∅
        | .dma q => match dec q with | some _ => {0} | none => ∅)
    else ∅
  unitless _ := False
  amount g _ _ := match g.2 with
    | .reg _ => 1
    | .dma q => match dec q with | some (_, j) => amt j | none => 1
  payload g _ d := match g.2 with
    | .reg _ => barPay g.1.1 d
    | .dma q => match dec q with | some (b, j) => dmaPay G g.1.1 b j | none => iprop(emp)
  amount_pos g _ _ _ := by
    rcases g with ⟨g1, s | q⟩
    · exact Nat.one_pos
    · show 0 < (match dec q with | some (_, j) => amt j | none => 1)
      split
      · exact amt_pos _
      · exact Nat.one_pos

instance Rd_payload_storable (g : GSem nD τ sig) (r : ℕ) (d : Fin 3) :
    BI.Storable (upEmb : UEmb _ 𝕄) ((Rd (F := F) G).payload g r d) := by
  rcases g with ⟨g1, s | q⟩
  · exact barPay_storable _ _
  · show BI.Storable upEmb (match dec q with | some (b, j) => dmaPay G g1.1 b j | none => iprop(emp))
    split <;> infer_instance

theorem duties_bar (c : Dev nD) : (Rd (F := F) G).duties (barCell c) 0 = Finset.univ := by
  dsimp only [Rd]; rw [if_pos ⟨rfl, rfl⟩]; exact if_pos rfl
theorem duties_dma (b : Bool) (j : J) (c : Dev nD) : (Rd (F := F) G).duties (dcell b j c) 0 = {0} := by
  dsimp only [Rd]; rw [if_pos ⟨rfl, rfl⟩]; rw [dec_dsem]
theorem duties_later (g : GSem nD τ sig) : ∀ r, 1 ≤ r → (Rd (F := F) G).duties g r = ∅ :=
  fun r hr => by dsimp only [Rd]; rw [if_neg fun h => by omega]
theorem amount_bar (c : Dev nD) (d : Fin 3) : (Rd (F := F) G).amount (barCell c) 0 d = 1 := rfl
theorem amount_dma (b : Bool) (j : J) (c : Dev nD) (d : Fin 3) : (Rd (F := F) G).amount (dcell b j c) 0 d = amt j := by
  dsimp only [Rd]; rw [dec_dsem]
theorem payload_bar (c : Dev nD) (d : Fin 3) : (Rd (F := F) G).payload (barCell c) 0 d = barPay c d := rfl
theorem payload_dma (b : Bool) (j : J) (c : Dev nD) (d : Fin 3) : (Rd (F := F) G).payload (dcell b j c) 0 d = dmaPay G c b j := by
  dsimp only [Rd]; rw [dec_dsem]
theorem expect_bar (c : Dev nD) : (Rd (F := F) G).expect (barCell c) 0 = 3 := by
  unfold Schedule.expect Schedule.amountOf; rw [duties_bar]; rfl
theorem expect_dma (b : Bool) (j : J) (c : Dev nD) : (Rd (F := F) G).expect (dcell b j c) 0 = amt j := by
  unfold Schedule.expect Schedule.amountOf; rw [duties_dma, Finset.sum_singleton, amount_dma]
/-- The whole of a copy's round. -/
theorem rest_dma (b : Bool) (j : J) (c : Dev nD) :
    bigSep ((Rd (F := F) G).duties (dcell b j c) 0 \ ∅) (fun d => (Rd (F := F) G).payload (dcell b j c) 0 d) = dmaPay G c b j := by
  rw [Finset.sdiff_empty, duties_dma, bigSep_singleton, payload_dma]
/-- The whole of a barrier's round: leave to write for every one of the device's copies. -/
theorem rest_bar (c : Dev nD) :
    bigSep ((Rd (F := F) G).duties (barCell c) 0 \ ∅) (fun d => (Rd (F := F) G).payload (barCell c) 0 d)
      = bigSep Finset.univ fun j : J => land (F := F) j (peer j c) := by
  rw [Finset.sdiff_empty, duties_bar, bigSep_fiberwise Finset.univ axis fun j : J => land (F := F) j (peer j c),
    show (Finset.univ : Finset J).image axis = Finset.univ by decide]
  refine bigSep_congr fun i _ => ?_
  rw [payload_bar]; unfold barPay
  refine bigSep_congr fun j hj => ?_
  rw [← (Finset.mem_filter.mp hj).2]; rfl

end Contents

/-! ## What each device owes; the levels -/

/-- The `n`-th payment from the last: the copies in reverse order, then the three signals. -/
def payN (c : Dev nD) (n : ℕ) : CellTallies nD τ sig Unit :=
  if h : n < 24 then tallyAt (dcell true ⟨23 - n, by omega⟩ (peer ⟨23 - n, by omega⟩ c)) () (amt ⟨23 - n, by omega⟩)
  else if h : n < 27 then tallyAt (barCell (par ⟨26 - n, by omega⟩ c)) () 1 else 0

/-- What device `c` owes with `n` payments to make. -/
def Orec (c : Dev nD) : ℕ → CellTallies nD τ sig Unit
  | 0 => 0
  | n + 1 => Orec c n + payN c n

theorem Orec_succ (c : Dev nD) (n : ℕ) : Orec c (n + 1) = Orec c n + payN c n := rfl
theorem payN_copy (c : Dev nD) (j : J) (k : ℕ) (hk : j.val + k = 23) : payN c k = tallyAt (dcell true j (peer j c)) () (amt j) := by
  unfold payN
  have h : k < 24 := by omega
  have e : (⟨23 - k, by omega⟩ : J) = j := Fin.ext (by simp only; omega)
  rw [dif_pos h, e]
theorem payN_bar (c : Dev nD) (i : Fin 3) (k : ℕ) (hk : i.val + k = 26) : payN c k = tallyAt (barCell (par i c)) () 1 := by
  unfold payN
  have e : (⟨26 - k, by omega⟩ : Fin 3) = i := Fin.ext (by simp only; omega)
  rw [dif_neg (by omega), dif_pos (by omega), e]

def L (g : GSem nD τ sig) : Finset Unit := if g.1.2 = .tc then {()} else ∅
/-- Barrier cells at 1, the cell of landing copy `j` at `2 + j`, everything else at 0. -/
def lv (g : GSem nD τ sig) (_ : Unit) : ℕ := match g.2 with
  | .reg s => if s = barS then 1 else 0
  | .dma q => match dec q with | some (true, j) => 2 + j.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_rcv (c : Dev nD) (j : J) (u : Unit) : lv (dcell true j c) u = 2 + j.val := by dsimp only [lv]; rw [dec_dsem]
theorem lv_snd (c : Dev nD) (j : J) (u : Unit) : lv (dcell false j c) u = 0 := by dsimp only [lv]; rw [dec_dsem]

/-- A cell still owed is a barrier cell or the landing cell of a copy not yet issued. -/
theorem Orec_pos {c : Dev nD} {n : ℕ} {g : GSem nD τ sig} {u : Unit} (h : 0 < Orec c n g u) :
    (∃ i, 24 < n ∧ g = barCell (par i c)) ∨ (∃ j : J, 23 < j.val + n ∧ g = dcell true j (peer j c)) := by
  induction n with
  | zero => exact absurd h (Nat.lt_irrefl 0)
  | succ n ih =>
    by_cases hn : 0 < Orec c n g u
    · rcases ih hn with ⟨i, h1, h2⟩ | ⟨j, h1, h2⟩
      · exact Or.inl ⟨i, by omega, h2⟩
      · exact Or.inr ⟨j, by omega, h2⟩
    · have h' : 0 < payN c n g u := by
        unfold Orec at h; rw [Pi.add_apply, Finsupp.add_apply] at h; omega
      unfold payN at h'
      split at h'
      · rename_i hlt
        rw [tallyAt_apply] at h'
        by_cases e : g = dcell true ⟨23 - n, by omega⟩ (peer ⟨23 - n, by omega⟩ c) ∧ u = ()
        · exact Or.inr ⟨⟨23 - n, by omega⟩, by simp only; omega, e.1⟩
        · rw [if_neg e] at h'; exact absurd h' (Nat.lt_irrefl 0)
      · split at h'
        · rw [tallyAt_apply] at h'
          by_cases e : g = barCell (par ⟨26 - n, by omega⟩ c) ∧ u = ()
          · exact Or.inl ⟨_, by omega, e.1⟩
          · rw [if_neg e] at h'; exact absurd h' (Nat.lt_irrefl 0)
        · exact absurd h' (Nat.lt_irrefl 0)

/-- A device may wait on a cell below everything it still owes. -/
theorem mayWait (c : Dev nD) (sm : SemLoc sig) (n l : ℕ) (hl : lv ((c : Thread nD τ), sm) () ≤ l)
    (hb : 24 < n → l < 1) (hr : ∀ j : J, 23 < j.val + n → l < 2 + j.val) :
    (levAts L lv : sProp 𝕄) ⊢ MayWait (c : Thread nD τ) sm () (Orec c n) :=
  MayOwe.of_cut (L := L) (lev := lv) l (fun p hp => by rw [Finset.mem_singleton.mp hp, L_tc]; exact Finset.mem_singleton_self _)
    (fun g u hg => by
      rcases Orec_pos hg with ⟨i, h, rfl⟩ | ⟨j, h, rfl⟩ <;> exact Finset.mem_singleton_self _)
    (fun p hp => by rw [Finset.mem_singleton.mp hp]; exact hl)
    (fun g u hg => by
      rcases Orec_pos hg with ⟨i, h, rfl⟩ | ⟨j, h, rfl⟩
      · rw [lv_bar]; exact hb h
      · rw [lv_rcv]; exact hr j h)

end Cert.MlpProof

end
-- ==== Proof.Steps.lean ====
/-
`Steps`: the exchange's moves, one lemma each: the three signals, the entry wait, a copy issued, the wait for its source
and the wait for its landing; and the loads and stores of a slot.
-/
module

public import proofs.«01_k».proof.Proof.Protocol

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (G : (β : Fin 8) → (bufR β).ty.Contents (Elt F)) (K : Dev nD × CI → ℕ)

/-! ## The shared records and a device's tokens -/

/-- Every cell's invariant and start mark, and the levels: what everyone may use at any time. -/
def Recs : sProp 𝕄 :=
  iprop((bigSep Finset.univ fun p : Dev nD × CI => cellInv ER (Rd G) (K p) (kcell p))
    ∗ (bigSep Finset.univ fun p : Dev nD × CI => reached ER (kcell p) 0) ∗ levAts L lv)

instance Recs_persistent : BI.Persistent (Recs (F := F) G K) := by unfold Recs; infer_instance

theorem Recs_inv (p : Dev nD × CI) : (Recs G K : sProp 𝕄) ⊢ cellInv ER (Rd G) (K p) (kcell p) := by
  unfold Recs; iintro ⟨H, -, -⟩
  iapply (show (bigSep Finset.univ fun p : Dev nD × CI => (cellInv ER (Rd G) (K p) (kcell p) : sProp 𝕄)) ⊢ cellInv ER (Rd G) (K p) (kcell p) from bigSep_elim (Finset.mem_univ p)); iexact H
theorem Recs_reached (p : Dev nD × CI) : (Recs G K : sProp 𝕄) ⊢ reached ER (kcell p) 0 := by
  unfold Recs; iintro ⟨-, H, -⟩
  iapply (show (bigSep Finset.univ fun p : Dev nD × CI => (reached ER (kcell p) 0 : sProp 𝕄)) ⊢ reached ER (kcell p) 0 from bigSep_elim (Finset.mem_univ p)); iexact H
theorem Recs_lev : (Recs G K : sProp 𝕄) ⊢ levAts L lv := by
  unfold Recs; iintro ⟨-, -, H⟩; iexact H

/-- What device `c` still owes with `k` payments left, whatever it has waited for. -/
def ow (c : Dev nD) (k : ℕ) : sProp 𝕄 := iprop(∃ W, owes (c : Thread nD τ) (Orec c k) W)

/-- To issue copy `j`: the tokens of the two duties it pays, and the position at its source cell. -/
def todo (c : Dev nD) (j : J) : sProp 𝕄 :=
  iprop(dutyTok ER (dcell false j c) 0 0 ∗ dutyTok ER (dcell true j (peer j c)) 0 0 ∗ atPos ER (dcell false j c) 0 ∅ 0)
/-- To wait for a copy's cell: the credit and the position. -/
def fl (c : Dev nD) (b : Bool) (j : J) : sProp 𝕄 :=
  iprop(cred (tallyAt (dcell b j c) () (amt j)) ∗ atPos ER (dcell b j c) 0 ∅ 0)
/-- A copy's cell after its wait: at zero again. -/
def dn (c : Dev nD) (b : Bool) (j : J) : sProp 𝕄 := semVal (dcell b j c) 0

/-! ## Signals and the entry wait -/

/-- The signal along axis `i`: it hands over the regions where the partner's copies land. -/
theorem wp_sig (c n : Dev nD) (i : Fin 3) (hn : n = par i c) (k : ℕ) (hk : i.val + k = 26) {a : ℕ} (ha : a = 1)
    {α : Type} {Q : α → sProp 𝕄} {kk : PUnit → Prog (TpuEff nD τ sig (Elt F) Λ₀ .tc) α} :
    iprop(Recs G K ∗ dutyTok ER (barCell (par i c)) 0 i ∗ barPay (F := F) (par i c) i ∗ ow c (k + 1))
      ⊢ iprop((ow c k -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS a) kk) Q) := by
  subst hn; subst ha
  unfold ow
  iintro ⟨#HR, Ht, Hp, ⟨%W, HO⟩⟩ Hk
  iapply (Rounds.wp_signal 𝒱₀ ER (Rd G) (c : Thread nD τ) none (dst := (par i c : Thread nD τ)) (κ := K (par i c, none))
      (d := i) (by rw [duties_bar]; exact Finset.mem_univ _) (amount_bar G (par i c) i) () (Orec c k)
      ((Orec_succ c k).trans (by rw [payN_bar c i k hk]))) $$ [HO Ht Hp]
  · isplitr; · iapply (Recs_inv G K (par i c, none)); iexact HR
    isplitl [HO]; · iexact HO
    isplitl [Ht]; · iexact Ht
    isplitl [Hp]; · iapply (Entails.of_eq (payload_bar G (par i c) i).symm); iexact Hp
    iapply (Recs_reached G K (par i c, none)); iexact HR
  iintro HO
  iapply Hk; iexists W; iexact HO

/-- The entry wait: leave to write for every one of the device's copies. -/
theorem wp_entry (c : Dev nD) {a : ℕ} (ha : a = 3)
    {α : Type} {Q : α → sProp 𝕄} {kk : PUnit → Prog (TpuEff nD τ sig (Elt F) Λ₀ .tc) α} :
    iprop(Recs G K ∗ cred (tallyAt (barCell c) () 3) ∗ atPos ER (barCell c) 0 ∅ 0 ∗ ow c 24)
      ⊢ iprop(((semVal (barCell c) 0 ∗ (bigSep Finset.univ fun j : J => land (F := F) j (peer j c)) ∗ ow c 24)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS a) kk) Q) := by
  subst ha
  unfold ow
  iintro ⟨#HR, Hc, Hat, ⟨%W, HO⟩⟩ Hk
  iapply (Rounds.wp_wait_rest_token 𝒱₀ ER (Rd G) (c : Thread nD τ) none (κ := K (c, none))
      (wpE_semWait_eq 𝒱₀ (c : Thread nD τ) none Set.univ) (Set.mem_univ _) () (O := Orec c 24) (W := W) (R := 0) (m := 0) (T := ∅)
      (by rw [expect_bar])) $$ [Hc HO Hat]
  · isplitr; · iapply (Recs_inv G K (c, none)); iexact HR
    isplitl [Hc]; · iexact Hc
    isplitl [HO]; · iexact HO
    isplitr
    · iapply (mayWait (F := F) c (.reg barS) 24 1 (lv_bar c ()).le (fun h => by omega) (fun j _ => by omega)); iapply (Recs_lev G K); iexact HR
    iexact Hat
  iintro ⟨HO, Hat, -, Hpay⟩
  ihave Hp := (Entails.of_eq (rest_bar G c)) $$ Hpay
  imod (Rounds.cell_close ER (Rd G) (Set.mem_univ (K (c, none))) (fun h => h) (R := 0 + 1) (duties_later G (barCell c))) $$ [Hat] with Hz
  · isplitr; · iapply (Recs_inv G K (c, none)); iexact HR
    iexact Hat
  iapply Hk
  isplitl [Hz]; · iexact Hz
  isplitl [Hp]; · iexact Hp
  iexists _; iexact HO

/-! ## A copy -/

/-- `src` is copy `j`'s view at device `c`: the slots `c` holds at that step, at the copy's amount. -/
structure IsCopy (j : J) (c : Dev nD) {sp : Space} {s : Shape} {e : EltTy} (src : Memref sig .tc sp s e) : Prop where
  lend : ∃ f : Buf (Elt F) (src.view.loc (c : Thread nD τ)),
    (∀ q, (RB G (buf j) c (my (buf j) (st j) c) q : sProp 𝕄) = (src.view.loc (c : Thread nD τ) ↦[src.view.set]{q} f))
    ∧ ∀ fd : Buf (Elt F) (src.view.loc (peer j c : Thread nD τ)),
      (src.view.loc (peer j c : Thread nD τ) ↦[src.view.set]{fullShare} (src.view.write (Elt F) fd (src.view.read (Elt F) f) Finset.univ) : sProp 𝕄)
        = RB G (buf j) (peer j c) (my (buf j) (st j) c) fullShare
  land : (RA (buf j) (peer j c) (my (buf j) (st j) c) : sProp 𝕄)
    ⊢ iprop(∃ fd : Buf (Elt F) (src.view.loc (peer j c : Thread nD τ)), (src.view.loc (peer j c : Thread nD τ) ↦[src.view.set]{fullShare} fd))
  credit : src.view.dmaCredit = amt j

/-- A slice of the copy's buffer over those slots is its view. -/
theorem isCopy_of (j : J) (c : Dev nD) (r : Rect (bufR (buf j)).ty.shape) (hr : ∀ a, r.stride a = 1)
    (hset : r.set = rows (buf j) (my (buf j) (st j) c))
    (hc : ((Memref.whole (bufR (buf j))).slice r hr).view.dmaCredit = amt j) :
    IsCopy G j c ((Memref.whole (bufR (buf j))).slice r hr) where
  lend := by
    have hs : ((Memref.whole (bufR (buf j))).slice r hr).view.set = r.set := View.set_slice_whole _ _
    refine ⟨G (buf j), fun q => ?_, fun fd => ?_⟩
    · rw [hs, hset]; rfl
    · unfold RB; rw [← hset, ← hs]
      refine pointsTo_congr fun i hi => ?_
      obtain ⟨x, -, rfl⟩ := Finset.mem_map.mp hi
      rw [View.write_emb_of_mem _ _ (Finset.mem_univ x), View.read_apply]
      simp only [cast_cast, cast_eq]
  land := by
    have hs : ((Memref.whole (bufR (buf j))).slice r hr).view.set = r.set := View.set_slice_whole _ _
    rw [hs, hset]; unfold RA; exact BI.Entails.refl _
  credit := hc

/-- Issuing copy `j`: half of the source is lent to it, the other half stays. -/
theorem wp_copy (c n : Dev nD) (j : J) (hn : n = peer j c) (k : ℕ) (hk : j.val + k = 23) {s : Shape}
    {src : Memref sig .tc .vmem s .bf16} (hv : IsCopy G j c src) {sS sR : DmaSem sig} (hS : sS = dsem false j) (hR : sR = dsem true j)
    {hsc : (src : Memref sig (Dev.tc n : Thread nD τ).2.kind .vmem s .bf16).view.ref.isScScratch = false}
    {hsrc hdst : src.view.WordExact}
    {hsem : DmaTarget.Typed .vmem (.dma sR) (.remote (Dev.tc n : Thread nD τ) src (.dma sS) hsc)}
    {α : Type} {Q : α → sProp 𝕄} {kk : PUnit → Prog (TpuEff nD τ sig (Elt F) Λ₀ .tc) α} :
    iprop(Recs G K ∗ todo (F := F) c j ∗ land (F := F) j (peer j c) ∗ RB G (buf j) c (my (buf j) (st j) c) fullShare ∗ ow c (k + 1))
      ⊢ iprop(((fl (F := F) c false j ∗ RB G (buf j) c (my (buf j) (st j) c) fullShare.right ∗ ow c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) src (.dma sS) hsc) (.dma sR) hsrc hdst hsem) kk) Q) := by
  subst hn; subst hS; subst hR
  obtain ⟨f, hf, hw⟩ := hv.lend
  unfold ow todo fl land
  rw [pb_peer]
  iintro ⟨#HR, ⟨HtS, HtR, HaS⟩, HL, HB, ⟨%W, HO⟩⟩ Hk
  ihave HL' := hv.land $$ HL
  icases HL' with ⟨%fd, HL⟩
  ihave HB2 := (RB_halves G (buf j) c _).1 $$ HB
  icases HB2 with ⟨HBl, HBr⟩
  ihave HBl' := (Entails.of_eq (hf fullShare.left)) $$ HBl
  iapply (Rounds.wp_send_pointsTo 𝒱₀ ER (Rd G) (c : Thread nD τ) none (κ₁ := K (c, some (false, j))) (κ₂ := K (peer j c, some (true, j)))
      (r₁ := 0) (r₂ := 0) (d₁ := 0) (d₂ := 0) (fd := fd) (fs := f)
      (by rw [duties_dma G false j c]; exact Finset.mem_singleton_self _) (by rw [duties_dma G true j (peer j c)]; exact Finset.mem_singleton_self _)
      () () (amt j) ((View.amount_dma _ _).trans hv.credit) (amount_dma G false j c 0) (amount_dma G true j (peer j c) 0) (Orec c k)
      ((Orec_succ c k).trans (by rw [payN_copy c j k hk])) (W := W)
      (by rw [payload_dma G false j c]; exact Entails.of_eq (hf fullShare.left).symm)
      (by rw [payload_dma G true j (peer j c)]; unfold dmaPay; rw [pb_peer]; exact Entails.of_eq (hw fd))) $$ [HBl' HL HO HtS HtR]
  · isplitr; · iapply (Recs_inv G K (c, some (false, j))); iexact HR
    isplitr; · iapply (Recs_inv G K (peer j c, some (true, j))); iexact HR
    isplitl [HBl']; · iexact HBl'
    isplitl [HL]; · iexact HL
    isplitl [HO]; · iexact HO
    isplitl [HtS]; · iexact HtS
    isplitr; · iapply (Recs_reached G K (c, some (false, j))); iexact HR
    isplitl [HtR]; · iexact HtR
    iapply (Recs_reached G K (peer j c, some (true, j))); iexact HR
  iintro ⟨HcS, HO⟩
  iapply Hk
  isplitl [HcS HaS]
  · isplitl [HcS]; · iexact HcS
    iexact HaS
  isplitl [HBr]; · iexact HBr
  iexists W; iexact HO

/-- A wait on copy `j`'s source cell (`false`) or landing cell (`true`), with `k` payments left: the cell's carry, and the
    cell closed. -/
theorem wp_done (c : Dev nD) (b : Bool) (j : J) (k : ℕ) (hk24 : k ≤ 24) (hk : b = true → j.val + k ≤ 23) {s : Shape} {sp sp' : Space}
    {src : Memref sig .tc sp s .bf16} {dst : Memref sig .tc sp' s .bf16} {q : DmaSem sig} (hq : q = dsem b j) (hN : dst.view.dmaCredit = amt j)
    {hsrc : src.view.WordExact} {hdst : dst.view.WordExact}
    {α : Type} {Q : α → sProp 𝕄} {kk : PUnit → Prog (TpuEff nD τ sig (Elt F) Λ₀ .tc) α} :
    iprop(Recs G K ∗ fl (F := F) c b j ∗ ow c k)
      ⊢ iprop(((dn (F := F) c b j ∗ dmaPay G c b j ∗ ow c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  unfold ow fl dn
  iintro ⟨#HR, ⟨Hc, Hat⟩, ⟨%W, HO⟩⟩ Hk
  iapply (Rounds.wp_wait_rest_token 𝒱₀ ER (Rd G) (c : Thread nD τ) none (κ := K (c, some (b, j)))
      (wpE_waitDma2_eq 𝒱₀ (c : Thread nD τ) none Set.univ) (Set.mem_univ _) () (O := Orec c k) (W := W) (R := 0) (m := 0) (T := ∅)
      (by rw [Nat.zero_add, hN, expect_dma G b j c])) $$ [Hc HO Hat]
  · isplitr; · iapply (Recs_inv G K (c, some (b, j))); iexact HR
    isplitl [Hc]; · rw [hN]; iexact Hc
    isplitl [HO]; · iexact HO
    isplitr
    · cases b with
      | true => iapply (mayWait (F := F) c (.dma (dsem true j)) k (2 + j.val) (lv_rcv c j ()).le (fun h => by omega) (fun j' h => by have := hk rfl; omega))
                iapply (Recs_lev G K); iexact HR
      | false => iapply (mayWait (F := F) c (.dma (dsem false j)) k 0 (lv_snd c j ()).le (fun h => by omega) (fun j' h => by omega))
                 iapply (Recs_lev G K); iexact HR
    iexact Hat
  iintro ⟨HO, Hat, -, Hpay⟩
  ihave Hp := (Entails.of_eq (rest_dma G b j c)) $$ Hpay
  imod (Rounds.cell_close ER (Rd G) (Set.mem_univ (K (c, some (b, j)))) (fun h => h) (R := 0 + 1) (duties_later G (dcell b j c))) $$ [Hat] with Hz
  · isplitr; · iapply (Recs_inv G K (c, some (b, j))); iexact HR
    iexact Hat
  iapply Hk
  isplitl [Hz]; · iexact Hz
  isplitl [Hp]; · iexact Hp
  iexists _; iexact HO

/-! ## Regions across a step -/

/-- A step complete: the lent half back, the kept half and the landed slots make the next step's holding. -/
theorem RB_step (β : Fin 8) (s : Fin 3) (c : Dev nD) :
    iprop(RB G β c (my β s.val c) fullShare.left ∗ RB G β c (my β s.val c) fullShare.right ∗ RB G β c (pb β s.val c) fullShare)
      ⊢ (RB G β c (my β (s.val + 1) c) fullShare : sProp 𝕄) := by
  rw [my_succ]
  iintro ⟨H1, H2, H3⟩
  iapply (RB_union G β c (my_pb_disj β s c) fullShare).2
  isplitl [H1 H2]
  · iapply (RB_halves G β c _).2
    isplitl [H1] <;> iassumption
  iexact H3

theorem rows_univ (β : Fin 8) : rows β Finset.univ = Finset.univ := by
    ext i; rw [mem_slotSet]
    refine ⟨fun _ => Finset.mem_univ _, fun _ => ?_⟩
    have h8 : rowN i / uu β < 8 := by
      match β, i with
      | 0, i => exact (Nat.div_lt_iff_lt_mul (by decide)).mpr (i 0).isLt
      | 1, i => exact (Nat.div_lt_iff_lt_mul (by decide)).mpr (i 0).isLt
      | 2, i => exact (Nat.div_lt_iff_lt_mul (by decide)).mpr (i 0).isLt
      | 3, i => exact (Nat.div_lt_iff_lt_mul (by decide)).mpr (i 0).isLt
      | 4, i => exact (Nat.div_lt_iff_lt_mul (by decide)).mpr (i 0).isLt
      | 5, i => exact (Nat.div_lt_iff_lt_mul (by decide)).mpr (i 0).isLt
      | 6, i => exact (Nat.div_lt_iff_lt_mul (by decide)).mpr (i 0).isLt
      | 7, i => exact (Nat.div_lt_iff_lt_mul (by decide)).mpr (i 0).isLt
    exact ⟨⟨_, h8⟩, Finset.mem_univ _, rfl⟩

theorem RB_univ (β : Fin 8) (c : Dev nD) (q : PosShare TreeShare) :
    (RB G β c Finset.univ q : sProp 𝕄) = (((c : Thread nD τ).loc (bufR β)) ↦{q} G β) := by
  unfold RB; rw [rows_univ]
omit [FloatOps F] in
theorem RA_univ (β : Fin 8) (c : Dev nD) :
    (RA β c Finset.univ : sProp 𝕄) = iprop(∃ f : (bufR β).ty.Contents (Elt F), (((c : Thread nD τ).loc (bufR β)) ↦{fullShare} f)) := by
  unfold RA; rw [rows_univ]

omit [FloatOps F] in
/-- At entry a whole buffer splits into the device's own slot and the three regions its partners write. -/
theorem RA_split (β : Fin 8) (c : Dev nD) :
    (RA β c Finset.univ : sProp 𝕄) ⊢ iprop(RA β c (my β 0 c) ∗ RA β c (pb β 0 c) ∗ RA β c (pb β 1 c) ∗ RA β c (pb β 2 c)) := by
  have h2 : my β 3 c = my β 2 c ∪ pb β 2 c := my_succ β 2 c
  have h1 : my β 2 c = my β 1 c ∪ pb β 1 c := my_succ β 1 c
  have h0 : my β 1 c = my β 0 c ∪ pb β 0 c := my_succ β 0 c
  rw [← my_three β c, h2]
  refine (RA_union β c (my_pb_disj β 2 c)).trans ?_
  show iprop(RA β c (my β 2 c) ∗ RA β c (pb β 2 c)) ⊢ _
  rw [h1]
  refine (sep_mono_left (RA_union β c (my_pb_disj β 1 c))).trans ?_
  show iprop((RA β c (my β 1 c) ∗ RA β c (pb β 1 c)) ∗ RA β c (pb β 2 c)) ⊢ _
  rw [h0]
  refine (sep_mono_left (sep_mono_left (RA_union β c (my_pb_disj β 0 c)))).trans ?_
  show iprop(((RA β c (my β 0 c) ∗ RA β c (pb β 0 c)) ∗ RA β c (pb β 1 c)) ∗ RA β c (pb β 2 c)) ⊢ _
  iintro ⟨⟨⟨H1, H2⟩, H3⟩, H4⟩
  isplitl [H1]; · iexact H1
  isplitl [H2]; · iexact H2
  isplitl [H3] <;> iassumption

/-! ## Loads and stores of slots -/

/-- A load from a held region `P`. -/
theorem wp_load_at (c : Dev nD) {s : Shape} {e : EltTy} {M : Memref sig .tc .vmem s e} {r : LoadRect s} {hl : M.view.LoadsAt r}
    {S : Finset (Idx (M.view.loc (c : Thread nD τ)))} {q : PosShare TreeShare} {f : Buf (Elt F) (M.view.loc (c : Thread nD τ))}
    {P : sProp 𝕄} (hP : P = (M.view.loc (c : Thread nD τ) ↦[S]{q} f)) (hS : M.view.setOn r.set ⊆ S)
    {α : Type} {Q : α → sProp 𝕄} {kk : (r.shape.Idx → Elt F e) → Prog (TpuEff nD τ sig (Elt F) Λ₀ .tc) α} :
    P ⊢ iprop((P -∗ wp frame (wpE (defs₀ (F := F)) 𝒱₀ (c : Thread nD τ) none) Set.univ (kk (M.view.readAt (Elt F) r f)) Q)
          -∗ wp frame (wpE (defs₀ (F := F)) 𝒱₀ (c : Thread nD τ) none) Set.univ (.op (.load M r hl) kk) Q) := by
  subst hP
  exact wp_load 𝒱₀ (c : Thread nD τ) none Set.univ hS

/-- A load whose value does not matter, from a region of unknown contents. -/
theorem wp_load_any (c : Dev nD) {s : Shape} {e : EltTy} {M : Memref sig .tc .vmem s e} {r : LoadRect s} {hl : M.view.LoadsAt r}
    {S : Finset (Idx (M.view.loc (c : Thread nD τ)))}
    {P : sProp 𝕄} (hP : P = iprop(∃ f : Buf (Elt F) (M.view.loc (c : Thread nD τ)), (M.view.loc (c : Thread nD τ) ↦[S]{fullShare} f)))
    (hS : M.view.setOn r.set ⊆ S)
    {α : Type} {Q : α → sProp 𝕄} {kk : (r.shape.Idx → Elt F e) → Prog (TpuEff nD τ sig (Elt F) Λ₀ .tc) α} :
    P ⊢ iprop((∀ w, P -∗ wp frame (wpE (defs₀ (F := F)) 𝒱₀ (c : Thread nD τ) none) Set.univ (kk w) Q)
          -∗ wp frame (wpE (defs₀ (F := F)) 𝒱₀ (c : Thread nD τ) none) Set.univ (.op (.load M r hl) kk) Q) := by
  subst hP
  iintro ⟨%f, H⟩ Hk
  iapply (wp_load 𝒱₀ (c : Thread nD τ) none Set.univ hS) $$ H
  iintro H
  ispecialize Hk $$ %(M.view.readAt (Elt F) r f)
  iapply Hk; iexists f; iexact H

/-- A store over exactly the region `P`: from then on it holds the contents `g`, which the stored values are there. -/
theorem wp_store_at (c : Dev nD) {s : Shape} {e : EltTy} {M : Memref sig .tc .vmem s e} {r : Rect s}
    {S : Finset (Idx (M.view.loc (c : Thread nD τ)))} {g : Buf (Elt F) (M.view.loc (c : Thread nD τ))}
    {w : r.shape.Idx → Elt F e} {hs : (M.access r).Stores Finset.univ} {hm}
    {P P' : sProp 𝕄} (hP : P = iprop(∃ f : Buf (Elt F) (M.view.loc (c : Thread nD τ)), (M.view.loc (c : Thread nD τ) ↦[S]{fullShare} f)))
    (hP' : P' = (M.view.loc (c : Thread nD τ) ↦[S]{fullShare} g))
    (hS : (M.access r).set = S) (hw : ∀ x, (M.access r).read (Elt F) g x = w x)
    {α : Type} {Q : α → sProp 𝕄} {kk : PUnit → Prog (TpuEff nD τ sig (Elt F) Λ₀ .tc) α} :
    P ⊢ iprop((P' -∗ wp frame (wpE (defs₀ (F := F)) 𝒱₀ (c : Thread nD τ) none) Set.univ (kk ⟨⟩) Q)
          -∗ wp frame (wpE (defs₀ (F := F)) 𝒱₀ (c : Thread nD τ) none) Set.univ (.op (.store M r w Finset.univ hs hm) kk) Q) := by
  subst hP; subst hP'; subst hS
  iintro ⟨%f, H⟩ Hk
  iapply (wp_store 𝒱₀ (c : Thread nD τ) none Set.univ (m := M) (r := r) (Mk := Finset.univ) (View.setOn_subset_set _ _)) $$ H
  iintro H
  iapply Hk
  have hc : ((M.access r).loc (c : Thread nD τ) ↦[(M.access r).set]{fullShare} ((M.access r).write (Elt F) f w Finset.univ) : sProp 𝕄)
      = ((M.access r).loc (c : Thread nD τ) ↦[(M.access r).set]{fullShare} g) := pointsTo_congr fun i hi => by
    obtain ⟨x, -, rfl⟩ := Finset.mem_map.mp hi
    rw [View.write_emb_of_mem _ _ (Finset.mem_univ x), ← hw x, View.read_apply]
    simp only [cast_cast, cast_eq]
  iapply (Entails.of_eq hc); iexact H

end Cert.MlpProof

end
-- ==== Proof.Values.lean ====
/-
`Values`: what every buffer holds, as functions of the seven arrays each device is given: the gathered weights, each
device's two halves of its rows of the result, the gathered halves, and the result.
-/
module

public import proofs.«01_k».proof.Proof.Steps
public import Idealize.ShloMosaic.Lib.ValueIdxCore

@[expose] public section

noncomputable section

namespace Cert.MlpProof

open Cert.KernelIdeal Cert.KernelIdeal.Gen

open Idealize.ShloMosaic
open Idealize.ShloMosaic.TcCoe
open Idealize.ShloMosaic.ValueIdx

variable {F : FTy → Type} [FloatOps F]

/-! ## Gathered contents -/

/-- The blocks `P d` of the eight devices, each in its device's slot of `u` rows. -/
def gat (β : Fin 8) {V : Type} {n u : ℕ} (hu : 0 < u) (P : Dev nD → (⟨2, ![u, 256]⟩ : Shape).Idx → V) :
    (⟨2, ![n, 256]⟩ : Shape).Idx → V :=
  fun i => P (who β (Fin.ofNat 8 ((i 0).val / u))) (ix2 ⟨(i 0).val % u, Nat.mod_lt _ hu⟩ (i 1))

/-- A gathered array at a row of device `d`'s slot is `d`'s block at that row. -/
theorem gat_at (β : Fin 8) {V : Type} {n u : ℕ} (hu : 0 < u) (P : Dev nD → (⟨2, ![u, 256]⟩ : Shape).Idx → V) (d : Dev nD)
    (i : (⟨2, ![n, 256]⟩ : Shape).Idx) (x : (⟨2, ![u, 256]⟩ : Shape).Idx) (h0 : (i 0).val = (sl β d).val * u + (x 0).val)
    (h1 : (i 1).val = (x 1).val) : gat β hu P i = P d x := by
  have hx : (x 0).val < u := (x 0).isLt
  have hd : (i 0).val / u = (sl β d).val := by
    rw [h0, Nat.mul_comm, Nat.mul_add_div hu, Nat.div_eq_of_lt hx, Nat.add_zero]
  have hm : (i 0).val % u = (x 0).val := by
    rw [h0, Nat.mul_comm, Nat.mul_add_mod, Nat.mod_eq_of_lt hx]
  unfold gat
  have ho : (Fin.ofNat 8 (sl β d).val : Fin 8) = sl β d := Fin.ext (Nat.mod_eq_of_lt (sl β d).isLt)
  have hw : who β (Fin.ofNat 8 ((i 0).val / u)) = d := by rw [hd, ho, who_sl]
  rw [hw]; congr 1
  rw [eq_ix2 x]
  congr 1
  · exact Fin.ext hm
  · exact Fin.ext h1

/-! ## The arrays -/

/-- What the seven input windows of each device hold: its rows, and its column blocks and row blocks of the weights. -/
structure Inp (F : FTy → Type) : Type where
  f0 : Dev nD → cc0_stg0_0.ty.Contents (Elt F)
  f1 : Dev nD → cc0_stg1_0.ty.Contents (Elt F)
  f2 : Dev nD → cc0_stg2_0.ty.Contents (Elt F)
  f3 : Dev nD → cc0_stg3_0.ty.Contents (Elt F)
  f4 : Dev nD → cc0_stg4_0.ty.Contents (Elt F)
  f5 : Dev nD → cc0_stg5_0.ty.Contents (Elt F)
  f6 : Dev nD → cc0_stg6_0.ty.Contents (Elt F)

section
variable (I : Inp F)

/-- A device's whole window of 512 rows and 256 columns, as loaded. -/
@[reducible] def l0 (c : Dev nD) : Vec F S512x256 .bf16 := (Memref.whole cc0_stg0_0).view.readAt (Elt F) (Rect.unit (s := S512x256) ![0, 0] S512x256.size inb_S512x256_S512x256_0_0).toLoadRect (I.f0 c)
@[reducible] def l1 (c : Dev nD) : Vec F S256x512 .bf16 := (Memref.whole cc0_stg1_0).view.readAt (Elt F) (Rect.unit (s := S256x512) ![0, 0] S256x512.size inb_S256x512_S256x512_0_0).toLoadRect (I.f1 c)
@[reducible] def l2 (c : Dev nD) : Vec F S512x256 .bf16 := (Memref.whole cc0_stg2_0).view.readAt (Elt F) (Rect.unit (s := S512x256) ![0, 0] S512x256.size inb_S512x256_S512x256_0_0).toLoadRect (I.f2 c)
@[reducible] def l3 (c : Dev nD) : Vec F S256x512 .bf16 := (Memref.whole cc0_stg3_0).view.readAt (Elt F) (Rect.unit (s := S256x512) ![0, 0] S256x512.size inb_S256x512_S256x512_0_0).toLoadRect (I.f3 c)
@[reducible] def l4 (c : Dev nD) : Vec F S512x256 .bf16 := (Memref.whole cc0_stg4_0).view.readAt (Elt F) (Rect.unit (s := S512x256) ![0, 0] S512x256.size inb_S512x256_S512x256_0_0).toLoadRect (I.f4 c)
@[reducible] def l5 (c : Dev nD) : Vec F S256x512 .bf16 := (Memref.whole cc0_stg5_0).view.readAt (Elt F) (Rect.unit (s := S256x512) ![0, 0] S256x512.size inb_S256x512_S256x512_0_0).toLoadRect (I.f5 c)
@[reducible] def l6 (c : Dev nD) : Vec F S512x256 .bf16 := (Memref.whole cc0_stg6_0).view.readAt (Elt F) (Rect.unit (s := S512x256) ![0, 0] S512x256.size inb_S512x256_S512x256_0_0).toLoadRect (I.f6 c)

theorem l0_eq (c : Dev nD) : l0 I c = I.f0 c := Memref.readAt_unit_zero (Elt F) cc0_stg0_0 (by funext a; match a with | ⟨0, _⟩ => rfl | ⟨1, _⟩ => rfl) _ _
theorem l1_eq (c : Dev nD) : l1 I c = I.f1 c := Memref.readAt_unit_zero (Elt F) cc0_stg1_0 (by funext a; match a with | ⟨0, _⟩ => rfl | ⟨1, _⟩ => rfl) _ _
theorem l2_eq (c : Dev nD) : l2 I c = I.f2 c := Memref.readAt_unit_zero (Elt F) cc0_stg2_0 (by funext a; match a with | ⟨0, _⟩ => rfl | ⟨1, _⟩ => rfl) _ _
theorem l3_eq (c : Dev nD) : l3 I c = I.f3 c := Memref.readAt_unit_zero (Elt F) cc0_stg3_0 (by funext a; match a with | ⟨0, _⟩ => rfl | ⟨1, _⟩ => rfl) _ _
theorem l4_eq (c : Dev nD) : l4 I c = I.f4 c := Memref.readAt_unit_zero (Elt F) cc0_stg4_0 (by funext a; match a with | ⟨0, _⟩ => rfl | ⟨1, _⟩ => rfl) _ _
theorem l5_eq (c : Dev nD) : l5 I c = I.f5 c := Memref.readAt_unit_zero (Elt F) cc0_stg5_0 (by funext a; match a with | ⟨0, _⟩ => rfl | ⟨1, _⟩ => rfl) _ _
theorem l6_eq (c : Dev nD) : l6 I c = I.f6 c := Memref.readAt_unit_zero (Elt F) cc0_stg6_0 (by funext a; match a with | ⟨0, _⟩ => rfl | ⟨1, _⟩ => rfl) _ _

/-- The six gathered weights. -/
def g0 : cc0_scratch0.ty.Contents (Elt F) := gat 0 (n := 4096) (u := 512) (by decide) fun d => k0_pay2 (l1 I d)
def g1 : cc0_scratch1.ty.Contents (Elt F) := gat 1 (n := 4096) (u := 512) (by decide) fun d => k0_pay4 (l3 I d)
def g2 : cc0_scratch2.ty.Contents (Elt F) := gat 2 (n := 4096) (u := 512) (by decide) fun d => k0_pay6 (l5 I d)
def g3 : cc0_scratch3.ty.Contents (Elt F) := gat 3 (n := 4096) (u := 512) (by decide) fun d => k0_pay3 (l2 I d)
def g4 : cc0_scratch4.ty.Contents (Elt F) := gat 4 (n := 4096) (u := 512) (by decide) fun d => k0_pay5 (l4 I d)
def g5 : cc0_scratch5.ty.Contents (Elt F) := gat 5 (n := 4096) (u := 512) (by decide) fun d => k0_pay7 (l6 I d)

/-- A device's rows. -/
@[reducible] def v28 (c : Dev nD) : FVec F S512x256 .bf16 := k0_pay1 (l0 I c)
/-- Layer 0 over the device's own slot. -/
@[reducible] def v143 (c : Dev nD) : FVec F S512x256 .f32 := k0_pay8 (v28 I c)
  ((Memref.whole cc0_scratch0).view.readAt (Elt F) (Rect.unit (s := S4096x256) (k0_off1 c) S512x256.size (k0_off1_inb c)).toLoadRect (g0 I))
  ((Memref.whole cc0_scratch3).view.readAt (Elt F) (Rect.unit (s := S4096x256) (k0_off1 c) S512x256.size (k0_off1_inb c)).toLoadRect (g3 I))
/-- and the slot that came first, -/
@[reducible] def v278 (c : Dev nD) : FVec F S512x256 .f32 := k0_pay9 (v28 I c) (v143 I c)
  ((Memref.whole cc0_scratch0).view.readAt (Elt F) (Rect.unit (s := S4096x256) (k0_off13 c) S512x256.size (k0_off13_inb c)).toLoadRect (g0 I))
  ((Memref.whole cc0_scratch3).view.readAt (Elt F) (Rect.unit (s := S4096x256) (k0_off13 c) S512x256.size (k0_off13_inb c)).toLoadRect (g3 I))
@[reducible] def v410 (c : Dev nD) : FVec F S512x1024 .bf16 := k0_pay10 (v28 I c)
  ((Memref.whole cc0_scratch0).view.readAt (Elt F) (Rect.unit (s := S4096x256) (k0_off20 c) S1024x256.size (k0_off20_inb c)).toLoadRect (g0 I))
/-- and the two slots that came second, -/
@[reducible] def v414 (c : Dev nD) : FVec F S512x256 .f32 := k0_pay11 (v278 I c) (v410 I c)
  ((Memref.whole cc0_scratch3).view.readAt (Elt F) (Rect.unit (s := S4096x256) (k0_off20 c) S1024x256.size (k0_off20_inb c)).toLoadRect (g3 I))
/-- The hidden layer of layer 0 over the four slots that came last, before the rectifier. -/
@[reducible] def v480 (c : Dev nD) : FVec F S512x2048 .f32 := k0_pay12 (v28 I c)
  ((Memref.whole cc0_scratch0).view.readAt (Elt F) (Rect.unit (s := S4096x256) (k0_off24 c) S2048x256.size (k0_off24_inb c)).toLoadRect (g0 I))
@[reducible] def cst0 : F .f32 := Scalar.ofBits .f32 0x00000000#32
@[reducible] def v485 (c : Dev nD) : Vec F S2048x256 .bf16 :=
  (Memref.whole cc0_scratch3).view.readAt (Elt F) (Rect.unit (s := S4096x256) (k0_off24 c) S2048x256.size (k0_off24_inb c)).toLoadRect (g3 I)
@[reducible] def w1 : Vec F S4096x256 .bf16 := (Memref.whole cc0_scratch1).view.readAt (Elt F) (Rect.unit (s := S4096x256) ![0, 0] S4096x256.size inb_S4096x256_S4096x256_0_0).toLoadRect (g1 I)
@[reducible] def w4 : Vec F S4096x256 .bf16 := (Memref.whole cc0_scratch4).view.readAt (Elt F) (Rect.unit (s := S4096x256) ![0, 0] S4096x256.size inb_S4096x256_S4096x256_0_0).toLoadRect (g4 I)
@[reducible] def w2 : Vec F S4096x256 .bf16 := (Memref.whole cc0_scratch2).view.readAt (Elt F) (Rect.unit (s := S4096x256) ![0, 0] S4096x256.size inb_S4096x256_S4096x256_0_0).toLoadRect (g2 I)
@[reducible] def w5 : Vec F S4096x256 .bf16 := (Memref.whole cc0_scratch5).view.readAt (Elt F) (Rect.unit (s := S4096x256) ![0, 0] S4096x256.size inb_S4096x256_S4096x256_0_0).toLoadRect (g5 I)
theorem w1_eq : w1 I = g1 I := Memref.readAt_unit_zero (Elt F) cc0_scratch1 (by funext a; match a with | ⟨0, _⟩ => rfl | ⟨1, _⟩ => rfl) _ _
theorem w2_eq : w2 I = g2 I := Memref.readAt_unit_zero (Elt F) cc0_scratch2 (by funext a; match a with | ⟨0, _⟩ => rfl | ⟨1, _⟩ => rfl) _ _
theorem w4_eq : w4 I = g4 I := Memref.readAt_unit_zero (Elt F) cc0_scratch4 (by funext a; match a with | ⟨0, _⟩ => rfl | ⟨1, _⟩ => rfl) _ _
theorem w5_eq : w5 I = g5 I := Memref.readAt_unit_zero (Elt F) cc0_scratch5 (by funext a; match a with | ⟨0, _⟩ => rfl | ⟨1, _⟩ => rfl) _ _

/-- A device's rows after layer 1. -/
@[reducible] def v496 (c : Dev nD) : FVec F S512x256 .bf16 := k0_pay13 (v414 I c) (v480 I c) cst0 (v485 I c) (w1 I) (w4 I)
/-- The first half of a device's rows of the result, and the second half. -/
def va (c : Dev nD) : FVec F S256x256 .bf16 := k0_pay14 (v414 I c) (v480 I c) cst0 (v485 I c) (w1 I) (w4 I) (w2 I) (w5 I)
def vb (c : Dev nD) : FVec F S256x256 .bf16 := k0_pay15 (v496 I c) (w2 I) (w5 I)
/-- The two gathered halves. -/
def g6 : cc0_scratch6.ty.Contents (Elt F) := gat 6 (n := 2048) (u := 256) (by decide) fun d => va I d
def g7 : cc0_scratch7.ty.Contents (Elt F) := gat 7 (n := 2048) (u := 256) (by decide) fun d => vb I d

/-- What the eight gathered buffers hold at the end, on every device. -/
def GG (β : Fin 8) : (bufR β).ty.Contents (Elt F) :=
  match β with
  | 0 => g0 I | 1 => g1 I | 2 => g2 I | 3 => g3 I | 4 => g4 I | 5 => g5 I | 6 => g6 I | 7 => g7 I

/-- The result: rows `512 d …` are device `d`'s two halves. -/
def outC : cc0_stg7_0.ty.Contents (Elt F) :=
  show (⟨2, ![4096, 256]⟩ : Shape).Idx → F .bf16 from fun i =>
    if (i 0).val / 256 % 2 = 0 then va I (Fin.ofNat 8 ((i 0).val / 512)) (ix2 ⟨(i 0).val % 256, Nat.mod_lt _ (by decide)⟩ (i 1))
    else vb I (Fin.ofNat 8 ((i 0).val / 512)) (ix2 ⟨(i 0).val % 256, Nat.mod_lt _ (by decide)⟩ (i 1))

end

end Cert.MlpProof

end
-- ==== Proof.Facts.lean ====
/-
`Facts`: the kernel's printed offsets and devices, as slots and partners; each copy's view, each load's and store's region.
-/
module

public import proofs.«01_k».proof.Proof.Values
public import Idealize.ShloMosaic.Lib.Pipeline.ValueKit.Geometry

@[expose] public section

noncomputable section

namespace Cert.MlpProof

open Cert.KernelIdeal Cert.KernelIdeal.Gen

open Idealize.ShloMosaic
open Idealize.ShloMosaic.TcCoe
open Idealize.ShloMosaic.ValueIdx

variable {F : FTy → Type} [FloatOps F]

/-! ## Held and received slots as intervals -/

/-- The slots held after `s` steps are the aligned run of `2 ^ s` around the device's own. -/
theorem my_iff (β : Fin 8) (s : Fin 3) (c : Dev nD) (t : Fin 8) :
    t ∈ my β s.val c ↔ (sl β c).val / 2 ^ s.val * 2 ^ s.val ≤ t.val ∧ t.val < (sl β c).val / 2 ^ s.val * 2 ^ s.val + 2 ^ s.val := by
  revert β s c t; decide +kernel
/-- The slots received at step `s` are the neighbouring run. -/
theorem pb_iff (β : Fin 8) (s : Fin 3) (c : Dev nD) (t : Fin 8) :
    t ∈ pb β s.val c ↔ ((sl β c).val / 2 ^ s.val ^^^ 1) * 2 ^ s.val ≤ t.val ∧ t.val < ((sl β c).val / 2 ^ s.val ^^^ 1) * 2 ^ s.val + 2 ^ s.val := by
  revert β s c t; decide +kernel

theorem my_set {n u : ℕ} (hu : 0 < u) (hn : n = 8 * u) (β : Fin 8) (s : Fin 3) (c : Dev nD) {off size : Fin 2 → ℕ} (inb)
    (h : off 0 = (sl β c).val / 2 ^ s.val * 2 ^ s.val * u ∧ off 1 = 0) (h0 : size 0 = 2 ^ s.val * u) (h1 : size 1 = 256) :
    (Rect.unit (s := (⟨2, ![n, 256]⟩ : Shape)) off size inb).set = slotSet ⟨2, ![n, 256]⟩ u (my β s.val c) :=
  rect_slots hu inb _ h.2 h1 hn _ _ h.1 h0 (my_iff β s c)
theorem pb_set {n u : ℕ} (hu : 0 < u) (hn : n = 8 * u) (β : Fin 8) (s : Fin 3) (c : Dev nD) {off size : Fin 2 → ℕ} (inb)
    (h : off 0 = ((sl β c).val / 2 ^ s.val ^^^ 1) * 2 ^ s.val * u ∧ off 1 = 0) (h0 : size 0 = 2 ^ s.val * u) (h1 : size 1 = 256) :
    (Rect.unit (s := (⟨2, ![n, 256]⟩ : Shape)) off size inb).set = slotSet ⟨2, ![n, 256]⟩ u (pb β s.val c) :=
  rect_slots hu inb _ h.2 h1 hn _ _ h.1 h0 (pb_iff β s c)

/-- A load's elements of a whole buffer are its rectangle's. -/
theorem setOn_whole_rect (b : Ref sig .tc) (r : Rect b.ty.shape) : (Memref.whole b).view.setOn r.toLoadRect.set = r.set := by
  show (Memref.whole b).view.setOn r.set = r.set
  exact (View.set_slice _ _).symm.trans (View.set_slice_whole b r)

/-! ## The three partners' devices -/

theorem par_0 (c : Dev nD) : (⟨k0_dev1 c, k0_dev1_lt c⟩ : Dev nD) = par 0 c := by revert c; decide +kernel
theorem par_1 (c : Dev nD) : (⟨k0_dev2 c, k0_dev2_lt c⟩ : Dev nD) = par 1 c := by revert c; decide +kernel
theorem par_2 (c : Dev nD) : (⟨k0_dev3 c, k0_dev3_lt c⟩ : Dev nD) = par 2 c := by revert c; decide +kernel

/-! ## The copies' devices and views -/

theorem dev_0 (c : Dev nD) : (⟨k0_dev4 c, k0_dev4_lt c⟩ : Dev nD) = peer 0 c := by revert c; decide +kernel
theorem dev_1 (c : Dev nD) : (⟨k0_dev5 c, k0_dev5_lt c⟩ : Dev nD) = peer 1 c := by revert c; decide +kernel
theorem dev_2 (c : Dev nD) : (⟨k0_dev6 c, k0_dev6_lt c⟩ : Dev nD) = peer 2 c := by revert c; decide +kernel
theorem dev_3 (c : Dev nD) : (⟨k0_dev7 c, k0_dev7_lt c⟩ : Dev nD) = peer 3 c := by revert c; decide +kernel
theorem dev_4 (c : Dev nD) : (⟨k0_dev8 c, k0_dev8_lt c⟩ : Dev nD) = peer 4 c := by revert c; decide +kernel
theorem dev_5 (c : Dev nD) : (⟨k0_dev9 c, k0_dev9_lt c⟩ : Dev nD) = peer 5 c := by revert c; decide +kernel
theorem dev_6 (c : Dev nD) : (⟨k0_dev10 c, k0_dev10_lt c⟩ : Dev nD) = peer 6 c := by revert c; decide +kernel
theorem dev_7 (c : Dev nD) : (⟨k0_dev11 c, k0_dev11_lt c⟩ : Dev nD) = peer 7 c := by revert c; decide +kernel
theorem dev_8 (c : Dev nD) : (⟨k0_dev12 c, k0_dev12_lt c⟩ : Dev nD) = peer 8 c := by revert c; decide +kernel
theorem dev_9 (c : Dev nD) : (⟨k0_dev13 c, k0_dev13_lt c⟩ : Dev nD) = peer 9 c := by revert c; decide +kernel
theorem dev_10 (c : Dev nD) : (⟨k0_dev14 c, k0_dev14_lt c⟩ : Dev nD) = peer 10 c := by revert c; decide +kernel
theorem dev_11 (c : Dev nD) : (⟨k0_dev15 c, k0_dev15_lt c⟩ : Dev nD) = peer 11 c := by revert c; decide +kernel
theorem dev_12 (c : Dev nD) : (⟨k0_dev16 c, k0_dev16_lt c⟩ : Dev nD) = peer 12 c := by revert c; decide +kernel
theorem dev_13 (c : Dev nD) : (⟨k0_dev17 c, k0_dev17_lt c⟩ : Dev nD) = peer 13 c := by revert c; decide +kernel
theorem dev_14 (c : Dev nD) : (⟨k0_dev18 c, k0_dev18_lt c⟩ : Dev nD) = peer 14 c := by revert c; decide +kernel
theorem dev_15 (c : Dev nD) : (⟨k0_dev19 c, k0_dev19_lt c⟩ : Dev nD) = peer 15 c := by revert c; decide +kernel
theorem dev_16 (c : Dev nD) : (⟨k0_dev20 c, k0_dev20_lt c⟩ : Dev nD) = peer 16 c := by revert c; decide +kernel
theorem dev_17 (c : Dev nD) : (⟨k0_dev21 c, k0_dev21_lt c⟩ : Dev nD) = peer 17 c := by revert c; decide +kernel
theorem dev_18 (c : Dev nD) : (⟨k0_dev22 c, k0_dev22_lt c⟩ : Dev nD) = peer 18 c := by revert c; decide +kernel
theorem dev_19 (c : Dev nD) : (⟨k0_dev23 c, k0_dev23_lt c⟩ : Dev nD) = peer 19 c := by revert c; decide +kernel
theorem dev_20 (c : Dev nD) : (⟨k0_dev24 c, k0_dev24_lt c⟩ : Dev nD) = peer 20 c := by revert c; decide +kernel
theorem dev_21 (c : Dev nD) : (⟨k0_dev25 c, k0_dev25_lt c⟩ : Dev nD) = peer 21 c := by revert c; decide +kernel
theorem dev_22 (c : Dev nD) : (⟨k0_dev26 c, k0_dev26_lt c⟩ : Dev nD) = peer 22 c := by revert c; decide +kernel
theorem dev_23 (c : Dev nD) : (⟨k0_dev27 c, k0_dev27_lt c⟩ : Dev nD) = peer 23 c := by revert c; decide +kernel

variable (G : (β : Fin 8) → (bufR β).ty.Contents (Elt F))

theorem so_0 (c : Dev nD) : k0_off4 c 0 = (sl 0 c).val / 2 ^ 0 * 2 ^ 0 * 512 ∧ k0_off4 c 1 = 0 := by revert c; decide +kernel
theorem isCopy_0 (c : Dev nD) : IsCopy G 0 c ((Memref.whole cc0_scratch0).slice (Rect.unit (s := S4096x256) (k0_off4 c) S512x256.size (k0_off4_inb c)) (fun _ => rfl)) :=
  isCopy_of G 0 c _ _ (my_set (n := 4096) (u := 512) (by decide) rfl 0 0 c (k0_off4_inb c) (so_0 c) rfl rfl) rfl
theorem so_1 (c : Dev nD) : k0_off4 c 0 = (sl 3 c).val / 2 ^ 0 * 2 ^ 0 * 512 ∧ k0_off4 c 1 = 0 := by revert c; decide +kernel
theorem isCopy_1 (c : Dev nD) : IsCopy G 1 c ((Memref.whole cc0_scratch3).slice (Rect.unit (s := S4096x256) (k0_off4 c) S512x256.size (k0_off4_inb c)) (fun _ => rfl)) :=
  isCopy_of G 1 c _ _ (my_set (n := 4096) (u := 512) (by decide) rfl 3 0 c (k0_off4_inb c) (so_1 c) rfl rfl) rfl
theorem so_2 (c : Dev nD) : k0_off5 c 0 = (sl 1 c).val / 2 ^ 0 * 2 ^ 0 * 512 ∧ k0_off5 c 1 = 0 := by revert c; decide +kernel
theorem isCopy_2 (c : Dev nD) : IsCopy G 2 c ((Memref.whole cc0_scratch1).slice (Rect.unit (s := S4096x256) (k0_off5 c) S512x256.size (k0_off5_inb c)) (fun _ => rfl)) :=
  isCopy_of G 2 c _ _ (my_set (n := 4096) (u := 512) (by decide) rfl 1 0 c (k0_off5_inb c) (so_2 c) rfl rfl) rfl
theorem so_3 (c : Dev nD) : k0_off5 c 0 = (sl 4 c).val / 2 ^ 0 * 2 ^ 0 * 512 ∧ k0_off5 c 1 = 0 := by revert c; decide +kernel
theorem isCopy_3 (c : Dev nD) : IsCopy G 3 c ((Memref.whole cc0_scratch4).slice (Rect.unit (s := S4096x256) (k0_off5 c) S512x256.size (k0_off5_inb c)) (fun _ => rfl)) :=
  isCopy_of G 3 c _ _ (my_set (n := 4096) (u := 512) (by decide) rfl 4 0 c (k0_off5_inb c) (so_3 c) rfl rfl) rfl
theorem so_4 (c : Dev nD) : k0_off6 c 0 = (sl 2 c).val / 2 ^ 0 * 2 ^ 0 * 512 ∧ k0_off6 c 1 = 0 := by revert c; decide +kernel
theorem isCopy_4 (c : Dev nD) : IsCopy G 4 c ((Memref.whole cc0_scratch2).slice (Rect.unit (s := S4096x256) (k0_off6 c) S512x256.size (k0_off6_inb c)) (fun _ => rfl)) :=
  isCopy_of G 4 c _ _ (my_set (n := 4096) (u := 512) (by decide) rfl 2 0 c (k0_off6_inb c) (so_4 c) rfl rfl) rfl
theorem so_5 (c : Dev nD) : k0_off6 c 0 = (sl 5 c).val / 2 ^ 0 * 2 ^ 0 * 512 ∧ k0_off6 c 1 = 0 := by revert c; decide +kernel
theorem isCopy_5 (c : Dev nD) : IsCopy G 5 c ((Memref.whole cc0_scratch5).slice (Rect.unit (s := S4096x256) (k0_off6 c) S512x256.size (k0_off6_inb c)) (fun _ => rfl)) :=
  isCopy_of G 5 c _ _ (my_set (n := 4096) (u := 512) (by decide) rfl 5 0 c (k0_off6_inb c) (so_5 c) rfl rfl) rfl
theorem so_6 (c : Dev nD) : k0_off10 c 0 = (sl 0 c).val / 2 ^ 1 * 2 ^ 1 * 512 ∧ k0_off10 c 1 = 0 := by revert c; decide +kernel
theorem isCopy_6 (c : Dev nD) : IsCopy G 6 c ((Memref.whole cc0_scratch0).slice (Rect.unit (s := S4096x256) (k0_off10 c) S1024x256.size (k0_off10_inb c)) (fun _ => rfl)) :=
  isCopy_of G 6 c _ _ (my_set (n := 4096) (u := 512) (by decide) rfl 0 1 c (k0_off10_inb c) (so_6 c) rfl rfl) rfl
theorem so_7 (c : Dev nD) : k0_off10 c 0 = (sl 3 c).val / 2 ^ 1 * 2 ^ 1 * 512 ∧ k0_off10 c 1 = 0 := by revert c; decide +kernel
theorem isCopy_7 (c : Dev nD) : IsCopy G 7 c ((Memref.whole cc0_scratch3).slice (Rect.unit (s := S4096x256) (k0_off10 c) S1024x256.size (k0_off10_inb c)) (fun _ => rfl)) :=
  isCopy_of G 7 c _ _ (my_set (n := 4096) (u := 512) (by decide) rfl 3 1 c (k0_off10_inb c) (so_7 c) rfl rfl) rfl
theorem so_8 (c : Dev nD) : k0_off11 c 0 = (sl 1 c).val / 2 ^ 1 * 2 ^ 1 * 512 ∧ k0_off11 c 1 = 0 := by revert c; decide +kernel
theorem isCopy_8 (c : Dev nD) : IsCopy G 8 c ((Memref.whole cc0_scratch1).slice (Rect.unit (s := S4096x256) (k0_off11 c) S1024x256.size (k0_off11_inb c)) (fun _ => rfl)) :=
  isCopy_of G 8 c _ _ (my_set (n := 4096) (u := 512) (by decide) rfl 1 1 c (k0_off11_inb c) (so_8 c) rfl rfl) rfl
theorem so_9 (c : Dev nD) : k0_off11 c 0 = (sl 4 c).val / 2 ^ 1 * 2 ^ 1 * 512 ∧ k0_off11 c 1 = 0 := by revert c; decide +kernel
theorem isCopy_9 (c : Dev nD) : IsCopy G 9 c ((Memref.whole cc0_scratch4).slice (Rect.unit (s := S4096x256) (k0_off11 c) S1024x256.size (k0_off11_inb c)) (fun _ => rfl)) :=
  isCopy_of G 9 c _ _ (my_set (n := 4096) (u := 512) (by decide) rfl 4 1 c (k0_off11_inb c) (so_9 c) rfl rfl) rfl
theorem so_10 (c : Dev nD) : k0_off12 c 0 = (sl 2 c).val / 2 ^ 1 * 2 ^ 1 * 512 ∧ k0_off12 c 1 = 0 := by revert c; decide +kernel
theorem isCopy_10 (c : Dev nD) : IsCopy G 10 c ((Memref.whole cc0_scratch2).slice (Rect.unit (s := S4096x256) (k0_off12 c) S1024x256.size (k0_off12_inb c)) (fun _ => rfl)) :=
  isCopy_of G 10 c _ _ (my_set (n := 4096) (u := 512) (by decide) rfl 2 1 c (k0_off12_inb c) (so_10 c) rfl rfl) rfl
theorem so_11 (c : Dev nD) : k0_off12 c 0 = (sl 5 c).val / 2 ^ 1 * 2 ^ 1 * 512 ∧ k0_off12 c 1 = 0 := by revert c; decide +kernel
theorem isCopy_11 (c : Dev nD) : IsCopy G 11 c ((Memref.whole cc0_scratch5).slice (Rect.unit (s := S4096x256) (k0_off12 c) S1024x256.size (k0_off12_inb c)) (fun _ => rfl)) :=
  isCopy_of G 11 c _ _ (my_set (n := 4096) (u := 512) (by decide) rfl 5 1 c (k0_off12_inb c) (so_11 c) rfl rfl) rfl
theorem so_12 (c : Dev nD) : k0_off17 c 0 = (sl 0 c).val / 2 ^ 2 * 2 ^ 2 * 512 ∧ k0_off17 c 1 = 0 := by revert c; decide +kernel
theorem isCopy_12 (c : Dev nD) : IsCopy G 12 c ((Memref.whole cc0_scratch0).slice (Rect.unit (s := S4096x256) (k0_off17 c) S2048x256.size (k0_off17_inb c)) (fun _ => rfl)) :=
  isCopy_of G 12 c _ _ (my_set (n := 4096) (u := 512) (by decide) rfl 0 2 c (k0_off17_inb c) (so_12 c) rfl rfl) rfl
theorem so_13 (c : Dev nD) : k0_off17 c 0 = (sl 3 c).val / 2 ^ 2 * 2 ^ 2 * 512 ∧ k0_off17 c 1 = 0 := by revert c; decide +kernel
theorem isCopy_13 (c : Dev nD) : IsCopy G 13 c ((Memref.whole cc0_scratch3).slice (Rect.unit (s := S4096x256) (k0_off17 c) S2048x256.size (k0_off17_inb c)) (fun _ => rfl)) :=
  isCopy_of G 13 c _ _ (my_set (n := 4096) (u := 512) (by decide) rfl 3 2 c (k0_off17_inb c) (so_13 c) rfl rfl) rfl
theorem so_14 (c : Dev nD) : k0_off18 c 0 = (sl 1 c).val / 2 ^ 2 * 2 ^ 2 * 512 ∧ k0_off18 c 1 = 0 := by revert c; decide +kernel
theorem isCopy_14 (c : Dev nD) : IsCopy G 14 c ((Memref.whole cc0_scratch1).slice (Rect.unit (s := S4096x256) (k0_off18 c) S2048x256.size (k0_off18_inb c)) (fun _ => rfl)) :=
  isCopy_of G 14 c _ _ (my_set (n := 4096) (u := 512) (by decide) rfl 1 2 c (k0_off18_inb c) (so_14 c) rfl rfl) rfl
theorem so_15 (c : Dev nD) : k0_off18 c 0 = (sl 4 c).val / 2 ^ 2 * 2 ^ 2 * 512 ∧ k0_off18 c 1 = 0 := by revert c; decide +kernel
theorem isCopy_15 (c : Dev nD) : IsCopy G 15 c ((Memref.whole cc0_scratch4).slice (Rect.unit (s := S4096x256) (k0_off18 c) S2048x256.size (k0_off18_inb c)) (fun _ => rfl)) :=
  isCopy_of G 15 c _ _ (my_set (n := 4096) (u := 512) (by decide) rfl 4 2 c (k0_off18_inb c) (so_15 c) rfl rfl) rfl
theorem so_16 (c : Dev nD) : k0_off19 c 0 = (sl 2 c).val / 2 ^ 2 * 2 ^ 2 * 512 ∧ k0_off19 c 1 = 0 := by revert c; decide +kernel
theorem isCopy_16 (c : Dev nD) : IsCopy G 16 c ((Memref.whole cc0_scratch2).slice (Rect.unit (s := S4096x256) (k0_off19 c) S2048x256.size (k0_off19_inb c)) (fun _ => rfl)) :=
  isCopy_of G 16 c _ _ (my_set (n := 4096) (u := 512) (by decide) rfl 2 2 c (k0_off19_inb c) (so_16 c) rfl rfl) rfl
theorem so_17 (c : Dev nD) : k0_off19 c 0 = (sl 5 c).val / 2 ^ 2 * 2 ^ 2 * 512 ∧ k0_off19 c 1 = 0 := by revert c; decide +kernel
theorem isCopy_17 (c : Dev nD) : IsCopy G 17 c ((Memref.whole cc0_scratch5).slice (Rect.unit (s := S4096x256) (k0_off19 c) S2048x256.size (k0_off19_inb c)) (fun _ => rfl)) :=
  isCopy_of G 17 c _ _ (my_set (n := 4096) (u := 512) (by decide) rfl 5 2 c (k0_off19_inb c) (so_17 c) rfl rfl) rfl
theorem so_18 (c : Dev nD) : k0_off26 c 0 = (sl 6 c).val / 2 ^ 0 * 2 ^ 0 * 256 ∧ k0_off26 c 1 = 0 := by revert c; decide +kernel
theorem isCopy_18 (c : Dev nD) : IsCopy G 18 c ((Memref.whole cc0_scratch6).slice (Rect.unit (s := S2048x256) (k0_off26 c) S256x256.size (k0_off26_inb c)) (fun _ => rfl)) :=
  isCopy_of G 18 c _ _ (my_set (n := 2048) (u := 256) (by decide) rfl 6 0 c (k0_off26_inb c) (so_18 c) rfl rfl) rfl
theorem so_19 (c : Dev nD) : k0_off29 c 0 = (sl 6 c).val / 2 ^ 1 * 2 ^ 1 * 256 ∧ k0_off29 c 1 = 0 := by revert c; decide +kernel
theorem isCopy_19 (c : Dev nD) : IsCopy G 19 c ((Memref.whole cc0_scratch6).slice (Rect.unit (s := S2048x256) (k0_off29 c) S512x256.size (k0_off29_inb c)) (fun _ => rfl)) :=
  isCopy_of G 19 c _ _ (my_set (n := 2048) (u := 256) (by decide) rfl 6 1 c (k0_off29_inb c) (so_19 c) rfl rfl) rfl
theorem so_20 (c : Dev nD) : k0_off30 c 0 = (sl 7 c).val / 2 ^ 0 * 2 ^ 0 * 256 ∧ k0_off30 c 1 = 0 := by revert c; decide +kernel
theorem isCopy_20 (c : Dev nD) : IsCopy G 20 c ((Memref.whole cc0_scratch7).slice (Rect.unit (s := S2048x256) (k0_off30 c) S256x256.size (k0_off30_inb c)) (fun _ => rfl)) :=
  isCopy_of G 20 c _ _ (my_set (n := 2048) (u := 256) (by decide) rfl 7 0 c (k0_off30_inb c) (so_20 c) rfl rfl) rfl
theorem so_21 (c : Dev nD) : k0_off33 c 0 = (sl 6 c).val / 2 ^ 2 * 2 ^ 2 * 256 ∧ k0_off33 c 1 = 0 := by revert c; decide +kernel
theorem isCopy_21 (c : Dev nD) : IsCopy G 21 c ((Memref.whole cc0_scratch6).slice (Rect.unit (s := S2048x256) (k0_off33 c) S1024x256.size (k0_off33_inb c)) (fun _ => rfl)) :=
  isCopy_of G 21 c _ _ (my_set (n := 2048) (u := 256) (by decide) rfl 6 2 c (k0_off33_inb c) (so_21 c) rfl rfl) rfl
theorem so_22 (c : Dev nD) : k0_off34 c 0 = (sl 7 c).val / 2 ^ 1 * 2 ^ 1 * 256 ∧ k0_off34 c 1 = 0 := by revert c; decide +kernel
theorem isCopy_22 (c : Dev nD) : IsCopy G 22 c ((Memref.whole cc0_scratch7).slice (Rect.unit (s := S2048x256) (k0_off34 c) S512x256.size (k0_off34_inb c)) (fun _ => rfl)) :=
  isCopy_of G 22 c _ _ (my_set (n := 2048) (u := 256) (by decide) rfl 7 1 c (k0_off34_inb c) (so_22 c) rfl rfl) rfl
theorem so_23 (c : Dev nD) : k0_off37 c 0 = (sl 7 c).val / 2 ^ 2 * 2 ^ 2 * 256 ∧ k0_off37 c 1 = 0 := by revert c; decide +kernel
theorem isCopy_23 (c : Dev nD) : IsCopy G 23 c ((Memref.whole cc0_scratch7).slice (Rect.unit (s := S2048x256) (k0_off37 c) S1024x256.size (k0_off37_inb c)) (fun _ => rfl)) :=
  isCopy_of G 23 c _ _ (my_set (n := 2048) (u := 256) (by decide) rfl 7 2 c (k0_off37_inb c) (so_23 c) rfl rfl) rfl

/-! ## Loads and stores of slots -/

theorem own0_off (c : Dev nD) : k0_off1 c 0 = (sl 0 c).val / 2 ^ 0 * 2 ^ 0 * 512 ∧ k0_off1 c 1 = 0 := by revert c; decide +kernel
theorem own0_rect (c : Dev nD) : (Rect.unit (s := S4096x256) (k0_off1 c) S512x256.size (k0_off1_inb c)).set = rows 0 (my 0 0 c) :=
  my_set (n := 4096) (u := 512) (by decide) rfl 0 0 c (k0_off1_inb c) (own0_off c) rfl rfl
theorem own0_ld (c : Dev nD) : (Memref.whole cc0_scratch0).view.setOn (Rect.unit (s := S4096x256) (k0_off1 c) S512x256.size (k0_off1_inb c)).toLoadRect.set ⊆ rows 0 (my 0 0 c) := by
  refine (Eq.trans (setOn_whole_rect cc0_scratch0 _) (own0_rect c)).subset.trans ?_
  exact slotSet_mono _ _ (by revert c; decide +kernel)
theorem own0_st (c : Dev nD) : ((Memref.whole cc0_scratch0).access (Rect.unit (s := S4096x256) (k0_off1 c) S512x256.size (k0_off1_inb c))).set = rows 0 (my 0 0 c) :=
  (View.set_slice_whole cc0_scratch0 _).trans (own0_rect c)
theorem own3_off (c : Dev nD) : k0_off1 c 0 = (sl 3 c).val / 2 ^ 0 * 2 ^ 0 * 512 ∧ k0_off1 c 1 = 0 := by revert c; decide +kernel
theorem own3_rect (c : Dev nD) : (Rect.unit (s := S4096x256) (k0_off1 c) S512x256.size (k0_off1_inb c)).set = rows 3 (my 3 0 c) :=
  my_set (n := 4096) (u := 512) (by decide) rfl 3 0 c (k0_off1_inb c) (own3_off c) rfl rfl
theorem own3_ld (c : Dev nD) : (Memref.whole cc0_scratch3).view.setOn (Rect.unit (s := S4096x256) (k0_off1 c) S512x256.size (k0_off1_inb c)).toLoadRect.set ⊆ rows 3 (my 3 0 c) := by
  refine (Eq.trans (setOn_whole_rect cc0_scratch3 _) (own3_rect c)).subset.trans ?_
  exact slotSet_mono _ _ (by revert c; decide +kernel)
theorem own3_st (c : Dev nD) : ((Memref.whole cc0_scratch3).access (Rect.unit (s := S4096x256) (k0_off1 c) S512x256.size (k0_off1_inb c))).set = rows 3 (my 3 0 c) :=
  (View.set_slice_whole cc0_scratch3 _).trans (own3_rect c)
theorem own1_off (c : Dev nD) : k0_off2 c 0 = (sl 1 c).val / 2 ^ 0 * 2 ^ 0 * 512 ∧ k0_off2 c 1 = 0 := by revert c; decide +kernel
theorem own1_rect (c : Dev nD) : (Rect.unit (s := S4096x256) (k0_off2 c) S512x256.size (k0_off2_inb c)).set = rows 1 (my 1 0 c) :=
  my_set (n := 4096) (u := 512) (by decide) rfl 1 0 c (k0_off2_inb c) (own1_off c) rfl rfl
theorem own1_ld (c : Dev nD) : (Memref.whole cc0_scratch1).view.setOn (Rect.unit (s := S4096x256) (k0_off2 c) S512x256.size (k0_off2_inb c)).toLoadRect.set ⊆ rows 1 (my 1 0 c) := by
  refine (Eq.trans (setOn_whole_rect cc0_scratch1 _) (own1_rect c)).subset.trans ?_
  exact slotSet_mono _ _ (by revert c; decide +kernel)
theorem own1_st (c : Dev nD) : ((Memref.whole cc0_scratch1).access (Rect.unit (s := S4096x256) (k0_off2 c) S512x256.size (k0_off2_inb c))).set = rows 1 (my 1 0 c) :=
  (View.set_slice_whole cc0_scratch1 _).trans (own1_rect c)
theorem own4_off (c : Dev nD) : k0_off2 c 0 = (sl 4 c).val / 2 ^ 0 * 2 ^ 0 * 512 ∧ k0_off2 c 1 = 0 := by revert c; decide +kernel
theorem own4_rect (c : Dev nD) : (Rect.unit (s := S4096x256) (k0_off2 c) S512x256.size (k0_off2_inb c)).set = rows 4 (my 4 0 c) :=
  my_set (n := 4096) (u := 512) (by decide) rfl 4 0 c (k0_off2_inb c) (own4_off c) rfl rfl
theorem own4_ld (c : Dev nD) : (Memref.whole cc0_scratch4).view.setOn (Rect.unit (s := S4096x256) (k0_off2 c) S512x256.size (k0_off2_inb c)).toLoadRect.set ⊆ rows 4 (my 4 0 c) := by
  refine (Eq.trans (setOn_whole_rect cc0_scratch4 _) (own4_rect c)).subset.trans ?_
  exact slotSet_mono _ _ (by revert c; decide +kernel)
theorem own4_st (c : Dev nD) : ((Memref.whole cc0_scratch4).access (Rect.unit (s := S4096x256) (k0_off2 c) S512x256.size (k0_off2_inb c))).set = rows 4 (my 4 0 c) :=
  (View.set_slice_whole cc0_scratch4 _).trans (own4_rect c)
theorem own2_off (c : Dev nD) : k0_off3 c 0 = (sl 2 c).val / 2 ^ 0 * 2 ^ 0 * 512 ∧ k0_off3 c 1 = 0 := by revert c; decide +kernel
theorem own2_rect (c : Dev nD) : (Rect.unit (s := S4096x256) (k0_off3 c) S512x256.size (k0_off3_inb c)).set = rows 2 (my 2 0 c) :=
  my_set (n := 4096) (u := 512) (by decide) rfl 2 0 c (k0_off3_inb c) (own2_off c) rfl rfl
theorem own2_ld (c : Dev nD) : (Memref.whole cc0_scratch2).view.setOn (Rect.unit (s := S4096x256) (k0_off3 c) S512x256.size (k0_off3_inb c)).toLoadRect.set ⊆ rows 2 (my 2 0 c) := by
  refine (Eq.trans (setOn_whole_rect cc0_scratch2 _) (own2_rect c)).subset.trans ?_
  exact slotSet_mono _ _ (by revert c; decide +kernel)
theorem own2_st (c : Dev nD) : ((Memref.whole cc0_scratch2).access (Rect.unit (s := S4096x256) (k0_off3 c) S512x256.size (k0_off3_inb c))).set = rows 2 (my 2 0 c) :=
  (View.set_slice_whole cc0_scratch2 _).trans (own2_rect c)
theorem own5_off (c : Dev nD) : k0_off3 c 0 = (sl 5 c).val / 2 ^ 0 * 2 ^ 0 * 512 ∧ k0_off3 c 1 = 0 := by revert c; decide +kernel
theorem own5_rect (c : Dev nD) : (Rect.unit (s := S4096x256) (k0_off3 c) S512x256.size (k0_off3_inb c)).set = rows 5 (my 5 0 c) :=
  my_set (n := 4096) (u := 512) (by decide) rfl 5 0 c (k0_off3_inb c) (own5_off c) rfl rfl
theorem own5_ld (c : Dev nD) : (Memref.whole cc0_scratch5).view.setOn (Rect.unit (s := S4096x256) (k0_off3 c) S512x256.size (k0_off3_inb c)).toLoadRect.set ⊆ rows 5 (my 5 0 c) := by
  refine (Eq.trans (setOn_whole_rect cc0_scratch5 _) (own5_rect c)).subset.trans ?_
  exact slotSet_mono _ _ (by revert c; decide +kernel)
theorem own5_st (c : Dev nD) : ((Memref.whole cc0_scratch5).access (Rect.unit (s := S4096x256) (k0_off3 c) S512x256.size (k0_off3_inb c))).set = rows 5 (my 5 0 c) :=
  (View.set_slice_whole cc0_scratch5 _).trans (own5_rect c)
theorem own6_off (c : Dev nD) : k0_off25 c 0 = (sl 6 c).val / 2 ^ 0 * 2 ^ 0 * 256 ∧ k0_off25 c 1 = 0 := by revert c; decide +kernel
theorem own6_rect (c : Dev nD) : (Rect.unit (s := S2048x256) (k0_off25 c) S256x256.size (k0_off25_inb c)).set = rows 6 (my 6 0 c) :=
  my_set (n := 2048) (u := 256) (by decide) rfl 6 0 c (k0_off25_inb c) (own6_off c) rfl rfl
theorem own6_ld (c : Dev nD) : (Memref.whole cc0_scratch6).view.setOn (Rect.unit (s := S2048x256) (k0_off25 c) S256x256.size (k0_off25_inb c)).toLoadRect.set ⊆ rows 6 (my 6 0 c) := by
  refine (Eq.trans (setOn_whole_rect cc0_scratch6 _) (own6_rect c)).subset.trans ?_
  exact slotSet_mono _ _ (by revert c; decide +kernel)
theorem own6_st (c : Dev nD) : ((Memref.whole cc0_scratch6).access (Rect.unit (s := S2048x256) (k0_off25 c) S256x256.size (k0_off25_inb c))).set = rows 6 (my 6 0 c) :=
  (View.set_slice_whole cc0_scratch6 _).trans (own6_rect c)
theorem own7_off (c : Dev nD) : k0_off27 c 0 = (sl 7 c).val / 2 ^ 0 * 2 ^ 0 * 256 ∧ k0_off27 c 1 = 0 := by revert c; decide +kernel
theorem own7_rect (c : Dev nD) : (Rect.unit (s := S2048x256) (k0_off27 c) S256x256.size (k0_off27_inb c)).set = rows 7 (my 7 0 c) :=
  my_set (n := 2048) (u := 256) (by decide) rfl 7 0 c (k0_off27_inb c) (own7_off c) rfl rfl
theorem own7_ld (c : Dev nD) : (Memref.whole cc0_scratch7).view.setOn (Rect.unit (s := S2048x256) (k0_off27 c) S256x256.size (k0_off27_inb c)).toLoadRect.set ⊆ rows 7 (my 7 0 c) := by
  refine (Eq.trans (setOn_whole_rect cc0_scratch7 _) (own7_rect c)).subset.trans ?_
  exact slotSet_mono _ _ (by revert c; decide +kernel)
theorem own7_st (c : Dev nD) : ((Memref.whole cc0_scratch7).access (Rect.unit (s := S2048x256) (k0_off27 c) S256x256.size (k0_off27_inb c))).set = rows 7 (my 7 0 c) :=
  (View.set_slice_whole cc0_scratch7 _).trans (own7_rect c)
theorem sec0_off (c : Dev nD) : k0_off13 c 0 = ((sl 0 c).val / 2 ^ 0 ^^^ 1) * 2 ^ 0 * 512 ∧ k0_off13 c 1 = 0 := by revert c; decide +kernel
theorem sec0_rect (c : Dev nD) : (Rect.unit (s := S4096x256) (k0_off13 c) S512x256.size (k0_off13_inb c)).set = rows 0 (pb 0 0 c) :=
  pb_set (n := 4096) (u := 512) (by decide) rfl 0 0 c (k0_off13_inb c) (sec0_off c) rfl rfl
theorem sec0_ld (c : Dev nD) : (Memref.whole cc0_scratch0).view.setOn (Rect.unit (s := S4096x256) (k0_off13 c) S512x256.size (k0_off13_inb c)).toLoadRect.set ⊆ rows 0 (my 0 1 c) := by
  refine (Eq.trans (setOn_whole_rect cc0_scratch0 _) (sec0_rect c)).subset.trans ?_
  exact slotSet_mono _ _ (by revert c; decide +kernel)
theorem thi0_off (c : Dev nD) : k0_off20 c 0 = ((sl 0 c).val / 2 ^ 1 ^^^ 1) * 2 ^ 1 * 512 ∧ k0_off20 c 1 = 0 := by revert c; decide +kernel
theorem thi0_rect (c : Dev nD) : (Rect.unit (s := S4096x256) (k0_off20 c) S1024x256.size (k0_off20_inb c)).set = rows 0 (pb 0 1 c) :=
  pb_set (n := 4096) (u := 512) (by decide) rfl 0 1 c (k0_off20_inb c) (thi0_off c) rfl rfl
theorem thi0_ld (c : Dev nD) : (Memref.whole cc0_scratch0).view.setOn (Rect.unit (s := S4096x256) (k0_off20 c) S1024x256.size (k0_off20_inb c)).toLoadRect.set ⊆ rows 0 (my 0 2 c) := by
  refine (Eq.trans (setOn_whole_rect cc0_scratch0 _) (thi0_rect c)).subset.trans ?_
  exact slotSet_mono _ _ (by revert c; decide +kernel)
theorem fou0_off (c : Dev nD) : k0_off24 c 0 = ((sl 0 c).val / 2 ^ 2 ^^^ 1) * 2 ^ 2 * 512 ∧ k0_off24 c 1 = 0 := by revert c; decide +kernel
theorem fou0_rect (c : Dev nD) : (Rect.unit (s := S4096x256) (k0_off24 c) S2048x256.size (k0_off24_inb c)).set = rows 0 (pb 0 2 c) :=
  pb_set (n := 4096) (u := 512) (by decide) rfl 0 2 c (k0_off24_inb c) (fou0_off c) rfl rfl
theorem fou0_ld (c : Dev nD) : (Memref.whole cc0_scratch0).view.setOn (Rect.unit (s := S4096x256) (k0_off24 c) S2048x256.size (k0_off24_inb c)).toLoadRect.set ⊆ rows 0 (my 0 3 c) := by
  refine (Eq.trans (setOn_whole_rect cc0_scratch0 _) (fou0_rect c)).subset.trans ?_
  exact slotSet_mono _ _ (by revert c; decide +kernel)
theorem sec3_off (c : Dev nD) : k0_off13 c 0 = ((sl 3 c).val / 2 ^ 0 ^^^ 1) * 2 ^ 0 * 512 ∧ k0_off13 c 1 = 0 := by revert c; decide +kernel
theorem sec3_rect (c : Dev nD) : (Rect.unit (s := S4096x256) (k0_off13 c) S512x256.size (k0_off13_inb c)).set = rows 3 (pb 3 0 c) :=
  pb_set (n := 4096) (u := 512) (by decide) rfl 3 0 c (k0_off13_inb c) (sec3_off c) rfl rfl
theorem sec3_ld (c : Dev nD) : (Memref.whole cc0_scratch3).view.setOn (Rect.unit (s := S4096x256) (k0_off13 c) S512x256.size (k0_off13_inb c)).toLoadRect.set ⊆ rows 3 (my 3 1 c) := by
  refine (Eq.trans (setOn_whole_rect cc0_scratch3 _) (sec3_rect c)).subset.trans ?_
  exact slotSet_mono _ _ (by revert c; decide +kernel)
theorem thi3_off (c : Dev nD) : k0_off20 c 0 = ((sl 3 c).val / 2 ^ 1 ^^^ 1) * 2 ^ 1 * 512 ∧ k0_off20 c 1 = 0 := by revert c; decide +kernel
theorem thi3_rect (c : Dev nD) : (Rect.unit (s := S4096x256) (k0_off20 c) S1024x256.size (k0_off20_inb c)).set = rows 3 (pb 3 1 c) :=
  pb_set (n := 4096) (u := 512) (by decide) rfl 3 1 c (k0_off20_inb c) (thi3_off c) rfl rfl
theorem thi3_ld (c : Dev nD) : (Memref.whole cc0_scratch3).view.setOn (Rect.unit (s := S4096x256) (k0_off20 c) S1024x256.size (k0_off20_inb c)).toLoadRect.set ⊆ rows 3 (my 3 2 c) := by
  refine (Eq.trans (setOn_whole_rect cc0_scratch3 _) (thi3_rect c)).subset.trans ?_
  exact slotSet_mono _ _ (by revert c; decide +kernel)
theorem fou3_off (c : Dev nD) : k0_off24 c 0 = ((sl 3 c).val / 2 ^ 2 ^^^ 1) * 2 ^ 2 * 512 ∧ k0_off24 c 1 = 0 := by revert c; decide +kernel
theorem fou3_rect (c : Dev nD) : (Rect.unit (s := S4096x256) (k0_off24 c) S2048x256.size (k0_off24_inb c)).set = rows 3 (pb 3 2 c) :=
  pb_set (n := 4096) (u := 512) (by decide) rfl 3 2 c (k0_off24_inb c) (fou3_off c) rfl rfl
theorem fou3_ld (c : Dev nD) : (Memref.whole cc0_scratch3).view.setOn (Rect.unit (s := S4096x256) (k0_off24 c) S2048x256.size (k0_off24_inb c)).toLoadRect.set ⊆ rows 3 (my 3 3 c) := by
  refine (Eq.trans (setOn_whole_rect cc0_scratch3 _) (fou3_rect c)).subset.trans ?_
  exact slotSet_mono _ _ (by revert c; decide +kernel)

variable (I : Inp F)

theorem own0_rd (c : Dev nD) (x) : ((Memref.whole cc0_scratch0).access (Rect.unit (s := S4096x256) (k0_off1 c) S512x256.size (k0_off1_inb c))).read (Elt F) (GG I 0) x = (k0_pay2 (l1 I c)) x := by
  have h : g0 I ((Rect.unit (s := S4096x256) (k0_off1 c) S512x256.size (k0_off1_inb c)).emb x) = (k0_pay2 (l1 I c)) x := by
    refine gat_at 0 _ _ c _ x ?_ ?_
    · exact (ValueKit.rect_emb_unit_val _ _ _ _ _).trans (by rw [(own0_off c).1, Nat.pow_zero, Nat.div_one, Nat.mul_one])
    · exact (ValueKit.rect_emb_unit_val _ _ _ _ _).trans (by rw [(own0_off c).2, Nat.zero_add])
  exact h
theorem own3_rd (c : Dev nD) (x) : ((Memref.whole cc0_scratch3).access (Rect.unit (s := S4096x256) (k0_off1 c) S512x256.size (k0_off1_inb c))).read (Elt F) (GG I 3) x = (k0_pay3 (l2 I c)) x := by
  have h : g3 I ((Rect.unit (s := S4096x256) (k0_off1 c) S512x256.size (k0_off1_inb c)).emb x) = (k0_pay3 (l2 I c)) x := by
    refine gat_at 3 _ _ c _ x ?_ ?_
    · exact (ValueKit.rect_emb_unit_val _ _ _ _ _).trans (by rw [(own3_off c).1, Nat.pow_zero, Nat.div_one, Nat.mul_one])
    · exact (ValueKit.rect_emb_unit_val _ _ _ _ _).trans (by rw [(own3_off c).2, Nat.zero_add])
  exact h
theorem own1_rd (c : Dev nD) (x) : ((Memref.whole cc0_scratch1).access (Rect.unit (s := S4096x256) (k0_off2 c) S512x256.size (k0_off2_inb c))).read (Elt F) (GG I 1) x = (k0_pay4 (l3 I c)) x := by
  have h : g1 I ((Rect.unit (s := S4096x256) (k0_off2 c) S512x256.size (k0_off2_inb c)).emb x) = (k0_pay4 (l3 I c)) x := by
    refine gat_at 1 _ _ c _ x ?_ ?_
    · exact (ValueKit.rect_emb_unit_val _ _ _ _ _).trans (by rw [(own1_off c).1, Nat.pow_zero, Nat.div_one, Nat.mul_one])
    · exact (ValueKit.rect_emb_unit_val _ _ _ _ _).trans (by rw [(own1_off c).2, Nat.zero_add])
  exact h
theorem own4_rd (c : Dev nD) (x) : ((Memref.whole cc0_scratch4).access (Rect.unit (s := S4096x256) (k0_off2 c) S512x256.size (k0_off2_inb c))).read (Elt F) (GG I 4) x = (k0_pay5 (l4 I c)) x := by
  have h : g4 I ((Rect.unit (s := S4096x256) (k0_off2 c) S512x256.size (k0_off2_inb c)).emb x) = (k0_pay5 (l4 I c)) x := by
    refine gat_at 4 _ _ c _ x ?_ ?_
    · exact (ValueKit.rect_emb_unit_val _ _ _ _ _).trans (by rw [(own4_off c).1, Nat.pow_zero, Nat.div_one, Nat.mul_one])
    · exact (ValueKit.rect_emb_unit_val _ _ _ _ _).trans (by rw [(own4_off c).2, Nat.zero_add])
  exact h
theorem own2_rd (c : Dev nD) (x) : ((Memref.whole cc0_scratch2).access (Rect.unit (s := S4096x256) (k0_off3 c) S512x256.size (k0_off3_inb c))).read (Elt F) (GG I 2) x = (k0_pay6 (l5 I c)) x := by
  have h : g2 I ((Rect.unit (s := S4096x256) (k0_off3 c) S512x256.size (k0_off3_inb c)).emb x) = (k0_pay6 (l5 I c)) x := by
    refine gat_at 2 _ _ c _ x ?_ ?_
    · exact (ValueKit.rect_emb_unit_val _ _ _ _ _).trans (by rw [(own2_off c).1, Nat.pow_zero, Nat.div_one, Nat.mul_one])
    · exact (ValueKit.rect_emb_unit_val _ _ _ _ _).trans (by rw [(own2_off c).2, Nat.zero_add])
  exact h
theorem own5_rd (c : Dev nD) (x) : ((Memref.whole cc0_scratch5).access (Rect.unit (s := S4096x256) (k0_off3 c) S512x256.size (k0_off3_inb c))).read (Elt F) (GG I 5) x = (k0_pay7 (l6 I c)) x := by
  have h : g5 I ((Rect.unit (s := S4096x256) (k0_off3 c) S512x256.size (k0_off3_inb c)).emb x) = (k0_pay7 (l6 I c)) x := by
    refine gat_at 5 _ _ c _ x ?_ ?_
    · exact (ValueKit.rect_emb_unit_val _ _ _ _ _).trans (by rw [(own5_off c).1, Nat.pow_zero, Nat.div_one, Nat.mul_one])
    · exact (ValueKit.rect_emb_unit_val _ _ _ _ _).trans (by rw [(own5_off c).2, Nat.zero_add])
  exact h
theorem own6_rd (c : Dev nD) (x) : ((Memref.whole cc0_scratch6).access (Rect.unit (s := S2048x256) (k0_off25 c) S256x256.size (k0_off25_inb c))).read (Elt F) (GG I 6) x = (va I c) x := by
  have h : g6 I ((Rect.unit (s := S2048x256) (k0_off25 c) S256x256.size (k0_off25_inb c)).emb x) = (va I c) x := by
    refine gat_at 6 _ _ c _ x ?_ ?_
    · exact (ValueKit.rect_emb_unit_val _ _ _ _ _).trans (by rw [(own6_off c).1, Nat.pow_zero, Nat.div_one, Nat.mul_one])
    · exact (ValueKit.rect_emb_unit_val _ _ _ _ _).trans (by rw [(own6_off c).2, Nat.zero_add])
  exact h
theorem own7_rd (c : Dev nD) (x) : ((Memref.whole cc0_scratch7).access (Rect.unit (s := S2048x256) (k0_off27 c) S256x256.size (k0_off27_inb c))).read (Elt F) (GG I 7) x = (vb I c) x := by
  have h : g7 I ((Rect.unit (s := S2048x256) (k0_off27 c) S256x256.size (k0_off27_inb c)).emb x) = (vb I c) x := by
    refine gat_at 7 _ _ c _ x ?_ ?_
    · exact (ValueKit.rect_emb_unit_val _ _ _ _ _).trans (by rw [(own7_off c).1, Nat.pow_zero, Nat.div_one, Nat.mul_one])
    · exact (ValueKit.rect_emb_unit_val _ _ _ _ _).trans (by rw [(own7_off c).2, Nat.zero_add])
  exact h

/-! ## The pieces of the result -/

/-- The result at a row of the first half of device `d`'s rows, and of the second half. -/
theorem outC_ata (d : Dev nD) (i : (⟨2, ![4096, 256]⟩ : Shape).Idx) (x : (⟨2, ![256, 256]⟩ : Shape).Idx)
    (h0 : (i 0).val = 512 * d.val + (x 0).val) (h1 : (i 1).val = (x 1).val) : outC I i = va I d x := by
  have hx : (x 0).val < 256 := (x 0).isLt
  have hd : d.val < 8 := d.isLt
  unfold outC
  rw [if_pos (by omega)]
  have e1 : (Fin.ofNat 8 ((i 0).val / 512) : Dev nD) = d := Fin.ext (by show (i 0).val / 512 % 8 = d.val; omega)
  rw [e1]; congr 1; rw [eq_ix2 x]; congr 1
  · exact Fin.ext (by show (i 0).val % 256 = (x 0).val; omega)
  · exact Fin.ext h1
theorem outC_atb (d : Dev nD) (i : (⟨2, ![4096, 256]⟩ : Shape).Idx) (x : (⟨2, ![256, 256]⟩ : Shape).Idx)
    (h0 : (i 0).val = 512 * d.val + 256 + (x 0).val) (h1 : (i 1).val = (x 1).val) : outC I i = vb I d x := by
  have hx : (x 0).val < 256 := (x 0).isLt
  have hd : d.val < 8 := d.isLt
  unfold outC
  rw [if_neg (by omega)]
  have e1 : (Fin.ofNat 8 ((i 0).val / 512) : Dev nD) = d := Fin.ext (by show (i 0).val / 512 % 8 = d.val; omega)
  rw [e1]; congr 1; rw [eq_ix2 x]; congr 1
  · exact Fin.ext (by show (i 0).val % 256 = (x 0).val; omega)
  · exact Fin.ext h1

theorem piece_0 (x) : ((Memref.whole cc0_stg7_0).access (Rect.unit (s := S4096x256) ![0, 0] S256x256.size inb_S4096x256_S256x256_0_0)).read (Elt F) (outC I) x
    = ((Memref.whole cc0_scratch6).view.readAt (Elt F) (Rect.unit (s := S2048x256) ![0, 0] S256x256.size inb_S2048x256_S256x256_0_0).toLoadRect (GG I 6)) x := by
  have h1 : outC I ((Rect.unit (s := S4096x256) ![0, 0] S256x256.size inb_S4096x256_S256x256_0_0).emb x) = va I 0 x :=
    outC_ata I 0 _ x (ValueKit.rect_emb_unit_val _ _ _ _ _) ((ValueKit.rect_emb_unit_val _ _ _ _ _).trans (Nat.zero_add _))
  have h2 : g6 I ((Rect.unit (s := S2048x256) ![0, 0] S256x256.size inb_S2048x256_S256x256_0_0).emb x) = va I 0 x :=
    gat_at 6 _ _ 0 _ x (ValueKit.rect_emb_unit_val _ _ _ _ _) ((ValueKit.rect_emb_unit_val _ _ _ _ _).trans (Nat.zero_add _))
  exact h1.trans h2.symm
theorem piece_1 (x) : ((Memref.whole cc0_stg7_0).access (Rect.unit (s := S4096x256) ![256, 0] S256x256.size inb_S4096x256_S256x256_256_0)).read (Elt F) (outC I) x
    = ((Memref.whole cc0_scratch7).view.readAt (Elt F) (Rect.unit (s := S2048x256) ![0, 0] S256x256.size inb_S2048x256_S256x256_0_0).toLoadRect (GG I 7)) x := by
  have h1 : outC I ((Rect.unit (s := S4096x256) ![256, 0] S256x256.size inb_S4096x256_S256x256_256_0).emb x) = vb I 0 x :=
    outC_atb I 0 _ x (ValueKit.rect_emb_unit_val _ _ _ _ _) ((ValueKit.rect_emb_unit_val _ _ _ _ _).trans (Nat.zero_add _))
  have h2 : g7 I ((Rect.unit (s := S2048x256) ![0, 0] S256x256.size inb_S2048x256_S256x256_0_0).emb x) = vb I 0 x :=
    gat_at 7 _ _ 0 _ x (ValueKit.rect_emb_unit_val _ _ _ _ _) ((ValueKit.rect_emb_unit_val _ _ _ _ _).trans (Nat.zero_add _))
  exact h1.trans h2.symm
theorem piece_2 (x) : ((Memref.whole cc0_stg7_0).access (Rect.unit (s := S4096x256) ![512, 0] S256x256.size inb_S4096x256_S256x256_512_0)).read (Elt F) (outC I) x
    = ((Memref.whole cc0_scratch6).view.readAt (Elt F) (Rect.unit (s := S2048x256) ![256, 0] S256x256.size inb_S2048x256_S256x256_256_0).toLoadRect (GG I 6)) x := by
  have h1 : outC I ((Rect.unit (s := S4096x256) ![512, 0] S256x256.size inb_S4096x256_S256x256_512_0).emb x) = va I 1 x :=
    outC_ata I 1 _ x (ValueKit.rect_emb_unit_val _ _ _ _ _) ((ValueKit.rect_emb_unit_val _ _ _ _ _).trans (Nat.zero_add _))
  have h2 : g6 I ((Rect.unit (s := S2048x256) ![256, 0] S256x256.size inb_S2048x256_S256x256_256_0).emb x) = va I 1 x :=
    gat_at 6 _ _ 1 _ x (ValueKit.rect_emb_unit_val _ _ _ _ _) ((ValueKit.rect_emb_unit_val _ _ _ _ _).trans (Nat.zero_add _))
  exact h1.trans h2.symm
theorem piece_3 (x) : ((Memref.whole cc0_stg7_0).access (Rect.unit (s := S4096x256) ![768, 0] S256x256.size inb_S4096x256_S256x256_768_0)).read (Elt F) (outC I) x
    = ((Memref.whole cc0_scratch7).view.readAt (Elt F) (Rect.unit (s := S2048x256) ![512, 0] S256x256.size inb_S2048x256_S256x256_512_0).toLoadRect (GG I 7)) x := by
  have h1 : outC I ((Rect.unit (s := S4096x256) ![768, 0] S256x256.size inb_S4096x256_S256x256_768_0).emb x) = vb I 1 x :=
    outC_atb I 1 _ x (ValueKit.rect_emb_unit_val _ _ _ _ _) ((ValueKit.rect_emb_unit_val _ _ _ _ _).trans (Nat.zero_add _))
  have h2 : g7 I ((Rect.unit (s := S2048x256) ![512, 0] S256x256.size inb_S2048x256_S256x256_512_0).emb x) = vb I 1 x :=
    gat_at 7 _ _ 1 _ x (ValueKit.rect_emb_unit_val _ _ _ _ _) ((ValueKit.rect_emb_unit_val _ _ _ _ _).trans (Nat.zero_add _))
  exact h1.trans h2.symm
theorem piece_4 (x) : ((Memref.whole cc0_stg7_0).access (Rect.unit (s := S4096x256) ![1024, 0] S256x256.size inb_S4096x256_S256x256_1024_0)).read (Elt F) (outC I) x
    = ((Memref.whole cc0_scratch6).view.readAt (Elt F) (Rect.unit (s := S2048x256) ![512, 0] S256x256.size inb_S2048x256_S256x256_512_0).toLoadRect (GG I 6)) x := by
  have h1 : outC I ((Rect.unit (s := S4096x256) ![1024, 0] S256x256.size inb_S4096x256_S256x256_1024_0).emb x) = va I 2 x :=
    outC_ata I 2 _ x (ValueKit.rect_emb_unit_val _ _ _ _ _) ((ValueKit.rect_emb_unit_val _ _ _ _ _).trans (Nat.zero_add _))
  have h2 : g6 I ((Rect.unit (s := S2048x256) ![512, 0] S256x256.size inb_S2048x256_S256x256_512_0).emb x) = va I 2 x :=
    gat_at 6 _ _ 2 _ x (ValueKit.rect_emb_unit_val _ _ _ _ _) ((ValueKit.rect_emb_unit_val _ _ _ _ _).trans (Nat.zero_add _))
  exact h1.trans h2.symm
theorem piece_5 (x) : ((Memref.whole cc0_stg7_0).access (Rect.unit (s := S4096x256) ![1280, 0] S256x256.size inb_S4096x256_S256x256_1280_0)).read (Elt F) (outC I) x
    = ((Memref.whole cc0_scratch7).view.readAt (Elt F) (Rect.unit (s := S2048x256) ![1536, 0] S256x256.size inb_S2048x256_S256x256_1536_0).toLoadRect (GG I 7)) x := by
  have h1 : outC I ((Rect.unit (s := S4096x256) ![1280, 0] S256x256.size inb_S4096x256_S256x256_1280_0).emb x) = vb I 2 x :=
    outC_atb I 2 _ x (ValueKit.rect_emb_unit_val _ _ _ _ _) ((ValueKit.rect_emb_unit_val _ _ _ _ _).trans (Nat.zero_add _))
  have h2 : g7 I ((Rect.unit (s := S2048x256) ![1536, 0] S256x256.size inb_S2048x256_S256x256_1536_0).emb x) = vb I 2 x :=
    gat_at 7 _ _ 2 _ x (ValueKit.rect_emb_unit_val _ _ _ _ _) ((ValueKit.rect_emb_unit_val _ _ _ _ _).trans (Nat.zero_add _))
  exact h1.trans h2.symm
theorem piece_6 (x) : ((Memref.whole cc0_stg7_0).access (Rect.unit (s := S4096x256) ![1536, 0] S256x256.size inb_S4096x256_S256x256_1536_0)).read (Elt F) (outC I) x
    = ((Memref.whole cc0_scratch6).view.readAt (Elt F) (Rect.unit (s := S2048x256) ![768, 0] S256x256.size inb_S2048x256_S256x256_768_0).toLoadRect (GG I 6)) x := by
  have h1 : outC I ((Rect.unit (s := S4096x256) ![1536, 0] S256x256.size inb_S4096x256_S256x256_1536_0).emb x) = va I 3 x :=
    outC_ata I 3 _ x (ValueKit.rect_emb_unit_val _ _ _ _ _) ((ValueKit.rect_emb_unit_val _ _ _ _ _).trans (Nat.zero_add _))
  have h2 : g6 I ((Rect.unit (s := S2048x256) ![768, 0] S256x256.size inb_S2048x256_S256x256_768_0).emb x) = va I 3 x :=
    gat_at 6 _ _ 3 _ x (ValueKit.rect_emb_unit_val _ _ _ _ _) ((ValueKit.rect_emb_unit_val _ _ _ _ _).trans (Nat.zero_add _))
  exact h1.trans h2.symm
theorem piece_7 (x) : ((Memref.whole cc0_stg7_0).access (Rect.unit (s := S4096x256) ![1792, 0] S256x256.size inb_S4096x256_S256x256_1792_0)).read (Elt F) (outC I) x
    = ((Memref.whole cc0_scratch7).view.readAt (Elt F) (Rect.unit (s := S2048x256) ![1024, 0] S256x256.size inb_S2048x256_S256x256_1024_0).toLoadRect (GG I 7)) x := by
  have h1 : outC I ((Rect.unit (s := S4096x256) ![1792, 0] S256x256.size inb_S4096x256_S256x256_1792_0).emb x) = vb I 3 x :=
    outC_atb I 3 _ x (ValueKit.rect_emb_unit_val _ _ _ _ _) ((ValueKit.rect_emb_unit_val _ _ _ _ _).trans (Nat.zero_add _))
  have h2 : g7 I ((Rect.unit (s := S2048x256) ![1024, 0] S256x256.size inb_S2048x256_S256x256_1024_0).emb x) = vb I 3 x :=
    gat_at 7 _ _ 3 _ x (ValueKit.rect_emb_unit_val _ _ _ _ _) ((ValueKit.rect_emb_unit_val _ _ _ _ _).trans (Nat.zero_add _))
  exact h1.trans h2.symm
theorem piece_8 (x) : ((Memref.whole cc0_stg7_0).access (Rect.unit (s := S4096x256) ![2048, 0] S256x256.size inb_S4096x256_S256x256_2048_0)).read (Elt F) (outC I) x
    = ((Memref.whole cc0_scratch6).view.readAt (Elt F) (Rect.unit (s := S2048x256) ![1024, 0] S256x256.size inb_S2048x256_S256x256_1024_0).toLoadRect (GG I 6)) x := by
  have h1 : outC I ((Rect.unit (s := S4096x256) ![2048, 0] S256x256.size inb_S4096x256_S256x256_2048_0).emb x) = va I 4 x :=
    outC_ata I 4 _ x (ValueKit.rect_emb_unit_val _ _ _ _ _) ((ValueKit.rect_emb_unit_val _ _ _ _ _).trans (Nat.zero_add _))
  have h2 : g6 I ((Rect.unit (s := S2048x256) ![1024, 0] S256x256.size inb_S2048x256_S256x256_1024_0).emb x) = va I 4 x :=
    gat_at 6 _ _ 4 _ x (ValueKit.rect_emb_unit_val _ _ _ _ _) ((ValueKit.rect_emb_unit_val _ _ _ _ _).trans (Nat.zero_add _))
  exact h1.trans h2.symm
theorem piece_9 (x) : ((Memref.whole cc0_stg7_0).access (Rect.unit (s := S4096x256) ![2304, 0] S256x256.size inb_S4096x256_S256x256_2304_0)).read (Elt F) (outC I) x
    = ((Memref.whole cc0_scratch7).view.readAt (Elt F) (Rect.unit (s := S2048x256) ![256, 0] S256x256.size inb_S2048x256_S256x256_256_0).toLoadRect (GG I 7)) x := by
  have h1 : outC I ((Rect.unit (s := S4096x256) ![2304, 0] S256x256.size inb_S4096x256_S256x256_2304_0).emb x) = vb I 4 x :=
    outC_atb I 4 _ x (ValueKit.rect_emb_unit_val _ _ _ _ _) ((ValueKit.rect_emb_unit_val _ _ _ _ _).trans (Nat.zero_add _))
  have h2 : g7 I ((Rect.unit (s := S2048x256) ![256, 0] S256x256.size inb_S2048x256_S256x256_256_0).emb x) = vb I 4 x :=
    gat_at 7 _ _ 4 _ x (ValueKit.rect_emb_unit_val _ _ _ _ _) ((ValueKit.rect_emb_unit_val _ _ _ _ _).trans (Nat.zero_add _))
  exact h1.trans h2.symm
theorem piece_10 (x) : ((Memref.whole cc0_stg7_0).access (Rect.unit (s := S4096x256) ![2560, 0] S256x256.size inb_S4096x256_S256x256_2560_0)).read (Elt F) (outC I) x
    = ((Memref.whole cc0_scratch6).view.readAt (Elt F) (Rect.unit (s := S2048x256) ![1280, 0] S256x256.size inb_S2048x256_S256x256_1280_0).toLoadRect (GG I 6)) x := by
  have h1 : outC I ((Rect.unit (s := S4096x256) ![2560, 0] S256x256.size inb_S4096x256_S256x256_2560_0).emb x) = va I 5 x :=
    outC_ata I 5 _ x (ValueKit.rect_emb_unit_val _ _ _ _ _) ((ValueKit.rect_emb_unit_val _ _ _ _ _).trans (Nat.zero_add _))
  have h2 : g6 I ((Rect.unit (s := S2048x256) ![1280, 0] S256x256.size inb_S2048x256_S256x256_1280_0).emb x) = va I 5 x :=
    gat_at 6 _ _ 5 _ x (ValueKit.rect_emb_unit_val _ _ _ _ _) ((ValueKit.rect_emb_unit_val _ _ _ _ _).trans (Nat.zero_add _))
  exact h1.trans h2.symm
theorem piece_11 (x) : ((Memref.whole cc0_stg7_0).access (Rect.unit (s := S4096x256) ![2816, 0] S256x256.size inb_S4096x256_S256x256_2816_0)).read (Elt F) (outC I) x
    = ((Memref.whole cc0_scratch7).view.readAt (Elt F) (Rect.unit (s := S2048x256) ![768, 0] S256x256.size inb_S2048x256_S256x256_768_0).toLoadRect (GG I 7)) x := by
  have h1 : outC I ((Rect.unit (s := S4096x256) ![2816, 0] S256x256.size inb_S4096x256_S256x256_2816_0).emb x) = vb I 5 x :=
    outC_atb I 5 _ x (ValueKit.rect_emb_unit_val _ _ _ _ _) ((ValueKit.rect_emb_unit_val _ _ _ _ _).trans (Nat.zero_add _))
  have h2 : g7 I ((Rect.unit (s := S2048x256) ![768, 0] S256x256.size inb_S2048x256_S256x256_768_0).emb x) = vb I 5 x :=
    gat_at 7 _ _ 5 _ x (ValueKit.rect_emb_unit_val _ _ _ _ _) ((ValueKit.rect_emb_unit_val _ _ _ _ _).trans (Nat.zero_add _))
  exact h1.trans h2.symm
theorem piece_12 (x) : ((Memref.whole cc0_stg7_0).access (Rect.unit (s := S4096x256) ![3072, 0] S256x256.size inb_S4096x256_S256x256_3072_0)).read (Elt F) (outC I) x
    = ((Memref.whole cc0_scratch6).view.readAt (Elt F) (Rect.unit (s := S2048x256) ![1536, 0] S256x256.size inb_S2048x256_S256x256_1536_0).toLoadRect (GG I 6)) x := by
  have h1 : outC I ((Rect.unit (s := S4096x256) ![3072, 0] S256x256.size inb_S4096x256_S256x256_3072_0).emb x) = va I 6 x :=
    outC_ata I 6 _ x (ValueKit.rect_emb_unit_val _ _ _ _ _) ((ValueKit.rect_emb_unit_val _ _ _ _ _).trans (Nat.zero_add _))
  have h2 : g6 I ((Rect.unit (s := S2048x256) ![1536, 0] S256x256.size inb_S2048x256_S256x256_1536_0).emb x) = va I 6 x :=
    gat_at 6 _ _ 6 _ x (ValueKit.rect_emb_unit_val _ _ _ _ _) ((ValueKit.rect_emb_unit_val _ _ _ _ _).trans (Nat.zero_add _))
  exact h1.trans h2.symm
theorem piece_13 (x) : ((Memref.whole cc0_stg7_0).access (Rect.unit (s := S4096x256) ![3328, 0] S256x256.size inb_S4096x256_S256x256_3328_0)).read (Elt F) (outC I) x
    = ((Memref.whole cc0_scratch7).view.readAt (Elt F) (Rect.unit (s := S2048x256) ![1792, 0] S256x256.size inb_S2048x256_S256x256_1792_0).toLoadRect (GG I 7)) x := by
  have h1 : outC I ((Rect.unit (s := S4096x256) ![3328, 0] S256x256.size inb_S4096x256_S256x256_3328_0).emb x) = vb I 6 x :=
    outC_atb I 6 _ x (ValueKit.rect_emb_unit_val _ _ _ _ _) ((ValueKit.rect_emb_unit_val _ _ _ _ _).trans (Nat.zero_add _))
  have h2 : g7 I ((Rect.unit (s := S2048x256) ![1792, 0] S256x256.size inb_S2048x256_S256x256_1792_0).emb x) = vb I 6 x :=
    gat_at 7 _ _ 6 _ x (ValueKit.rect_emb_unit_val _ _ _ _ _) ((ValueKit.rect_emb_unit_val _ _ _ _ _).trans (Nat.zero_add _))
  exact h1.trans h2.symm
theorem piece_14 (x) : ((Memref.whole cc0_stg7_0).access (Rect.unit (s := S4096x256) ![3584, 0] S256x256.size inb_S4096x256_S256x256_3584_0)).read (Elt F) (outC I) x
    = ((Memref.whole cc0_scratch6).view.readAt (Elt F) (Rect.unit (s := S2048x256) ![1792, 0] S256x256.size inb_S2048x256_S256x256_1792_0).toLoadRect (GG I 6)) x := by
  have h1 : outC I ((Rect.unit (s := S4096x256) ![3584, 0] S256x256.size inb_S4096x256_S256x256_3584_0).emb x) = va I 7 x :=
    outC_ata I 7 _ x (ValueKit.rect_emb_unit_val _ _ _ _ _) ((ValueKit.rect_emb_unit_val _ _ _ _ _).trans (Nat.zero_add _))
  have h2 : g6 I ((Rect.unit (s := S2048x256) ![1792, 0] S256x256.size inb_S2048x256_S256x256_1792_0).emb x) = va I 7 x :=
    gat_at 6 _ _ 7 _ x (ValueKit.rect_emb_unit_val _ _ _ _ _) ((ValueKit.rect_emb_unit_val _ _ _ _ _).trans (Nat.zero_add _))
  exact h1.trans h2.symm
theorem piece_15 (x) : ((Memref.whole cc0_stg7_0).access (Rect.unit (s := S4096x256) ![3840, 0] S256x256.size inb_S4096x256_S256x256_3840_0)).read (Elt F) (outC I) x
    = ((Memref.whole cc0_scratch7).view.readAt (Elt F) (Rect.unit (s := S2048x256) ![1280, 0] S256x256.size inb_S2048x256_S256x256_1280_0).toLoadRect (GG I 7)) x := by
  have h1 : outC I ((Rect.unit (s := S4096x256) ![3840, 0] S256x256.size inb_S4096x256_S256x256_3840_0).emb x) = vb I 7 x :=
    outC_atb I 7 _ x (ValueKit.rect_emb_unit_val _ _ _ _ _) ((ValueKit.rect_emb_unit_val _ _ _ _ _).trans (Nat.zero_add _))
  have h2 : g7 I ((Rect.unit (s := S2048x256) ![1280, 0] S256x256.size inb_S2048x256_S256x256_1280_0).emb x) = vb I 7 x :=
    gat_at 7 _ _ 7 _ x (ValueKit.rect_emb_unit_val _ _ _ _ _) ((ValueKit.rect_emb_unit_val _ _ _ _ _).trans (Nat.zero_add _))
  exact h1.trans h2.symm

end Cert.MlpProof

end
-- ==== Proof.Moves.lean ====
/-
`Moves`: the steps of `Steps` at the regions' own names, as the run of the body uses them, and a store of one piece of the
result.
-/
module

public import proofs.«01_k».proof.Proof.Facts

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : (β : Fin 8) → (bufR β).ty.Contents (Elt F)) (K : Dev nD × CI → ℕ)

/-- To issue copy `j`: its tokens, and leave to write where it lands. -/
def cp (c : Dev nD) (j : J) : sProp 𝕄 := iprop(todo (F := F) c j ∗ land (F := F) j (peer j c))

/-- The cells waited for so far, each at zero. -/
def dnL (c : Dev nD) : List (Bool × J) → sProp 𝕄
  | [] => iprop(emp)
  | p :: l => iprop(dn c p.1 p.2 ∗ dnL c l)

omit [FloatOps F] in
theorem dnL_cons (c : Dev nD) (b : Bool) (j : J) (l : List (Bool × J)) :
    (dnL c ((b, j) :: l) : sProp 𝕄) = iprop(dn c b j ∗ dnL c l) := rfl
theorem pay_true (c : Dev nD) (j : J) : dmaPay G c true j = (RB G (buf j) c (pb (buf j) (st j) c) fullShare : sProp 𝕄) := rfl
theorem pay_false (c : Dev nD) (j : J) : dmaPay G c false j = (RB G (buf j) c (my (buf j) (st j) c) fullShare.left : sProp 𝕄) := rfl

/-- Copy `j` issued from buffer `β` at step `s`: the right half of its source stays. -/
theorem wp_cp (c n : Dev nD) (j : J) (hn : n = peer j c) (k : ℕ) (hk : j.val + k = 23) {β : Fin 8} {s' : ℕ} (hβ : buf j = β) (hs : st j = s')
    {s : Shape} {src : Memref sig .tc .vmem s .bf16} (hv : IsCopy G j c src) {sS sR : DmaSem sig} (hS : sS = dsem false j) (hR : sR = dsem true j)
    {hsc : (src : Memref sig (Dev.tc n : Thread nD τ).2.kind .vmem s .bf16).view.ref.isScScratch = false}
    {hsrc hdst : src.view.WordExact}
    {hsem : DmaTarget.Typed .vmem (.dma sR) (.remote (Dev.tc n : Thread nD τ) src (.dma sS) hsc)}
    {α : Type} {Q : α → sProp 𝕄} {kk : PUnit → Prog (TpuEff nD τ sig (Elt F) Λ₀ .tc) α} :
    iprop(Recs G K ∗ cp (F := F) c j ∗ RB G β c (my β s' c) fullShare ∗ ow c (k + 1))
      ⊢ iprop(((fl (F := F) c false j ∗ RB G β c (my β s' c) fullShare.right ∗ ow c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) src (.dma sS) hsc) (.dma sR) hsrc hdst hsem) kk) Q) := by
  subst hβ; subst hs
  unfold cp
  iintro ⟨#HR, ⟨H1, H2⟩, H3, H4⟩
  iapply (wp_copy G K c n j hn k hk hv hS hR)
  isplitr; · iexact HR
  isplitl [H1]; · iexact H1
  isplitl [H2]; · iexact H2
  isplitl [H3] <;> iassumption

/-- The wait for copy `j`'s landing: the slots received. -/
theorem wp_rcv (c : Dev nD) (j : J) (k : ℕ) (hk24 : k ≤ 24) (hk : j.val + k ≤ 23) {β : Fin 8} {s' : ℕ} (hβ : buf j = β) (hs : st j = s')
    {l : List (Bool × J)} {s : Shape} {sp sp' : Space}
    {src : Memref sig .tc sp s .bf16} {dst : Memref sig .tc sp' s .bf16} {q : DmaSem sig} (hq : q = dsem true j) (hN : dst.view.dmaCredit = amt j)
    {hsrc : src.view.WordExact} {hdst : dst.view.WordExact}
    {α : Type} {Q : α → sProp 𝕄} {kk : PUnit → Prog (TpuEff nD τ sig (Elt F) Λ₀ .tc) α} :
    iprop(Recs G K ∗ fl (F := F) c true j ∗ ow c k ∗ dnL (F := F) c l)
      ⊢ iprop(((dnL (F := F) c ((true, j) :: l) ∗ RB G β c (pb β s' c) fullShare ∗ ow c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hβ; subst hs
  iintro ⟨#HR, H1, H2, HL⟩ Hk
  iapply (wp_done G K c true j k hk24 (fun _ => hk) hq hN) $$ [H1 H2]
  · isplitr; · iexact HR
    isplitl [H1] <;> iassumption
  iintro ⟨Hd, Hp, Ho⟩
  ihave Hp := (Entails.of_eq (pay_true G c j)) $$ Hp
  iapply Hk
  isplitl [Hd HL]; · iapply (Entails.of_eq (dnL_cons c true j l).symm); isplitl [Hd] <;> iassumption
  isplitl [Hp]; · iexact Hp
  iexact Ho

/-- The wait for copy `j`'s source to have been read: the lent half back. -/
theorem wp_snt (c : Dev nD) (j : J) (k : ℕ) (hk24 : k ≤ 24) {β : Fin 8} {s' : ℕ} (hβ : buf j = β) (hs : st j = s')
    {l : List (Bool × J)} {s : Shape} {sp sp' : Space}
    {src : Memref sig .tc sp s .bf16} {dst : Memref sig .tc sp' s .bf16} {q : DmaSem sig} (hq : q = dsem false j) (hN : dst.view.dmaCredit = amt j)
    {hsrc : src.view.WordExact} {hdst : dst.view.WordExact}
    {α : Type} {Q : α → sProp 𝕄} {kk : PUnit → Prog (TpuEff nD τ sig (Elt F) Λ₀ .tc) α} :
    iprop(Recs G K ∗ fl (F := F) c false j ∗ ow c k ∗ dnL (F := F) c l)
      ⊢ iprop(((dnL (F := F) c ((false, j) :: l) ∗ RB G β c (my β s' c) fullShare.left ∗ ow c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hβ; subst hs
  iintro ⟨#HR, H1, H2, HL⟩ Hk
  iapply (wp_done G K c false j k hk24 (fun h => Bool.noConfusion h) hq hN) $$ [H1 H2]
  · isplitr; · iexact HR
    isplitl [H1] <;> iassumption
  iintro ⟨Hd, Hp, Ho⟩
  ihave Hp := (Entails.of_eq (pay_false G c j)) $$ Hp
  iapply Hk
  isplitl [Hd HL]; · iapply (Entails.of_eq (dnL_cons c false j l).symm); isplitl [Hd] <;> iassumption
  isplitl [Hp]; · iexact Hp
  iexact Ho

/-- `RB_step` with the steps named. -/
theorem RB_step' (β : Fin 8) (s : Fin 3) (c : Dev nD) {s0 s1 : ℕ} (h0 : s.val = s0) (h1 : s.val + 1 = s1) :
    iprop(RB G β c (my β s0 c) fullShare.left ∗ RB G β c (my β s0 c) fullShare.right ∗ RB G β c (pb β s0 c) fullShare)
      ⊢ (RB G β c (my β s1 c) fullShare : sProp 𝕄) := by
  subst h0; subst h1; exact RB_step G β s c

/-- Any load of a buffer gathered whole is within it. -/
theorem full_ld (β : Fin 8) (c : Dev nD) (S : Finset (bufR β).ty.shape.Idx) : S ⊆ rows β (my β 3 c) := by
  rw [my_three, rows_univ]; exact Finset.subset_univ _

/-- An input window's staging buffer at device `c`. -/
abbrev stg (c : Dev nD) (b : Ref sig .tc) (f : b.ty.Contents (Elt F)) : sProp 𝕄 := ((c : Thread nD τ).loc b) ↦{fullShare} f

variable (I : Inp F)

/-- The result's staging buffer with its first `R` rows done. -/
def outP (c : Dev nD) (R : ℕ) : sProp 𝕄 :=
  iprop(∃ f : cc0_stg7_0.ty.Contents (Elt F), ⌜∀ i, rowN i < R → f i = outC I i⌝ ∗ stg c cc0_stg7_0 f)

/-- A load of the result's buffer whose value does not matter. -/
theorem wp_out_any (c : Dev nD) (R : ℕ) {r : LoadRect S4096x256} {hl : (Memref.whole cc0_stg7_0).view.LoadsAt r}
    {α : Type} {Q : α → sProp 𝕄} {kk : (r.shape.Idx → Elt F .bf16) → Prog (TpuEff nD τ sig (Elt F) Λ₀ .tc) α} :
    outP I c R ⊢ iprop((∀ w, outP I c R -∗ wp frame (wpE (defs₀ (F := F)) 𝒱₀ (c : Thread nD τ) none) Set.univ (kk w) Q)
          -∗ wp frame (wpE (defs₀ (F := F)) 𝒱₀ (c : Thread nD τ) none) Set.univ (.op (.load (Memref.whole cc0_stg7_0) r hl) kk) Q) := by
  unfold outP
  iintro ⟨%f, %hf, H⟩ Hk
  iapply (wp_load 𝒱₀ (c : Thread nD τ) none Set.univ (m := Memref.whole cc0_stg7_0) (Finset.subset_univ _)) $$ H
  iintro H
  ispecialize Hk $$ %((Memref.whole cc0_stg7_0).view.readAt (Elt F) r f)
  iapply Hk; iexists f
  isplitr; · ipureintro; exact hf
  iexact H

/-- A store of the result's next 256 rows, the values being the result's there. -/
theorem wp_out_put (c : Dev nD) (R : ℕ) {inb} {w : (Rect.unit (s := S4096x256) ![R, 0] S256x256.size inb).shape.Idx → Elt F .bf16}
    {hs : ((Memref.whole cc0_stg7_0).access (Rect.unit (s := S4096x256) ![R, 0] S256x256.size inb)).Stores Finset.univ} {hm}
    (hw : ∀ x, ((Memref.whole cc0_stg7_0).access (Rect.unit (s := S4096x256) ![R, 0] S256x256.size inb)).read (Elt F) (outC I) x = w x)
    {α : Type} {Q : α → sProp 𝕄} {kk : PUnit → Prog (TpuEff nD τ sig (Elt F) Λ₀ .tc) α} :
    outP I c R ⊢ iprop((outP I c (R + 256) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store (Memref.whole cc0_stg7_0) (Rect.unit (s := S4096x256) ![R, 0] S256x256.size inb) w Finset.univ hs hm) kk) Q) := by
  unfold outP
  iintro ⟨%f, %hf, H⟩ Hk
  iapply (wp_store 𝒱₀ (c : Thread nD τ) none Set.univ (m := Memref.whole cc0_stg7_0)
    (r := Rect.unit (s := S4096x256) ![R, 0] S256x256.size inb) (Mk := Finset.univ) (Finset.subset_univ _)) $$ H
  iintro H
  iapply Hk; iexists _
  isplitr
  rotate_left
  · iexact H
  · ipureintro
    intro i hi
    by_cases hm : i ∈ ((Memref.whole cc0_stg7_0).access (Rect.unit (s := S4096x256) ![R, 0] S256x256.size inb)).set
    · obtain ⟨x, -, rfl⟩ := Finset.mem_map.mp hm
      rw [View.write_emb_of_mem _ _ (Finset.mem_univ x), ← hw x, View.read_apply]
      simp only [cast_cast, cast_eq]
    · rw [View.write_of_not_mem _ _ _ hm]
      refine hf i ?_
      have hm' : i ∉ (Rect.unit (s := S4096x256) ![R, 0] S256x256.size inb).set := by
        rw [← View.set_slice_whole cc0_stg7_0 (Rect.unit (s := S4096x256) ![R, 0] S256x256.size inb)]; exact hm
      by_contra hlt
      refine hm' (Rect.mem_set_unit.mpr fun a => ?_)
      have hr : rowN i = (i (0 : Fin 2)).val := by unfold rowN; exact dif_pos (show 0 < 2 from Nat.zero_lt_two)
      have h1 : (i (1 : Fin 2)).val < 256 := (i (1 : Fin 2)).isLt
      rw [hr] at hi hlt
      match a with
      | ⟨0, _⟩ => exact ⟨Nat.le_of_not_lt hlt, hi⟩
      | ⟨1, _⟩ => exact ⟨Nat.zero_le _, lt_of_lt_of_eq h1 (Nat.zero_add 256).symm⟩

end Cert.MlpProof

end
-- ==== Proof.PartsA.lean ====
/-
`PartsA`: the run through stretches 2 to 8 of the printed body, each from what it touches to what it leaves.
-/
module

public import proofs.«01_k».proof.Proof.Moves

@[expose] public section

set_option maxRecDepth 4000

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × CI → ℕ) (I : Inp F)

/-- Stretch 2 of the body: 10 loads, 5 stores. -/
theorem part_2 (c : Dev nD) (v2 : BitVec 32) (v12 : BitVec 32) (v16 : BitVec 32) (Q : (Σ' (v28 : FVec F S512x256 .bf16), BitVec 32) → sProp 𝕄) :
    iprop(Recs (GG I) K ∗ ow c 24 ∗ stg c cc0_stg1_0 (I.f1 c) ∗ RA (F := F) 0 c (my 0 0 c)
      ∗ stg c cc0_stg2_0 (I.f2 c) ∗ RA (F := F) 3 c (my 3 0 c) ∗ stg c cc0_stg3_0 (I.f3 c) ∗ RA (F := F) 1 c (my 1 0 c)
      ∗ stg c cc0_stg4_0 (I.f4 c) ∗ RA (F := F) 4 c (my 4 0 c) ∗ stg c cc0_stg5_0 (I.f5 c) ∗ RA (F := F) 2 c (my 2 0 c))
      ⊢ iprop((∀ v57, (ow c 24 ∗ stg c cc0_stg1_0 (I.f1 c) ∗ RB (GG I) 0 c (my 0 0 c) fullShare ∗ stg c cc0_stg2_0 (I.f2 c)
      ∗ RB (GG I) 3 c (my 3 0 c) fullShare ∗ stg c cc0_stg3_0 (I.f3 c) ∗ RB (GG I) 1 c (my 1 0 c) fullShare ∗ stg c cc0_stg4_0 (I.f4 c)
      ∗ RB (GG I) 4 c (my 4 0 c) fullShare ∗ stg c cc0_stg5_0 (I.f5 c) ∗ RB (GG I) 2 c (my 2 0 c) fullShare) -∗ Q ⟨(v28 I c), v57⟩)
          -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v12 v16 (l0 I c)) Q) := by
  rw [k0_part2_eq_skeleton]; unfold k0_part2_skel
  simp only [Prog.lift, Prog.bind_op, Prog.bind_ret, Prog.pure_eq_ret]
  iintro ⟨#HR, HO, HX1, HA0, HX2, HA3, HX3, HA1, HX4, HA4, HX5, HA2⟩ Hk
  iapply (wp_load_at c (M := Memref.whole cc0_stg1_0) (S := Finset.univ) (q := fullShare) (f := I.f1 c) (P := stg c cc0_stg1_0 (I.f1 c)) rfl (Finset.subset_univ _)) $$ HX1; iintro HX1
  iapply (wp_load_any c (M := Memref.whole cc0_scratch0) (S := rows 0 (my 0 0 c)) (P := RA (F := F) 0 c (my 0 0 c)) rfl (own0_ld c)) $$ HA0; iintro %v34 HA0
  iapply (wp_store_at c (M := Memref.whole cc0_scratch0) (S := rows 0 (my 0 0 c)) (g := GG I 0) (P := RA (F := F) 0 c (my 0 0 c)) (P' := RB (GG I) 0 c (my 0 0 c) fullShare) rfl rfl (own0_st c) (own0_rd I c)) $$ HA0; iintro HBf0
  iapply (wp_load_at c (M := Memref.whole cc0_stg2_0) (S := Finset.univ) (q := fullShare) (f := I.f2 c) (P := stg c cc0_stg2_0 (I.f2 c)) rfl (Finset.subset_univ _)) $$ HX2; iintro HX2
  iapply (wp_load_any c (M := Memref.whole cc0_scratch3) (S := rows 3 (my 3 0 c)) (P := RA (F := F) 3 c (my 3 0 c)) rfl (own3_ld c)) $$ HA3; iintro %v40 HA3
  iapply (wp_store_at c (M := Memref.whole cc0_scratch3) (S := rows 3 (my 3 0 c)) (g := GG I 3) (P := RA (F := F) 3 c (my 3 0 c)) (P' := RB (GG I) 3 c (my 3 0 c) fullShare) rfl rfl (own3_st c) (own3_rd I c)) $$ HA3; iintro HBf3
  iapply (wp_load_at c (M := Memref.whole cc0_stg3_0) (S := Finset.univ) (q := fullShare) (f := I.f3 c) (P := stg c cc0_stg3_0 (I.f3 c)) rfl (Finset.subset_univ _)) $$ HX3; iintro HX3
  iapply (wp_load_any c (M := Memref.whole cc0_scratch1) (S := rows 1 (my 1 0 c)) (P := RA (F := F) 1 c (my 1 0 c)) rfl (own1_ld c)) $$ HA1; iintro %v48 HA1
  iapply (wp_store_at c (M := Memref.whole cc0_scratch1) (S := rows 1 (my 1 0 c)) (g := GG I 1) (P := RA (F := F) 1 c (my 1 0 c)) (P' := RB (GG I) 1 c (my 1 0 c) fullShare) rfl rfl (own1_st c) (own1_rd I c)) $$ HA1; iintro HBf1
  iapply (wp_load_at c (M := Memref.whole cc0_stg4_0) (S := Finset.univ) (q := fullShare) (f := I.f4 c) (P := stg c cc0_stg4_0 (I.f4 c)) rfl (Finset.subset_univ _)) $$ HX4; iintro HX4
  iapply (wp_load_any c (M := Memref.whole cc0_scratch4) (S := rows 4 (my 4 0 c)) (P := RA (F := F) 4 c (my 4 0 c)) rfl (own4_ld c)) $$ HA4; iintro %v54 HA4
  iapply (wp_store_at c (M := Memref.whole cc0_scratch4) (S := rows 4 (my 4 0 c)) (g := GG I 4) (P := RA (F := F) 4 c (my 4 0 c)) (P' := RB (GG I) 4 c (my 4 0 c) fullShare) rfl rfl (own4_st c) (own4_rd I c)) $$ HA4; iintro HBf4
  iapply (wp_load_at c (M := Memref.whole cc0_stg5_0) (S := Finset.univ) (q := fullShare) (f := I.f5 c) (P := stg c cc0_stg5_0 (I.f5 c)) rfl (Finset.subset_univ _)) $$ HX5; iintro HX5
  iapply (wp_load_any c (M := Memref.whole cc0_scratch2) (S := rows 2 (my 2 0 c)) (P := RA (F := F) 2 c (my 2 0 c)) rfl (own2_ld c)) $$ HA2; iintro %v62 HA2
  iapply (wp_store_at c (M := Memref.whole cc0_scratch2) (S := rows 2 (my 2 0 c)) (g := GG I 2) (P := RA (F := F) 2 c (my 2 0 c)) (P' := RB (GG I) 2 c (my 2 0 c) fullShare) rfl rfl (own2_st c) (own2_rd I c)) $$ HA2; iintro HBf2
  rw [wp_ret]; imodintro
  iapply Hk
  isplitl [HO]; · iexact HO
  isplitl [HX1]; · iexact HX1
  isplitl [HBf0]; · iexact HBf0
  isplitl [HX2]; · iexact HX2
  isplitl [HBf3]; · iexact HBf3
  isplitl [HX3]; · iexact HX3
  isplitl [HBf1]; · iexact HBf1
  isplitl [HX4]; · iexact HX4
  isplitl [HBf4]; · iexact HBf4
  isplitl [HX5]; · iexact HX5
  iexact HBf2

/-- Stretch 3 of the body: 2 copies issued, 2 loads, 1 store. -/
theorem part_3 (c : Dev nD) (v2 : BitVec 32) (v12 : BitVec 32) (v57 : BitVec 32) (Q : (Σ' (v73 : BitVec 32) (v92 : BitVec 32) (v93 : BitVec 32), BitVec 32) → sProp 𝕄) :
    iprop(Recs (GG I) K ∗ ow c 24 ∗ stg c cc0_stg6_0 (I.f6 c) ∗ RA (F := F) 5 c (my 5 0 c)
      ∗ cp (F := F) c 0 ∗ RB (GG I) 0 c (my 0 0 c) fullShare ∗ cp (F := F) c 1 ∗ RB (GG I) 3 c (my 3 0 c) fullShare)
      ⊢ iprop((∀ v73, ∀ v92, ∀ v93, ∀ v94, (ow c 22 ∗ stg c cc0_stg6_0 (I.f6 c) ∗ RB (GG I) 5 c (my 5 0 c) fullShare ∗ fl (F := F) c false 0
      ∗ RB (GG I) 0 c (my 0 0 c) fullShare.right ∗ fl (F := F) c false 1 ∗ RB (GG I) 3 c (my 3 0 c) fullShare.right) -∗ Q ⟨v73, v92, v93, v94⟩)
          -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v12 v57) Q) := by
  rw [k0_part3_eq_skeleton]; unfold k0_part3_skel
  simp only [Prog.lift, Prog.bind_op, Prog.bind_ret, Prog.pure_eq_ret]
  iintro ⟨#HR, HO, HX6, HA5, HC0, HBf0, HC1, HBf3⟩ Hk
  iapply (wp_load_at c (M := Memref.whole cc0_stg6_0) (S := Finset.univ) (q := fullShare) (f := I.f6 c) (P := stg c cc0_stg6_0 (I.f6 c)) rfl (Finset.subset_univ _)) $$ HX6; iintro HX6
  iapply (wp_load_any c (M := Memref.whole cc0_scratch5) (S := rows 5 (my 5 0 c)) (P := RA (F := F) 5 c (my 5 0 c)) rfl (own5_ld c)) $$ HA5; iintro %v68 HA5
  iapply (wp_store_at c (M := Memref.whole cc0_scratch5) (S := rows 5 (my 5 0 c)) (g := GG I 5) (P := RA (F := F) 5 c (my 5 0 c)) (P' := RB (GG I) 5 c (my 5 0 c) fullShare) rfl rfl (own5_st c) (own5_rd I c)) $$ HA5; iintro HBf5
  iapply (wp_cp (GG I) K c _ 0 (dev_0 c) 23 rfl (β := 0) (s' := 0) rfl rfl (isCopy_0 (GG I) c) rfl rfl) $$ [HC0 HBf0 HO]
  · isplitr; · iexact HR
    isplitl [HC0]; · iexact HC0
    isplitl [HBf0] <;> iassumption
  iintro ⟨HS0, HBr0, HO⟩
  iapply (wp_cp (GG I) K c _ 1 (dev_1 c) 22 rfl (β := 3) (s' := 0) rfl rfl (isCopy_1 (GG I) c) rfl rfl) $$ [HC1 HBf3 HO]
  · isplitr; · iexact HR
    isplitl [HC1]; · iexact HC1
    isplitl [HBf3] <;> iassumption
  iintro ⟨HS1, HBr3, HO⟩
  rw [wp_ret]; imodintro
  iapply Hk
  isplitl [HO]; · iexact HO
  isplitl [HX6]; · iexact HX6
  isplitl [HBf5]; · iexact HBf5
  isplitl [HS0]; · iexact HS0
  isplitl [HBr0]; · iexact HBr0
  isplitl [HS1]; · iexact HS1
  iexact HBr3

/-- Stretch 4 of the body: 2 copies issued. -/
theorem part_4 (c : Dev nD) (v2 : BitVec 32) (v16 : BitVec 32) (v92 : BitVec 32) (v93 : BitVec 32) (v94 : BitVec 32) (Q : (Σ' (v114 : BitVec 32), BitVec 32) → sProp 𝕄) :
    iprop(Recs (GG I) K ∗ ow c 22 ∗ cp (F := F) c 2 ∗ RB (GG I) 1 c (my 1 0 c) fullShare
      ∗ cp (F := F) c 3 ∗ RB (GG I) 4 c (my 4 0 c) fullShare)
      ⊢ iprop((∀ v114, ∀ v115, (ow c 20 ∗ fl (F := F) c false 2 ∗ RB (GG I) 1 c (my 1 0 c) fullShare.right ∗ fl (F := F) c false 3
      ∗ RB (GG I) 4 c (my 4 0 c) fullShare.right) -∗ Q ⟨v114, v115⟩)
          -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v16 v92 v93 v94) Q) := by
  rw [k0_part4_eq_skeleton]; unfold k0_part4_skel
  simp only [Prog.lift, Prog.bind_op, Prog.bind_ret, Prog.pure_eq_ret]
  iintro ⟨#HR, HO, HC2, HBf1, HC3, HBf4⟩ Hk
  iapply (wp_cp (GG I) K c _ 2 (dev_2 c) 21 rfl (β := 1) (s' := 0) rfl rfl (isCopy_2 (GG I) c) rfl rfl) $$ [HC2 HBf1 HO]
  · isplitr; · iexact HR
    isplitl [HC2]; · iexact HC2
    isplitl [HBf1] <;> iassumption
  iintro ⟨HS2, HBr1, HO⟩
  iapply (wp_cp (GG I) K c _ 3 (dev_3 c) 20 rfl (β := 4) (s' := 0) rfl rfl (isCopy_3 (GG I) c) rfl rfl) $$ [HC3 HBf4 HO]
  · isplitr; · iexact HR
    isplitl [HC3]; · iexact HC3
    isplitl [HBf4] <;> iassumption
  iintro ⟨HS3, HBr4, HO⟩
  rw [wp_ret]; imodintro
  iapply Hk
  isplitl [HO]; · iexact HO
  isplitl [HS2]; · iexact HS2
  isplitl [HBr1]; · iexact HBr1
  isplitl [HS3]; · iexact HS3
  iexact HBr4

/-- Stretch 5 of the body: 2 copies issued, 1 wait, 2 loads. -/
theorem part_5 (c : Dev nD) (v2 : BitVec 32) (v73 : BitVec 32) (v114 : BitVec 32) (v115 : BitVec 32) (l : List (Bool × J)) (Q : (Σ' (v143 : FVec F S512x256 .f32) (v150 : BitVec 32), BitVec 32) → sProp 𝕄) :
    iprop(Recs (GG I) K ∗ ow c 20 ∗ dnL (F := F) c l ∗ cp (F := F) c 4
      ∗ RB (GG I) 2 c (my 2 0 c) fullShare ∗ cp (F := F) c 5 ∗ RB (GG I) 5 c (my 5 0 c) fullShare ∗ RB (GG I) 0 c (my 0 0 c) fullShare.right
      ∗ RB (GG I) 3 c (my 3 0 c) fullShare.right ∗ fl (F := F) c true 0)
      ⊢ iprop((∀ v150, ∀ c0_i32_119, (ow c 18 ∗ dnL (F := F) c ((true, 0) :: l) ∗ fl (F := F) c false 4 ∗ RB (GG I) 2 c (my 2 0 c) fullShare.right
      ∗ fl (F := F) c false 5 ∗ RB (GG I) 5 c (my 5 0 c) fullShare.right ∗ RB (GG I) 0 c (my 0 0 c) fullShare.right ∗ RB (GG I) 3 c (my 3 0 c) fullShare.right
      ∗ RB (GG I) 0 c (pb 0 0 c) fullShare) -∗ Q ⟨(v143 I c), v150, c0_i32_119⟩)
          -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 (v28 I c) v73 v114 v115) Q) := by
  rw [k0_part5_eq_skeleton]; unfold k0_part5_skel
  simp only [Prog.lift, Prog.bind_op, Prog.bind_ret, Prog.pure_eq_ret]
  iintro ⟨#HR, HO, HL, HC4, HBf2, HC5, HBf5, HBr0, HBr3, HR0⟩ Hk
  iapply (wp_cp (GG I) K c _ 4 (dev_4 c) 19 rfl (β := 2) (s' := 0) rfl rfl (isCopy_4 (GG I) c) rfl rfl) $$ [HC4 HBf2 HO]
  · isplitr; · iexact HR
    isplitl [HC4]; · iexact HC4
    isplitl [HBf2] <;> iassumption
  iintro ⟨HS4, HBr2, HO⟩
  iapply (wp_cp (GG I) K c _ 5 (dev_5 c) 18 rfl (β := 5) (s' := 0) rfl rfl (isCopy_5 (GG I) c) rfl rfl) $$ [HC5 HBf5 HO]
  · isplitr; · iexact HR
    isplitl [HC5]; · iexact HC5
    isplitl [HBf5] <;> iassumption
  iintro ⟨HS5, HBr5, HO⟩
  iapply (wp_load_at c (M := Memref.whole cc0_scratch0) (f := g0 I) (P := RB (GG I) 0 c (my 0 0 c) fullShare.right) rfl (own0_ld c)) $$ HBr0; iintro HBr0
  iapply (wp_load_at c (M := Memref.whole cc0_scratch3) (f := g3 I) (P := RB (GG I) 3 c (my 3 0 c) fullShare.right) rfl (own3_ld c)) $$ HBr3; iintro HBr3
  iapply (wp_rcv (GG I) K c 0 18 (by decide) (by decide) (β := 0) (s' := 0) (l := l) rfl rfl rfl rfl) $$ [HR0 HO HL]
  · isplitr; · iexact HR
    isplitl [HR0]; · iexact HR0
    isplitl [HO] <;> iassumption
  iintro ⟨HL, HP0, HO⟩
  rw [wp_ret]; imodintro
  iapply Hk
  isplitl [HO]; · iexact HO
  isplitl [HL]; · iexact HL
  isplitl [HS4]; · iexact HS4
  isplitl [HBr2]; · iexact HBr2
  isplitl [HS5]; · iexact HS5
  isplitl [HBr5]; · iexact HBr5
  isplitl [HBr0]; · iexact HBr0
  isplitl [HBr3]; · iexact HBr3
  iexact HP0

/-- Stretch 6 of the body: 4 waits. -/
theorem part_6 (c : Dev nD) (v94 : BitVec 32) (v150 : BitVec 32) (c0_i32_119 : BitVec 32) (l : List (Bool × J)) (Q : (PUnit) → sProp 𝕄) :
    iprop(Recs (GG I) K ∗ ow c 18 ∗ dnL (F := F) c l ∗ fl (F := F) c true 1
      ∗ fl (F := F) c false 0 ∗ RB (GG I) 0 c (pb 0 0 c) fullShare ∗ RB (GG I) 0 c (my 0 0 c) fullShare.right ∗ fl (F := F) c false 1
      ∗ RB (GG I) 3 c (my 3 0 c) fullShare.right ∗ fl (F := F) c true 2)
      ⊢ iprop(((ow c 18 ∗ dnL (F := F) c ((true, 2) :: (false, 1) :: (false, 0) :: (true, 1) :: l) ∗ RB (GG I) 0 c (my 0 1 c) fullShare ∗ RB (GG I) 3 c (my 3 1 c) fullShare
      ∗ RB (GG I) 1 c (pb 1 0 c) fullShare) -∗ Q ⟨⟩)
          -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v94 v150 c0_i32_119) Q) := by
  rw [k0_part6_eq_skeleton]; unfold k0_part6_skel
  simp only [Prog.lift, Prog.bind_op, Prog.bind_ret, Prog.pure_eq_ret]
  iintro ⟨#HR, HO, HL, HR1, HS0, HP0, HBr0, HS1, HBr3, HR2⟩ Hk
  iapply (wp_rcv (GG I) K c 1 18 (by decide) (by decide) (β := 3) (s' := 0) (l := l) rfl rfl rfl rfl) $$ [HR1 HO HL]
  · isplitr; · iexact HR
    isplitl [HR1]; · iexact HR1
    isplitl [HO] <;> iassumption
  iintro ⟨HL, HP3, HO⟩
  iapply (wp_snt (GG I) K c 0 18 (by decide) (β := 0) (s' := 0) (l := ((true, 1) :: l)) rfl rfl rfl rfl) $$ [HS0 HO HL]
  · isplitr; · iexact HR
    isplitl [HS0]; · iexact HS0
    isplitl [HO] <;> iassumption
  iintro ⟨HL, HBl0, HO⟩
  ihave HBf0 := (RB_step' (GG I) 0 0 c (s0 := 0) (s1 := 1) rfl rfl) $$ [HBl0 HBr0 HP0]
  · isplitl [HBl0]; · iexact HBl0
    isplitl [HBr0] <;> iassumption
  iapply (wp_snt (GG I) K c 1 18 (by decide) (β := 3) (s' := 0) (l := ((false, 0) :: (true, 1) :: l)) rfl rfl rfl rfl) $$ [HS1 HO HL]
  · isplitr; · iexact HR
    isplitl [HS1]; · iexact HS1
    isplitl [HO] <;> iassumption
  iintro ⟨HL, HBl3, HO⟩
  ihave HBf3 := (RB_step' (GG I) 3 0 c (s0 := 0) (s1 := 1) rfl rfl) $$ [HBl3 HBr3 HP3]
  · isplitl [HBl3]; · iexact HBl3
    isplitl [HBr3] <;> iassumption
  iapply (wp_rcv (GG I) K c 2 18 (by decide) (by decide) (β := 1) (s' := 0) (l := ((false, 1) :: (false, 0) :: (true, 1) :: l)) rfl rfl rfl rfl) $$ [HR2 HO HL]
  · isplitr; · iexact HR
    isplitl [HR2]; · iexact HR2
    isplitl [HO] <;> iassumption
  iintro ⟨HL, HP1, HO⟩
  rw [wp_ret]; imodintro
  iapply Hk
  isplitl [HO]; · iexact HO
  isplitl [HL]; · iexact HL
  isplitl [HBf0]; · iexact HBf0
  isplitl [HBf3]; · iexact HBf3
  iexact HP1

/-- Stretch 7 of the body: 5 waits. -/
theorem part_7 (c : Dev nD) (v115 : BitVec 32) (l : List (Bool × J)) (Q : (PUnit) → sProp 𝕄) :
    iprop(Recs (GG I) K ∗ ow c 18 ∗ dnL (F := F) c l ∗ fl (F := F) c true 3
      ∗ fl (F := F) c false 2 ∗ RB (GG I) 1 c (pb 1 0 c) fullShare ∗ RB (GG I) 1 c (my 1 0 c) fullShare.right ∗ fl (F := F) c false 3
      ∗ RB (GG I) 4 c (my 4 0 c) fullShare.right ∗ fl (F := F) c true 4 ∗ fl (F := F) c true 5)
      ⊢ iprop(((ow c 18 ∗ dnL (F := F) c ((true, 5) :: (true, 4) :: (false, 3) :: (false, 2) :: (true, 3) :: l) ∗ RB (GG I) 1 c (my 1 1 c) fullShare ∗ RB (GG I) 4 c (my 4 1 c) fullShare
      ∗ RB (GG I) 2 c (pb 2 0 c) fullShare ∗ RB (GG I) 5 c (pb 5 0 c) fullShare) -∗ Q ⟨⟩)
          -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v115) Q) := by
  rw [k0_part7_eq_skeleton]; unfold k0_part7_skel
  simp only [Prog.lift, Prog.bind_op, Prog.bind_ret, Prog.pure_eq_ret]
  iintro ⟨#HR, HO, HL, HR3, HS2, HP1, HBr1, HS3, HBr4, HR4, HR5⟩ Hk
  iapply (wp_rcv (GG I) K c 3 18 (by decide) (by decide) (β := 4) (s' := 0) (l := l) rfl rfl rfl rfl) $$ [HR3 HO HL]
  · isplitr; · iexact HR
    isplitl [HR3]; · iexact HR3
    isplitl [HO] <;> iassumption
  iintro ⟨HL, HP4, HO⟩
  iapply (wp_snt (GG I) K c 2 18 (by decide) (β := 1) (s' := 0) (l := ((true, 3) :: l)) rfl rfl rfl rfl) $$ [HS2 HO HL]
  · isplitr; · iexact HR
    isplitl [HS2]; · iexact HS2
    isplitl [HO] <;> iassumption
  iintro ⟨HL, HBl1, HO⟩
  ihave HBf1 := (RB_step' (GG I) 1 0 c (s0 := 0) (s1 := 1) rfl rfl) $$ [HBl1 HBr1 HP1]
  · isplitl [HBl1]; · iexact HBl1
    isplitl [HBr1] <;> iassumption
  iapply (wp_snt (GG I) K c 3 18 (by decide) (β := 4) (s' := 0) (l := ((false, 2) :: (true, 3) :: l)) rfl rfl rfl rfl) $$ [HS3 HO HL]
  · isplitr; · iexact HR
    isplitl [HS3]; · iexact HS3
    isplitl [HO] <;> iassumption
  iintro ⟨HL, HBl4, HO⟩
  ihave HBf4 := (RB_step' (GG I) 4 0 c (s0 := 0) (s1 := 1) rfl rfl) $$ [HBl4 HBr4 HP4]
  · isplitl [HBl4]; · iexact HBl4
    isplitl [HBr4] <;> iassumption
  iapply (wp_rcv (GG I) K c 4 18 (by decide) (by decide) (β := 2) (s' := 0) (l := ((false, 3) :: (false, 2) :: (true, 3) :: l)) rfl rfl rfl rfl) $$ [HR4 HO HL]
  · isplitr; · iexact HR
    isplitl [HR4]; · iexact HR4
    isplitl [HO] <;> iassumption
  iintro ⟨HL, HP2, HO⟩
  iapply (wp_rcv (GG I) K c 5 18 (by decide) (by decide) (β := 5) (s' := 0) (l := ((true, 4) :: (false, 3) :: (false, 2) :: (true, 3) :: l)) rfl rfl rfl rfl) $$ [HR5 HO HL]
  · isplitr; · iexact HR
    isplitl [HR5]; · iexact HR5
    isplitl [HO] <;> iassumption
  iintro ⟨HL, HP5, HO⟩
  rw [wp_ret]; imodintro
  iapply Hk
  isplitl [HO]; · iexact HO
  isplitl [HL]; · iexact HL
  isplitl [HBf1]; · iexact HBf1
  isplitl [HBf4]; · iexact HBf4
  isplitl [HP2]; · iexact HP2
  iexact HP5

/-- Stretch 8 of the body: 1 copy issued, 2 waits. -/
theorem part_8 (c : Dev nD) (v2 : BitVec 32) (l : List (Bool × J)) (Q : (Σ' (v205 : BitVec 32), BitVec 32) → sProp 𝕄) :
    iprop(Recs (GG I) K ∗ ow c 18 ∗ dnL (F := F) c l ∗ fl (F := F) c false 4
      ∗ RB (GG I) 2 c (pb 2 0 c) fullShare ∗ RB (GG I) 2 c (my 2 0 c) fullShare.right ∗ fl (F := F) c false 5 ∗ RB (GG I) 5 c (pb 5 0 c) fullShare
      ∗ RB (GG I) 5 c (my 5 0 c) fullShare.right ∗ cp (F := F) c 6 ∗ RB (GG I) 0 c (my 0 1 c) fullShare)
      ⊢ iprop((∀ v205, ∀ v206, (ow c 17 ∗ dnL (F := F) c ((false, 5) :: (false, 4) :: l) ∗ RB (GG I) 2 c (my 2 1 c) fullShare ∗ RB (GG I) 5 c (my 5 1 c) fullShare
      ∗ fl (F := F) c false 6 ∗ RB (GG I) 0 c (my 0 1 c) fullShare.right) -∗ Q ⟨v205, v206⟩)
          -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2) Q) := by
  rw [k0_part8_eq_skeleton]; unfold k0_part8_skel
  simp only [Prog.lift, Prog.bind_op, Prog.bind_ret, Prog.pure_eq_ret]
  iintro ⟨#HR, HO, HL, HS4, HP2, HBr2, HS5, HP5, HBr5, HC6, HBf0⟩ Hk
  iapply (wp_snt (GG I) K c 4 18 (by decide) (β := 2) (s' := 0) (l := l) rfl rfl rfl rfl) $$ [HS4 HO HL]
  · isplitr; · iexact HR
    isplitl [HS4]; · iexact HS4
    isplitl [HO] <;> iassumption
  iintro ⟨HL, HBl2, HO⟩
  ihave HBf2 := (RB_step' (GG I) 2 0 c (s0 := 0) (s1 := 1) rfl rfl) $$ [HBl2 HBr2 HP2]
  · isplitl [HBl2]; · iexact HBl2
    isplitl [HBr2] <;> iassumption
  iapply (wp_snt (GG I) K c 5 18 (by decide) (β := 5) (s' := 0) (l := ((false, 4) :: l)) rfl rfl rfl rfl) $$ [HS5 HO HL]
  · isplitr; · iexact HR
    isplitl [HS5]; · iexact HS5
    isplitl [HO] <;> iassumption
  iintro ⟨HL, HBl5, HO⟩
  ihave HBf5 := (RB_step' (GG I) 5 0 c (s0 := 0) (s1 := 1) rfl rfl) $$ [HBl5 HBr5 HP5]
  · isplitl [HBl5]; · iexact HBl5
    isplitl [HBr5] <;> iassumption
  iapply (wp_cp (GG I) K c _ 6 (dev_6 c) 17 rfl (β := 0) (s' := 1) rfl rfl (isCopy_6 (GG I) c) rfl rfl) $$ [HC6 HBf0 HO]
  · isplitr; · iexact HR
    isplitl [HC6]; · iexact HC6
    isplitl [HBf0] <;> iassumption
  iintro ⟨HS6, HBr0, HO⟩
  rw [wp_ret]; imodintro
  iapply Hk
  isplitl [HO]; · iexact HO
  isplitl [HL]; · iexact HL
  isplitl [HBf2]; · iexact HBf2
  isplitl [HBf5]; · iexact HBf5
  isplitl [HS6]; · iexact HS6
  iexact HBr0

end Cert.MlpProof

end
-- ==== Proof.PartsB.lean ====
/-
`PartsB`: the run through stretches 9 to 15 of the printed body, each from what it touches to what it leaves.
-/
module

public import proofs.«01_k».proof.Proof.Moves

@[expose] public section

set_option maxRecDepth 4000

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × CI → ℕ) (I : Inp F)

/-- Stretch 9 of the body: 3 copies issued. -/
theorem part_9 (c : Dev nD) (v2 : BitVec 32) (v12 : BitVec 32) (v16 : BitVec 32) (v205 : BitVec 32) (Q : (Σ' (v227 : BitVec 32) (v247 : BitVec 32), BitVec 32) → sProp 𝕄) :
    iprop(Recs (GG I) K ∗ ow c 17 ∗ cp (F := F) c 7 ∗ RB (GG I) 3 c (my 3 1 c) fullShare
      ∗ cp (F := F) c 8 ∗ RB (GG I) 1 c (my 1 1 c) fullShare ∗ cp (F := F) c 9 ∗ RB (GG I) 4 c (my 4 1 c) fullShare)
      ⊢ iprop((∀ v227, ∀ v247, ∀ v248, (ow c 14 ∗ fl (F := F) c false 7 ∗ RB (GG I) 3 c (my 3 1 c) fullShare.right ∗ fl (F := F) c false 8
      ∗ RB (GG I) 1 c (my 1 1 c) fullShare.right ∗ fl (F := F) c false 9 ∗ RB (GG I) 4 c (my 4 1 c) fullShare.right) -∗ Q ⟨v227, v247, v248⟩)
          -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v12 v16 v205) Q) := by
  rw [k0_part9_eq_skeleton]; unfold k0_part9_skel
  simp only [Prog.lift, Prog.bind_op, Prog.bind_ret, Prog.pure_eq_ret]
  iintro ⟨#HR, HO, HC7, HBf3, HC8, HBf1, HC9, HBf4⟩ Hk
  iapply (wp_cp (GG I) K c _ 7 (dev_7 c) 16 rfl (β := 3) (s' := 1) rfl rfl (isCopy_7 (GG I) c) rfl rfl) $$ [HC7 HBf3 HO]
  · isplitr; · iexact HR
    isplitl [HC7]; · iexact HC7
    isplitl [HBf3] <;> iassumption
  iintro ⟨HS7, HBr3, HO⟩
  iapply (wp_cp (GG I) K c _ 8 (dev_8 c) 15 rfl (β := 1) (s' := 1) rfl rfl (isCopy_8 (GG I) c) rfl rfl) $$ [HC8 HBf1 HO]
  · isplitr; · iexact HR
    isplitl [HC8]; · iexact HC8
    isplitl [HBf1] <;> iassumption
  iintro ⟨HS8, HBr1, HO⟩
  iapply (wp_cp (GG I) K c _ 9 (dev_9 c) 14 rfl (β := 4) (s' := 1) rfl rfl (isCopy_9 (GG I) c) rfl rfl) $$ [HC9 HBf4 HO]
  · isplitr; · iexact HR
    isplitl [HC9]; · iexact HC9
    isplitl [HBf4] <;> iassumption
  iintro ⟨HS9, HBr4, HO⟩
  rw [wp_ret]; imodintro
  iapply Hk
  isplitl [HO]; · iexact HO
  isplitl [HS7]; · iexact HS7
  isplitl [HBr3]; · iexact HBr3
  isplitl [HS8]; · iexact HS8
  isplitl [HBr1]; · iexact HBr1
  isplitl [HS9]; · iexact HS9
  iexact HBr4

/-- Stretch 10 of the body: 2 copies issued, 2 loads. -/
theorem part_10 (c : Dev nD) (v2 : BitVec 32) (v206 : BitVec 32) (v247 : BitVec 32) (v248 : BitVec 32) (Q : (FVec F S512x256 .f32) → sProp 𝕄) :
    iprop(Recs (GG I) K ∗ ow c 14 ∗ cp (F := F) c 10 ∗ RB (GG I) 2 c (my 2 1 c) fullShare
      ∗ cp (F := F) c 11 ∗ RB (GG I) 5 c (my 5 1 c) fullShare ∗ RB (GG I) 0 c (my 0 1 c) fullShare.right ∗ RB (GG I) 3 c (my 3 1 c) fullShare.right)
      ⊢ iprop(((ow c 12 ∗ fl (F := F) c false 10 ∗ RB (GG I) 2 c (my 2 1 c) fullShare.right ∗ fl (F := F) c false 11
      ∗ RB (GG I) 5 c (my 5 1 c) fullShare.right ∗ RB (GG I) 0 c (my 0 1 c) fullShare.right ∗ RB (GG I) 3 c (my 3 1 c) fullShare.right) -∗ Q (v278 I c))
          -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 (v28 I c) (v143 I c) v206 v247 v248) Q) := by
  rw [k0_part10_eq_skeleton]; unfold k0_part10_skel
  simp only [Prog.lift, Prog.bind_op, Prog.bind_ret, Prog.pure_eq_ret]
  iintro ⟨#HR, HO, HC10, HBf2, HC11, HBf5, HBr0, HBr3⟩ Hk
  iapply (wp_cp (GG I) K c _ 10 (dev_10 c) 13 rfl (β := 2) (s' := 1) rfl rfl (isCopy_10 (GG I) c) rfl rfl) $$ [HC10 HBf2 HO]
  · isplitr; · iexact HR
    isplitl [HC10]; · iexact HC10
    isplitl [HBf2] <;> iassumption
  iintro ⟨HS10, HBr2, HO⟩
  iapply (wp_cp (GG I) K c _ 11 (dev_11 c) 12 rfl (β := 5) (s' := 1) rfl rfl (isCopy_11 (GG I) c) rfl rfl) $$ [HC11 HBf5 HO]
  · isplitr; · iexact HR
    isplitl [HC11]; · iexact HC11
    isplitl [HBf5] <;> iassumption
  iintro ⟨HS11, HBr5, HO⟩
  iapply (wp_load_at c (M := Memref.whole cc0_scratch0) (f := g0 I) (P := RB (GG I) 0 c (my 0 1 c) fullShare.right) rfl (sec0_ld c)) $$ HBr0; iintro HBr0
  iapply (wp_load_at c (M := Memref.whole cc0_scratch3) (f := g3 I) (P := RB (GG I) 3 c (my 3 1 c) fullShare.right) rfl (sec3_ld c)) $$ HBr3; iintro HBr3
  rw [wp_ret]; imodintro
  iapply Hk
  isplitl [HO]; · iexact HO
  isplitl [HS10]; · iexact HS10
  isplitl [HBr2]; · iexact HBr2
  isplitl [HS11]; · iexact HS11
  isplitl [HBr5]; · iexact HBr5
  isplitl [HBr0]; · iexact HBr0
  iexact HBr3

/-- Stretch 11 of the body: 5 waits. -/
theorem part_11 (c : Dev nD) (v206 : BitVec 32) (v227 : BitVec 32) (l : List (Bool × J)) (Q : (PUnit) → sProp 𝕄) :
    iprop(Recs (GG I) K ∗ ow c 12 ∗ dnL (F := F) c l ∗ fl (F := F) c true 6
      ∗ fl (F := F) c true 7 ∗ fl (F := F) c false 6 ∗ RB (GG I) 0 c (my 0 1 c) fullShare.right ∗ fl (F := F) c false 7
      ∗ RB (GG I) 3 c (my 3 1 c) fullShare.right ∗ fl (F := F) c true 8)
      ⊢ iprop(((ow c 12 ∗ dnL (F := F) c ((true, 8) :: (false, 7) :: (false, 6) :: (true, 7) :: (true, 6) :: l) ∗ RB (GG I) 0 c (my 0 2 c) fullShare ∗ RB (GG I) 3 c (my 3 2 c) fullShare
      ∗ RB (GG I) 1 c (pb 1 1 c) fullShare) -∗ Q ⟨⟩)
          -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v206 v227) Q) := by
  rw [k0_part11_eq_skeleton]; unfold k0_part11_skel
  simp only [Prog.lift, Prog.bind_op, Prog.bind_ret, Prog.pure_eq_ret]
  iintro ⟨#HR, HO, HL, HR6, HR7, HS6, HBr0, HS7, HBr3, HR8⟩ Hk
  iapply (wp_rcv (GG I) K c 6 12 (by decide) (by decide) (β := 0) (s' := 1) (l := l) rfl rfl rfl rfl) $$ [HR6 HO HL]
  · isplitr; · iexact HR
    isplitl [HR6]; · iexact HR6
    isplitl [HO] <;> iassumption
  iintro ⟨HL, HP0, HO⟩
  iapply (wp_rcv (GG I) K c 7 12 (by decide) (by decide) (β := 3) (s' := 1) (l := ((true, 6) :: l)) rfl rfl rfl rfl) $$ [HR7 HO HL]
  · isplitr; · iexact HR
    isplitl [HR7]; · iexact HR7
    isplitl [HO] <;> iassumption
  iintro ⟨HL, HP3, HO⟩
  iapply (wp_snt (GG I) K c 6 12 (by decide) (β := 0) (s' := 1) (l := ((true, 7) :: (true, 6) :: l)) rfl rfl rfl rfl) $$ [HS6 HO HL]
  · isplitr; · iexact HR
    isplitl [HS6]; · iexact HS6
    isplitl [HO] <;> iassumption
  iintro ⟨HL, HBl0, HO⟩
  ihave HBf0 := (RB_step' (GG I) 0 1 c (s0 := 1) (s1 := 2) rfl rfl) $$ [HBl0 HBr0 HP0]
  · isplitl [HBl0]; · iexact HBl0
    isplitl [HBr0] <;> iassumption
  iapply (wp_snt (GG I) K c 7 12 (by decide) (β := 3) (s' := 1) (l := ((false, 6) :: (true, 7) :: (true, 6) :: l)) rfl rfl rfl rfl) $$ [HS7 HO HL]
  · isplitr; · iexact HR
    isplitl [HS7]; · iexact HS7
    isplitl [HO] <;> iassumption
  iintro ⟨HL, HBl3, HO⟩
  ihave HBf3 := (RB_step' (GG I) 3 1 c (s0 := 1) (s1 := 2) rfl rfl) $$ [HBl3 HBr3 HP3]
  · isplitl [HBl3]; · iexact HBl3
    isplitl [HBr3] <;> iassumption
  iapply (wp_rcv (GG I) K c 8 12 (by decide) (by decide) (β := 1) (s' := 1) (l := ((false, 7) :: (false, 6) :: (true, 7) :: (true, 6) :: l)) rfl rfl rfl rfl) $$ [HR8 HO HL]
  · isplitr; · iexact HR
    isplitl [HR8]; · iexact HR8
    isplitl [HO] <;> iassumption
  iintro ⟨HL, HP1, HO⟩
  rw [wp_ret]; imodintro
  iapply Hk
  isplitl [HO]; · iexact HO
  isplitl [HL]; · iexact HL
  isplitl [HBf0]; · iexact HBf0
  isplitl [HBf3]; · iexact HBf3
  iexact HP1

/-- Stretch 12 of the body: 4 waits. -/
theorem part_12 (c : Dev nD) (v227 : BitVec 32) (v248 : BitVec 32) (l : List (Bool × J)) (Q : (BitVec 32) → sProp 𝕄) :
    iprop(Recs (GG I) K ∗ ow c 12 ∗ dnL (F := F) c l ∗ fl (F := F) c true 9
      ∗ fl (F := F) c false 8 ∗ RB (GG I) 1 c (pb 1 1 c) fullShare ∗ RB (GG I) 1 c (my 1 1 c) fullShare.right ∗ fl (F := F) c false 9
      ∗ RB (GG I) 4 c (my 4 1 c) fullShare.right ∗ fl (F := F) c true 10)
      ⊢ iprop((∀ v325, (ow c 12 ∗ dnL (F := F) c ((true, 10) :: (false, 9) :: (false, 8) :: (true, 9) :: l) ∗ RB (GG I) 1 c (my 1 2 c) fullShare ∗ RB (GG I) 4 c (my 4 2 c) fullShare
      ∗ RB (GG I) 2 c (pb 2 1 c) fullShare) -∗ Q v325)
          -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v227 v248) Q) := by
  rw [k0_part12_eq_skeleton]; unfold k0_part12_skel
  simp only [Prog.lift, Prog.bind_op, Prog.bind_ret, Prog.pure_eq_ret]
  iintro ⟨#HR, HO, HL, HR9, HS8, HP1, HBr1, HS9, HBr4, HR10⟩ Hk
  iapply (wp_rcv (GG I) K c 9 12 (by decide) (by decide) (β := 4) (s' := 1) (l := l) rfl rfl rfl rfl) $$ [HR9 HO HL]
  · isplitr; · iexact HR
    isplitl [HR9]; · iexact HR9
    isplitl [HO] <;> iassumption
  iintro ⟨HL, HP4, HO⟩
  iapply (wp_snt (GG I) K c 8 12 (by decide) (β := 1) (s' := 1) (l := ((true, 9) :: l)) rfl rfl rfl rfl) $$ [HS8 HO HL]
  · isplitr; · iexact HR
    isplitl [HS8]; · iexact HS8
    isplitl [HO] <;> iassumption
  iintro ⟨HL, HBl1, HO⟩
  ihave HBf1 := (RB_step' (GG I) 1 1 c (s0 := 1) (s1 := 2) rfl rfl) $$ [HBl1 HBr1 HP1]
  · isplitl [HBl1]; · iexact HBl1
    isplitl [HBr1] <;> iassumption
  iapply (wp_snt (GG I) K c 9 12 (by decide) (β := 4) (s' := 1) (l := ((false, 8) :: (true, 9) :: l)) rfl rfl rfl rfl) $$ [HS9 HO HL]
  · isplitr; · iexact HR
    isplitl [HS9]; · iexact HS9
    isplitl [HO] <;> iassumption
  iintro ⟨HL, HBl4, HO⟩
  ihave HBf4 := (RB_step' (GG I) 4 1 c (s0 := 1) (s1 := 2) rfl rfl) $$ [HBl4 HBr4 HP4]
  · isplitl [HBl4]; · iexact HBl4
    isplitl [HBr4] <;> iassumption
  iapply (wp_rcv (GG I) K c 10 12 (by decide) (by decide) (β := 2) (s' := 1) (l := ((false, 9) :: (false, 8) :: (true, 9) :: l)) rfl rfl rfl rfl) $$ [HR10 HO HL]
  · isplitr; · iexact HR
    isplitl [HR10]; · iexact HR10
    isplitl [HO] <;> iassumption
  iintro ⟨HL, HP2, HO⟩
  rw [wp_ret]; imodintro
  iapply Hk
  isplitl [HO]; · iexact HO
  isplitl [HL]; · iexact HL
  isplitl [HBf1]; · iexact HBf1
  isplitl [HBf4]; · iexact HBf4
  iexact HP2

/-- Stretch 13 of the body: 1 copy issued, 3 waits. -/
theorem part_13 (c : Dev nD) (v2 : BitVec 32) (v325 : BitVec 32) (l : List (Bool × J)) (Q : (Σ' (v340 : BitVec 32), BitVec 32) → sProp 𝕄) :
    iprop(Recs (GG I) K ∗ ow c 12 ∗ dnL (F := F) c l ∗ fl (F := F) c true 11
      ∗ fl (F := F) c false 10 ∗ RB (GG I) 2 c (pb 2 1 c) fullShare ∗ RB (GG I) 2 c (my 2 1 c) fullShare.right ∗ fl (F := F) c false 11
      ∗ RB (GG I) 5 c (my 5 1 c) fullShare.right ∗ cp (F := F) c 12 ∗ RB (GG I) 0 c (my 0 2 c) fullShare)
      ⊢ iprop((∀ v340, ∀ v341, (ow c 11 ∗ dnL (F := F) c ((false, 11) :: (false, 10) :: (true, 11) :: l) ∗ RB (GG I) 2 c (my 2 2 c) fullShare ∗ RB (GG I) 5 c (my 5 2 c) fullShare
      ∗ fl (F := F) c false 12 ∗ RB (GG I) 0 c (my 0 2 c) fullShare.right) -∗ Q ⟨v340, v341⟩)
          -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v325) Q) := by
  rw [k0_part13_eq_skeleton]; unfold k0_part13_skel
  simp only [Prog.lift, Prog.bind_op, Prog.bind_ret, Prog.pure_eq_ret]
  iintro ⟨#HR, HO, HL, HR11, HS10, HP2, HBr2, HS11, HBr5, HC12, HBf0⟩ Hk
  iapply (wp_rcv (GG I) K c 11 12 (by decide) (by decide) (β := 5) (s' := 1) (l := l) rfl rfl rfl rfl) $$ [HR11 HO HL]
  · isplitr; · iexact HR
    isplitl [HR11]; · iexact HR11
    isplitl [HO] <;> iassumption
  iintro ⟨HL, HP5, HO⟩
  iapply (wp_snt (GG I) K c 10 12 (by decide) (β := 2) (s' := 1) (l := ((true, 11) :: l)) rfl rfl rfl rfl) $$ [HS10 HO HL]
  · isplitr; · iexact HR
    isplitl [HS10]; · iexact HS10
    isplitl [HO] <;> iassumption
  iintro ⟨HL, HBl2, HO⟩
  ihave HBf2 := (RB_step' (GG I) 2 1 c (s0 := 1) (s1 := 2) rfl rfl) $$ [HBl2 HBr2 HP2]
  · isplitl [HBl2]; · iexact HBl2
    isplitl [HBr2] <;> iassumption
  iapply (wp_snt (GG I) K c 11 12 (by decide) (β := 5) (s' := 1) (l := ((false, 10) :: (true, 11) :: l)) rfl rfl rfl rfl) $$ [HS11 HO HL]
  · isplitr; · iexact HR
    isplitl [HS11]; · iexact HS11
    isplitl [HO] <;> iassumption
  iintro ⟨HL, HBl5, HO⟩
  ihave HBf5 := (RB_step' (GG I) 5 1 c (s0 := 1) (s1 := 2) rfl rfl) $$ [HBl5 HBr5 HP5]
  · isplitl [HBl5]; · iexact HBl5
    isplitl [HBr5] <;> iassumption
  iapply (wp_cp (GG I) K c _ 12 (dev_12 c) 11 rfl (β := 0) (s' := 2) rfl rfl (isCopy_12 (GG I) c) rfl rfl) $$ [HC12 HBf0 HO]
  · isplitr; · iexact HR
    isplitl [HC12]; · iexact HC12
    isplitl [HBf0] <;> iassumption
  iintro ⟨HS12, HBr0, HO⟩
  rw [wp_ret]; imodintro
  iapply Hk
  isplitl [HO]; · iexact HO
  isplitl [HL]; · iexact HL
  isplitl [HBf2]; · iexact HBf2
  isplitl [HBf5]; · iexact HBf5
  isplitl [HS12]; · iexact HS12
  iexact HBr0

/-- Stretch 14 of the body: 3 copies issued. -/
theorem part_14 (c : Dev nD) (v2 : BitVec 32) (v12 : BitVec 32) (v340 : BitVec 32) (v341 : BitVec 32) (Q : (Σ' (v361 : BitVec 32) (v362 : BitVec 32), BitVec 32) → sProp 𝕄) :
    iprop(Recs (GG I) K ∗ ow c 11 ∗ cp (F := F) c 13 ∗ RB (GG I) 3 c (my 3 2 c) fullShare
      ∗ cp (F := F) c 14 ∗ RB (GG I) 1 c (my 1 2 c) fullShare ∗ cp (F := F) c 15 ∗ RB (GG I) 4 c (my 4 2 c) fullShare)
      ⊢ iprop((∀ v361, ∀ v362, ∀ c512_i32_396, (ow c 8 ∗ fl (F := F) c false 13 ∗ RB (GG I) 3 c (my 3 2 c) fullShare.right ∗ fl (F := F) c false 14
      ∗ RB (GG I) 1 c (my 1 2 c) fullShare.right ∗ fl (F := F) c false 15 ∗ RB (GG I) 4 c (my 4 2 c) fullShare.right) -∗ Q ⟨v361, v362, c512_i32_396⟩)
          -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v12 v340 v341) Q) := by
  rw [k0_part14_eq_skeleton]; unfold k0_part14_skel
  simp only [Prog.lift, Prog.bind_op, Prog.bind_ret, Prog.pure_eq_ret]
  iintro ⟨#HR, HO, HC13, HBf3, HC14, HBf1, HC15, HBf4⟩ Hk
  iapply (wp_cp (GG I) K c _ 13 (dev_13 c) 10 rfl (β := 3) (s' := 2) rfl rfl (isCopy_13 (GG I) c) rfl rfl) $$ [HC13 HBf3 HO]
  · isplitr; · iexact HR
    isplitl [HC13]; · iexact HC13
    isplitl [HBf3] <;> iassumption
  iintro ⟨HS13, HBr3, HO⟩
  iapply (wp_cp (GG I) K c _ 14 (dev_14 c) 9 rfl (β := 1) (s' := 2) rfl rfl (isCopy_14 (GG I) c) rfl rfl) $$ [HC14 HBf1 HO]
  · isplitr; · iexact HR
    isplitl [HC14]; · iexact HC14
    isplitl [HBf1] <;> iassumption
  iintro ⟨HS14, HBr1, HO⟩
  iapply (wp_cp (GG I) K c _ 15 (dev_15 c) 8 rfl (β := 4) (s' := 2) rfl rfl (isCopy_15 (GG I) c) rfl rfl) $$ [HC15 HBf4 HO]
  · isplitr; · iexact HR
    isplitl [HC15]; · iexact HC15
    isplitl [HBf4] <;> iassumption
  iintro ⟨HS15, HBr4, HO⟩
  rw [wp_ret]; imodintro
  iapply Hk
  isplitl [HO]; · iexact HO
  isplitl [HS13]; · iexact HS13
  isplitl [HBr3]; · iexact HBr3
  isplitl [HS14]; · iexact HS14
  isplitl [HBr1]; · iexact HBr1
  isplitl [HS15]; · iexact HS15
  iexact HBr4

/-- Stretch 15 of the body: 2 copies issued, 1 load. -/
theorem part_15 (c : Dev nD) (v2 : BitVec 32) (v16 : BitVec 32) (v361 : BitVec 32) (c512_i32_396 : BitVec 32) (Q : (Σ' (v383 : BitVec 32) (v404 : BitVec 32), FVec F S512x1024 .bf16) → sProp 𝕄) :
    iprop(Recs (GG I) K ∗ ow c 8 ∗ cp (F := F) c 16 ∗ RB (GG I) 2 c (my 2 2 c) fullShare
      ∗ cp (F := F) c 17 ∗ RB (GG I) 5 c (my 5 2 c) fullShare ∗ RB (GG I) 0 c (my 0 2 c) fullShare.right)
      ⊢ iprop((∀ v383, ∀ v404, (ow c 6 ∗ fl (F := F) c false 16 ∗ RB (GG I) 2 c (my 2 2 c) fullShare.right ∗ fl (F := F) c false 17
      ∗ RB (GG I) 5 c (my 5 2 c) fullShare.right ∗ RB (GG I) 0 c (my 0 2 c) fullShare.right) -∗ Q ⟨v383, v404, (v410 I c)⟩)
          -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v16 (v28 I c) v361 c512_i32_396) Q) := by
  rw [k0_part15_eq_skeleton]; unfold k0_part15_skel
  simp only [Prog.lift, Prog.bind_op, Prog.bind_ret, Prog.pure_eq_ret]
  iintro ⟨#HR, HO, HC16, HBf2, HC17, HBf5, HBr0⟩ Hk
  iapply (wp_cp (GG I) K c _ 16 (dev_16 c) 7 rfl (β := 2) (s' := 2) rfl rfl (isCopy_16 (GG I) c) rfl rfl) $$ [HC16 HBf2 HO]
  · isplitr; · iexact HR
    isplitl [HC16]; · iexact HC16
    isplitl [HBf2] <;> iassumption
  iintro ⟨HS16, HBr2, HO⟩
  iapply (wp_cp (GG I) K c _ 17 (dev_17 c) 6 rfl (β := 5) (s' := 2) rfl rfl (isCopy_17 (GG I) c) rfl rfl) $$ [HC17 HBf5 HO]
  · isplitr; · iexact HR
    isplitl [HC17]; · iexact HC17
    isplitl [HBf5] <;> iassumption
  iintro ⟨HS17, HBr5, HO⟩
  iapply (wp_load_at c (M := Memref.whole cc0_scratch0) (f := g0 I) (P := RB (GG I) 0 c (my 0 2 c) fullShare.right) rfl (thi0_ld c)) $$ HBr0; iintro HBr0
  rw [wp_ret]; imodintro
  iapply Hk
  isplitl [HO]; · iexact HO
  isplitl [HS16]; · iexact HS16
  isplitl [HBr2]; · iexact HBr2
  isplitl [HS17]; · iexact HS17
  isplitl [HBr5]; · iexact HBr5
  iexact HBr0

end Cert.MlpProof

end
-- ==== Proof.PartsC.lean ====
/-
`PartsC`: the run through stretches 16 to 21 of the printed body, each from what it touches to what it leaves.
-/
module

public import proofs.«01_k».proof.Proof.Moves

@[expose] public section

set_option maxRecDepth 4000

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × CI → ℕ) (I : Inp F)

/-- Stretch 16 of the body: 4 waits, 1 load. -/
theorem part_16 (c : Dev nD) (v341 : BitVec 32) (v404 : BitVec 32) (l : List (Bool × J)) (Q : (FVec F S512x256 .f32) → sProp 𝕄) :
    iprop(Recs (GG I) K ∗ ow c 6 ∗ dnL (F := F) c l ∗ RB (GG I) 3 c (my 3 2 c) fullShare.right
      ∗ fl (F := F) c true 12 ∗ fl (F := F) c true 13 ∗ fl (F := F) c false 12 ∗ RB (GG I) 0 c (my 0 2 c) fullShare.right
      ∗ fl (F := F) c false 13)
      ⊢ iprop(((ow c 6 ∗ dnL (F := F) c ((false, 13) :: (false, 12) :: (true, 13) :: (true, 12) :: l) ∗ RB (GG I) 0 c (my 0 3 c) fullShare ∗ RB (GG I) 3 c (my 3 3 c) fullShare) -∗ Q (v414 I c))
          -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c (v278 I c) v341 v404 (v410 I c)) Q) := by
  rw [k0_part16_eq_skeleton]; unfold k0_part16_skel
  simp only [Prog.lift, Prog.bind_op, Prog.bind_ret, Prog.pure_eq_ret]
  iintro ⟨#HR, HO, HL, HBr3, HR12, HR13, HS12, HBr0, HS13⟩ Hk
  iapply (wp_load_at c (M := Memref.whole cc0_scratch3) (f := g3 I) (P := RB (GG I) 3 c (my 3 2 c) fullShare.right) rfl (thi3_ld c)) $$ HBr3; iintro HBr3
  iapply (wp_rcv (GG I) K c 12 6 (by decide) (by decide) (β := 0) (s' := 2) (l := l) rfl rfl rfl rfl) $$ [HR12 HO HL]
  · isplitr; · iexact HR
    isplitl [HR12]; · iexact HR12
    isplitl [HO] <;> iassumption
  iintro ⟨HL, HP0, HO⟩
  iapply (wp_rcv (GG I) K c 13 6 (by decide) (by decide) (β := 3) (s' := 2) (l := ((true, 12) :: l)) rfl rfl rfl rfl) $$ [HR13 HO HL]
  · isplitr; · iexact HR
    isplitl [HR13]; · iexact HR13
    isplitl [HO] <;> iassumption
  iintro ⟨HL, HP3, HO⟩
  iapply (wp_snt (GG I) K c 12 6 (by decide) (β := 0) (s' := 2) (l := ((true, 13) :: (true, 12) :: l)) rfl rfl rfl rfl) $$ [HS12 HO HL]
  · isplitr; · iexact HR
    isplitl [HS12]; · iexact HS12
    isplitl [HO] <;> iassumption
  iintro ⟨HL, HBl0, HO⟩
  ihave HBf0 := (RB_step' (GG I) 0 2 c (s0 := 2) (s1 := 3) rfl rfl) $$ [HBl0 HBr0 HP0]
  · isplitl [HBl0]; · iexact HBl0
    isplitl [HBr0] <;> iassumption
  iapply (wp_snt (GG I) K c 13 6 (by decide) (β := 3) (s' := 2) (l := ((false, 12) :: (true, 13) :: (true, 12) :: l)) rfl rfl rfl rfl) $$ [HS13 HO HL]
  · isplitr; · iexact HR
    isplitl [HS13]; · iexact HS13
    isplitl [HO] <;> iassumption
  iintro ⟨HL, HBl3, HO⟩
  ihave HBf3 := (RB_step' (GG I) 3 2 c (s0 := 2) (s1 := 3) rfl rfl) $$ [HBl3 HBr3 HP3]
  · isplitl [HBl3]; · iexact HBl3
    isplitl [HBr3] <;> iassumption
  rw [wp_ret]; imodintro
  iapply Hk
  isplitl [HO]; · iexact HO
  isplitl [HL]; · iexact HL
  isplitl [HBf0]; · iexact HBf0
  iexact HBf3

/-- Stretch 17 of the body: 4 waits. -/
theorem part_17 (c : Dev nD) (v362 : BitVec 32) (v383 : BitVec 32) (l : List (Bool × J)) (Q : (BitVec 32) → sProp 𝕄) :
    iprop(Recs (GG I) K ∗ ow c 6 ∗ dnL (F := F) c l ∗ fl (F := F) c true 14
      ∗ fl (F := F) c true 15 ∗ fl (F := F) c false 14 ∗ RB (GG I) 1 c (my 1 2 c) fullShare.right ∗ fl (F := F) c false 15
      ∗ RB (GG I) 4 c (my 4 2 c) fullShare.right)
      ⊢ iprop((∀ v455, (ow c 6 ∗ dnL (F := F) c ((false, 15) :: (false, 14) :: (true, 15) :: (true, 14) :: l) ∗ RB (GG I) 1 c (my 1 3 c) fullShare ∗ RB (GG I) 4 c (my 4 3 c) fullShare) -∗ Q v455)
          -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v362 v383) Q) := by
  rw [k0_part17_eq_skeleton]; unfold k0_part17_skel
  simp only [Prog.lift, Prog.bind_op, Prog.bind_ret, Prog.pure_eq_ret]
  iintro ⟨#HR, HO, HL, HR14, HR15, HS14, HBr1, HS15, HBr4⟩ Hk
  iapply (wp_rcv (GG I) K c 14 6 (by decide) (by decide) (β := 1) (s' := 2) (l := l) rfl rfl rfl rfl) $$ [HR14 HO HL]
  · isplitr; · iexact HR
    isplitl [HR14]; · iexact HR14
    isplitl [HO] <;> iassumption
  iintro ⟨HL, HP1, HO⟩
  iapply (wp_rcv (GG I) K c 15 6 (by decide) (by decide) (β := 4) (s' := 2) (l := ((true, 14) :: l)) rfl rfl rfl rfl) $$ [HR15 HO HL]
  · isplitr; · iexact HR
    isplitl [HR15]; · iexact HR15
    isplitl [HO] <;> iassumption
  iintro ⟨HL, HP4, HO⟩
  iapply (wp_snt (GG I) K c 14 6 (by decide) (β := 1) (s' := 2) (l := ((true, 15) :: (true, 14) :: l)) rfl rfl rfl rfl) $$ [HS14 HO HL]
  · isplitr; · iexact HR
    isplitl [HS14]; · iexact HS14
    isplitl [HO] <;> iassumption
  iintro ⟨HL, HBl1, HO⟩
  ihave HBf1 := (RB_step' (GG I) 1 2 c (s0 := 2) (s1 := 3) rfl rfl) $$ [HBl1 HBr1 HP1]
  · isplitl [HBl1]; · iexact HBl1
    isplitl [HBr1] <;> iassumption
  iapply (wp_snt (GG I) K c 15 6 (by decide) (β := 4) (s' := 2) (l := ((false, 14) :: (true, 15) :: (true, 14) :: l)) rfl rfl rfl rfl) $$ [HS15 HO HL]
  · isplitr; · iexact HR
    isplitl [HS15]; · iexact HS15
    isplitl [HO] <;> iassumption
  iintro ⟨HL, HBl4, HO⟩
  ihave HBf4 := (RB_step' (GG I) 4 2 c (s0 := 2) (s1 := 3) rfl rfl) $$ [HBl4 HBr4 HP4]
  · isplitl [HBl4]; · iexact HBl4
    isplitl [HBr4] <;> iassumption
  rw [wp_ret]; imodintro
  iapply Hk
  isplitl [HO]; · iexact HO
  isplitl [HL]; · iexact HL
  isplitl [HBf1]; · iexact HBf1
  iexact HBf4

/-- Stretch 18 of the body: 4 waits, 1 load. -/
theorem part_18 (c : Dev nD) (v2 : BitVec 32) (v383 : BitVec 32) (v455 : BitVec 32) (l : List (Bool × J)) (Q : (Σ' (v477 : BitVec 32) (v480 : FVec F S512x2048 .f32), F .f32) → sProp 𝕄) :
    iprop(Recs (GG I) K ∗ ow c 6 ∗ dnL (F := F) c l ∗ fl (F := F) c true 16
      ∗ fl (F := F) c true 17 ∗ fl (F := F) c false 16 ∗ RB (GG I) 2 c (my 2 2 c) fullShare.right ∗ fl (F := F) c false 17
      ∗ RB (GG I) 5 c (my 5 2 c) fullShare.right ∗ RB (GG I) 0 c (my 0 3 c) fullShare)
      ⊢ iprop((∀ v477, (ow c 6 ∗ dnL (F := F) c ((false, 17) :: (false, 16) :: (true, 17) :: (true, 16) :: l) ∗ RB (GG I) 2 c (my 2 3 c) fullShare ∗ RB (GG I) 5 c (my 5 3 c) fullShare
      ∗ RB (GG I) 0 c (my 0 3 c) fullShare) -∗ Q ⟨v477, (v480 I c), cst0⟩)
          -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 (v28 I c) v383 v455) Q) := by
  rw [k0_part18_eq_skeleton]; unfold k0_part18_skel
  simp only [Prog.lift, Prog.bind_op, Prog.bind_ret, Prog.pure_eq_ret]
  iintro ⟨#HR, HO, HL, HR16, HR17, HS16, HBr2, HS17, HBr5, HBf0⟩ Hk
  iapply (wp_rcv (GG I) K c 16 6 (by decide) (by decide) (β := 2) (s' := 2) (l := l) rfl rfl rfl rfl) $$ [HR16 HO HL]
  · isplitr; · iexact HR
    isplitl [HR16]; · iexact HR16
    isplitl [HO] <;> iassumption
  iintro ⟨HL, HP2, HO⟩
  iapply (wp_rcv (GG I) K c 17 6 (by decide) (by decide) (β := 5) (s' := 2) (l := ((true, 16) :: l)) rfl rfl rfl rfl) $$ [HR17 HO HL]
  · isplitr; · iexact HR
    isplitl [HR17]; · iexact HR17
    isplitl [HO] <;> iassumption
  iintro ⟨HL, HP5, HO⟩
  iapply (wp_snt (GG I) K c 16 6 (by decide) (β := 2) (s' := 2) (l := ((true, 17) :: (true, 16) :: l)) rfl rfl rfl rfl) $$ [HS16 HO HL]
  · isplitr; · iexact HR
    isplitl [HS16]; · iexact HS16
    isplitl [HO] <;> iassumption
  iintro ⟨HL, HBl2, HO⟩
  ihave HBf2 := (RB_step' (GG I) 2 2 c (s0 := 2) (s1 := 3) rfl rfl) $$ [HBl2 HBr2 HP2]
  · isplitl [HBl2]; · iexact HBl2
    isplitl [HBr2] <;> iassumption
  iapply (wp_snt (GG I) K c 17 6 (by decide) (β := 5) (s' := 2) (l := ((false, 16) :: (true, 17) :: (true, 16) :: l)) rfl rfl rfl rfl) $$ [HS17 HO HL]
  · isplitr; · iexact HR
    isplitl [HS17]; · iexact HS17
    isplitl [HO] <;> iassumption
  iintro ⟨HL, HBl5, HO⟩
  ihave HBf5 := (RB_step' (GG I) 5 2 c (s0 := 2) (s1 := 3) rfl rfl) $$ [HBl5 HBr5 HP5]
  · isplitl [HBl5]; · iexact HBl5
    isplitl [HBr5] <;> iassumption
  iapply (wp_load_at c (M := Memref.whole cc0_scratch0) (f := g0 I) (P := RB (GG I) 0 c (my 0 3 c) fullShare) rfl (fou0_ld c)) $$ HBf0; iintro HBf0
  rw [wp_ret]; imodintro
  iapply Hk
  isplitl [HO]; · iexact HO
  isplitl [HL]; · iexact HL
  isplitl [HBf2]; · iexact HBf2
  isplitl [HBf5]; · iexact HBf5
  iexact HBf0

/-- Stretch 19 of the body: 6 loads, 1 store. -/
theorem part_19 (c : Dev nD) (v2 : BitVec 32) (v477 : BitVec 32) (Q : (Σ' (v496 : FVec F S512x256 .bf16) (v512 : BitVec 32), BitVec 32) → sProp 𝕄) :
    iprop(Recs (GG I) K ∗ ow c 6 ∗ RB (GG I) 3 c (my 3 3 c) fullShare ∗ RB (GG I) 1 c (my 1 3 c) fullShare
      ∗ RB (GG I) 4 c (my 4 3 c) fullShare ∗ RB (GG I) 2 c (my 2 3 c) fullShare ∗ RB (GG I) 5 c (my 5 3 c) fullShare ∗ RA (F := F) 6 c (my 6 0 c))
      ⊢ iprop((∀ v512, ∀ v513, (ow c 6 ∗ RB (GG I) 3 c (my 3 3 c) fullShare ∗ RB (GG I) 1 c (my 1 3 c) fullShare ∗ RB (GG I) 4 c (my 4 3 c) fullShare
      ∗ RB (GG I) 2 c (my 2 3 c) fullShare ∗ RB (GG I) 5 c (my 5 3 c) fullShare ∗ RB (GG I) 6 c (my 6 0 c) fullShare) -∗ Q ⟨(v496 I c), v512, v513⟩)
          -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 (v414 I c) v477 (v480 I c) cst0) Q) := by
  rw [k0_part19_eq_skeleton]; unfold k0_part19_skel
  simp only [Prog.lift, Prog.bind_op, Prog.bind_ret, Prog.pure_eq_ret]
  iintro ⟨#HR, HO, HBf3, HBf1, HBf4, HBf2, HBf5, HA6⟩ Hk
  iapply (wp_load_at c (M := Memref.whole cc0_scratch3) (f := g3 I) (P := RB (GG I) 3 c (my 3 3 c) fullShare) rfl (fou3_ld c)) $$ HBf3; iintro HBf3
  iapply (wp_load_at c (M := Memref.whole cc0_scratch1) (f := g1 I) (P := RB (GG I) 1 c (my 1 3 c) fullShare) rfl (full_ld 1 c _)) $$ HBf1; iintro HBf1
  iapply (wp_load_at c (M := Memref.whole cc0_scratch4) (f := g4 I) (P := RB (GG I) 4 c (my 4 3 c) fullShare) rfl (full_ld 4 c _)) $$ HBf4; iintro HBf4
  iapply (wp_load_at c (M := Memref.whole cc0_scratch2) (f := g2 I) (P := RB (GG I) 2 c (my 2 3 c) fullShare) rfl (full_ld 2 c _)) $$ HBf2; iintro HBf2
  iapply (wp_load_at c (M := Memref.whole cc0_scratch5) (f := g5 I) (P := RB (GG I) 5 c (my 5 3 c) fullShare) rfl (full_ld 5 c _)) $$ HBf5; iintro HBf5
  iapply (wp_load_any c (M := Memref.whole cc0_scratch6) (S := rows 6 (my 6 0 c)) (P := RA (F := F) 6 c (my 6 0 c)) rfl (own6_ld c)) $$ HA6; iintro %v508 HA6
  iapply (wp_store_at c (M := Memref.whole cc0_scratch6) (S := rows 6 (my 6 0 c)) (g := GG I 6) (P := RA (F := F) 6 c (my 6 0 c)) (P' := RB (GG I) 6 c (my 6 0 c) fullShare) rfl rfl (own6_st c) (own6_rd I c)) $$ HA6; iintro HBf6
  rw [wp_ret]; imodintro
  iapply Hk
  isplitl [HO]; · iexact HO
  isplitl [HBf3]; · iexact HBf3
  isplitl [HBf1]; · iexact HBf1
  isplitl [HBf4]; · iexact HBf4
  isplitl [HBf2]; · iexact HBf2
  isplitl [HBf5]; · iexact HBf5
  iexact HBf6

/-- Stretch 20 of the body: 1 copy issued, 1 wait, 3 loads, 1 store. -/
theorem part_20 (c : Dev nD) (v16 : BitVec 32) (v512 : BitVec 32) (v513 : BitVec 32) (l : List (Bool × J)) (Q : (PUnit) → sProp 𝕄) :
    iprop(Recs (GG I) K ∗ ow c 6 ∗ dnL (F := F) c l ∗ cp (F := F) c 18
      ∗ RB (GG I) 6 c (my 6 0 c) fullShare ∗ RB (GG I) 2 c (my 2 3 c) fullShare ∗ RB (GG I) 5 c (my 5 3 c) fullShare ∗ RA (F := F) 7 c (my 7 0 c)
      ∗ fl (F := F) c true 18)
      ⊢ iprop(((ow c 5 ∗ dnL (F := F) c ((true, 18) :: l) ∗ fl (F := F) c false 18 ∗ RB (GG I) 6 c (my 6 0 c) fullShare.right
      ∗ RB (GG I) 2 c (my 2 3 c) fullShare ∗ RB (GG I) 5 c (my 5 3 c) fullShare ∗ RB (GG I) 7 c (my 7 0 c) fullShare ∗ RB (GG I) 6 c (pb 6 0 c) fullShare) -∗ Q ⟨⟩)
          -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v16 (v496 I c) v512 v513) Q) := by
  rw [k0_part20_eq_skeleton]; unfold k0_part20_skel
  simp only [Prog.lift, Prog.bind_op, Prog.bind_ret, Prog.pure_eq_ret]
  iintro ⟨#HR, HO, HL, HC18, HBf6, HBf2, HBf5, HA7, HR18⟩ Hk
  iapply (wp_cp (GG I) K c _ 18 (dev_18 c) 5 rfl (β := 6) (s' := 0) rfl rfl (isCopy_18 (GG I) c) rfl rfl) $$ [HC18 HBf6 HO]
  · isplitr; · iexact HR
    isplitl [HC18]; · iexact HC18
    isplitl [HBf6] <;> iassumption
  iintro ⟨HS18, HBr6, HO⟩
  iapply (wp_load_at c (M := Memref.whole cc0_scratch2) (f := g2 I) (P := RB (GG I) 2 c (my 2 3 c) fullShare) rfl (full_ld 2 c _)) $$ HBf2; iintro HBf2
  iapply (wp_load_at c (M := Memref.whole cc0_scratch5) (f := g5 I) (P := RB (GG I) 5 c (my 5 3 c) fullShare) rfl (full_ld 5 c _)) $$ HBf5; iintro HBf5
  iapply (wp_load_any c (M := Memref.whole cc0_scratch7) (S := rows 7 (my 7 0 c)) (P := RA (F := F) 7 c (my 7 0 c)) rfl (own7_ld c)) $$ HA7; iintro %v537 HA7
  iapply (wp_store_at c (M := Memref.whole cc0_scratch7) (S := rows 7 (my 7 0 c)) (g := GG I 7) (P := RA (F := F) 7 c (my 7 0 c)) (P' := RB (GG I) 7 c (my 7 0 c) fullShare) rfl rfl (own7_st c) (own7_rd I c)) $$ HA7; iintro HBf7
  iapply (wp_rcv (GG I) K c 18 5 (by decide) (by decide) (β := 6) (s' := 0) (l := l) rfl rfl rfl rfl) $$ [HR18 HO HL]
  · isplitr; · iexact HR
    isplitl [HR18]; · iexact HR18
    isplitl [HO] <;> iassumption
  iintro ⟨HL, HP6, HO⟩
  rw [wp_ret]; imodintro
  iapply Hk
  isplitl [HO]; · iexact HO
  isplitl [HL]; · iexact HL
  isplitl [HS18]; · iexact HS18
  isplitl [HBr6]; · iexact HBr6
  isplitl [HBf2]; · iexact HBf2
  isplitl [HBf5]; · iexact HBf5
  isplitl [HBf7]; · iexact HBf7
  iexact HP6

/-- Stretch 21 of the body: 2 copies issued, 1 wait. -/
theorem part_21 (c : Dev nD) (v2 : BitVec 32) (v16 : BitVec 32) (l : List (Bool × J)) (Q : (Σ' (v552 : BitVec 32) (v566 : BitVec 32) (v567 : BitVec 32), BitVec 32) → sProp 𝕄) :
    iprop(Recs (GG I) K ∗ ow c 5 ∗ dnL (F := F) c l ∗ fl (F := F) c false 18
      ∗ RB (GG I) 6 c (pb 6 0 c) fullShare ∗ RB (GG I) 6 c (my 6 0 c) fullShare.right ∗ cp (F := F) c 19 ∗ cp (F := F) c 20
      ∗ RB (GG I) 7 c (my 7 0 c) fullShare)
      ⊢ iprop((∀ v552, ∀ v566, ∀ v567, ∀ c256_i32_596, (ow c 3 ∗ dnL (F := F) c ((false, 18) :: l) ∗ fl (F := F) c false 19 ∗ RB (GG I) 6 c (my 6 1 c) fullShare.right
      ∗ fl (F := F) c false 20 ∗ RB (GG I) 7 c (my 7 0 c) fullShare.right) -∗ Q ⟨v552, v566, v567, c256_i32_596⟩)
          -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v16) Q) := by
  rw [k0_part21_eq_skeleton]; unfold k0_part21_skel
  simp only [Prog.lift, Prog.bind_op, Prog.bind_ret, Prog.pure_eq_ret]
  iintro ⟨#HR, HO, HL, HS18, HP6, HBr6, HC19, HC20, HBf7⟩ Hk
  iapply (wp_snt (GG I) K c 18 5 (by decide) (β := 6) (s' := 0) (l := l) rfl rfl rfl rfl) $$ [HS18 HO HL]
  · isplitr; · iexact HR
    isplitl [HS18]; · iexact HS18
    isplitl [HO] <;> iassumption
  iintro ⟨HL, HBl6, HO⟩
  ihave HBf6 := (RB_step' (GG I) 6 0 c (s0 := 0) (s1 := 1) rfl rfl) $$ [HBl6 HBr6 HP6]
  · isplitl [HBl6]; · iexact HBl6
    isplitl [HBr6] <;> iassumption
  iapply (wp_cp (GG I) K c _ 19 (dev_19 c) 4 rfl (β := 6) (s' := 1) rfl rfl (isCopy_19 (GG I) c) rfl rfl) $$ [HC19 HBf6 HO]
  · isplitr; · iexact HR
    isplitl [HC19]; · iexact HC19
    isplitl [HBf6] <;> iassumption
  iintro ⟨HS19, HBr6, HO⟩
  iapply (wp_cp (GG I) K c _ 20 (dev_20 c) 3 rfl (β := 7) (s' := 0) rfl rfl (isCopy_20 (GG I) c) rfl rfl) $$ [HC20 HBf7 HO]
  · isplitr; · iexact HR
    isplitl [HC20]; · iexact HC20
    isplitl [HBf7] <;> iassumption
  iintro ⟨HS20, HBr7, HO⟩
  rw [wp_ret]; imodintro
  iapply Hk
  isplitl [HO]; · iexact HO
  isplitl [HL]; · iexact HL
  isplitl [HS19]; · iexact HS19
  isplitl [HBr6]; · iexact HBr6
  isplitl [HS20]; · iexact HS20
  iexact HBr7

end Cert.MlpProof

end
-- ==== Proof.PartsD.lean ====
/-
`PartsD`: the run through stretches 22 to 26 of the printed body, each from what it touches to what it leaves.
-/
module

public import proofs.«01_k».proof.Proof.Moves

@[expose] public section

set_option maxRecDepth 4000

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × CI → ℕ) (I : Inp F)

/-- Stretch 22 of the body: 4 waits. -/
theorem part_22 (c : Dev nD) (v2 : BitVec 32) (v552 : BitVec 32) (v566 : BitVec 32) (v567 : BitVec 32) (c256_i32_596 : BitVec 32) (l : List (Bool × J)) (Q : (Σ' (v601 : BitVec 32), BitVec 32) → sProp 𝕄) :
    iprop(Recs (GG I) K ∗ ow c 3 ∗ dnL (F := F) c l ∗ fl (F := F) c true 19
      ∗ fl (F := F) c true 20 ∗ fl (F := F) c false 19 ∗ RB (GG I) 6 c (my 6 1 c) fullShare.right ∗ fl (F := F) c false 20
      ∗ RB (GG I) 7 c (my 7 0 c) fullShare.right)
      ⊢ iprop((∀ v601, ∀ v602, (ow c 3 ∗ dnL (F := F) c ((false, 20) :: (false, 19) :: (true, 20) :: (true, 19) :: l) ∗ RB (GG I) 6 c (my 6 2 c) fullShare ∗ RB (GG I) 7 c (my 7 1 c) fullShare) -∗ Q ⟨v601, v602⟩)
          -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v552 v566 v567 c256_i32_596) Q) := by
  rw [k0_part22_eq_skeleton]; unfold k0_part22_skel
  simp only [Prog.lift, Prog.bind_op, Prog.bind_ret, Prog.pure_eq_ret]
  iintro ⟨#HR, HO, HL, HR19, HR20, HS19, HBr6, HS20, HBr7⟩ Hk
  iapply (wp_rcv (GG I) K c 19 3 (by decide) (by decide) (β := 6) (s' := 1) (l := l) rfl rfl rfl rfl) $$ [HR19 HO HL]
  · isplitr; · iexact HR
    isplitl [HR19]; · iexact HR19
    isplitl [HO] <;> iassumption
  iintro ⟨HL, HP6, HO⟩
  iapply (wp_rcv (GG I) K c 20 3 (by decide) (by decide) (β := 7) (s' := 0) (l := ((true, 19) :: l)) rfl rfl rfl rfl) $$ [HR20 HO HL]
  · isplitr; · iexact HR
    isplitl [HR20]; · iexact HR20
    isplitl [HO] <;> iassumption
  iintro ⟨HL, HP7, HO⟩
  iapply (wp_snt (GG I) K c 19 3 (by decide) (β := 6) (s' := 1) (l := ((true, 20) :: (true, 19) :: l)) rfl rfl rfl rfl) $$ [HS19 HO HL]
  · isplitr; · iexact HR
    isplitl [HS19]; · iexact HS19
    isplitl [HO] <;> iassumption
  iintro ⟨HL, HBl6, HO⟩
  ihave HBf6 := (RB_step' (GG I) 6 1 c (s0 := 1) (s1 := 2) rfl rfl) $$ [HBl6 HBr6 HP6]
  · isplitl [HBl6]; · iexact HBl6
    isplitl [HBr6] <;> iassumption
  iapply (wp_snt (GG I) K c 20 3 (by decide) (β := 7) (s' := 0) (l := ((false, 19) :: (true, 20) :: (true, 19) :: l)) rfl rfl rfl rfl) $$ [HS20 HO HL]
  · isplitr; · iexact HR
    isplitl [HS20]; · iexact HS20
    isplitl [HO] <;> iassumption
  iintro ⟨HL, HBl7, HO⟩
  ihave HBf7 := (RB_step' (GG I) 7 0 c (s0 := 0) (s1 := 1) rfl rfl) $$ [HBl7 HBr7 HP7]
  · isplitl [HBl7]; · iexact HBl7
    isplitl [HBr7] <;> iassumption
  rw [wp_ret]; imodintro
  iapply Hk
  isplitl [HO]; · iexact HO
  isplitl [HL]; · iexact HL
  isplitl [HBf6]; · iexact HBf6
  iexact HBf7

/-- Stretch 23 of the body: 2 copies issued, 1 wait. -/
theorem part_23 (c : Dev nD) (v2 : BitVec 32) (v16 : BitVec 32) (v601 : BitVec 32) (v602 : BitVec 32) (l : List (Bool × J)) (Q : (BitVec 32) → sProp 𝕄) :
    iprop(Recs (GG I) K ∗ ow c 3 ∗ dnL (F := F) c l ∗ cp (F := F) c 21
      ∗ RB (GG I) 6 c (my 6 2 c) fullShare ∗ cp (F := F) c 22 ∗ RB (GG I) 7 c (my 7 1 c) fullShare ∗ fl (F := F) c true 21)
      ⊢ iprop((∀ v617, (ow c 1 ∗ dnL (F := F) c ((true, 21) :: l) ∗ fl (F := F) c false 21 ∗ RB (GG I) 6 c (my 6 2 c) fullShare.right
      ∗ fl (F := F) c false 22 ∗ RB (GG I) 7 c (my 7 1 c) fullShare.right ∗ RB (GG I) 6 c (pb 6 2 c) fullShare) -∗ Q v617)
          -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v16 v601 v602) Q) := by
  rw [k0_part23_eq_skeleton]; unfold k0_part23_skel
  simp only [Prog.lift, Prog.bind_op, Prog.bind_ret, Prog.pure_eq_ret]
  iintro ⟨#HR, HO, HL, HC21, HBf6, HC22, HBf7, HR21⟩ Hk
  iapply (wp_cp (GG I) K c _ 21 (dev_21 c) 2 rfl (β := 6) (s' := 2) rfl rfl (isCopy_21 (GG I) c) rfl rfl) $$ [HC21 HBf6 HO]
  · isplitr; · iexact HR
    isplitl [HC21]; · iexact HC21
    isplitl [HBf6] <;> iassumption
  iintro ⟨HS21, HBr6, HO⟩
  iapply (wp_cp (GG I) K c _ 22 (dev_22 c) 1 rfl (β := 7) (s' := 1) rfl rfl (isCopy_22 (GG I) c) rfl rfl) $$ [HC22 HBf7 HO]
  · isplitr; · iexact HR
    isplitl [HC22]; · iexact HC22
    isplitl [HBf7] <;> iassumption
  iintro ⟨HS22, HBr7, HO⟩
  iapply (wp_rcv (GG I) K c 21 1 (by decide) (by decide) (β := 6) (s' := 2) (l := l) rfl rfl rfl rfl) $$ [HR21 HO HL]
  · isplitr; · iexact HR
    isplitl [HR21]; · iexact HR21
    isplitl [HO] <;> iassumption
  iintro ⟨HL, HP6, HO⟩
  rw [wp_ret]; imodintro
  iapply Hk
  isplitl [HO]; · iexact HO
  isplitl [HL]; · iexact HL
  isplitl [HS21]; · iexact HS21
  isplitl [HBr6]; · iexact HBr6
  isplitl [HS22]; · iexact HS22
  isplitl [HBr7]; · iexact HBr7
  iexact HP6

/-- Stretch 24 of the body: 1 copy issued, 3 waits. -/
theorem part_24 (c : Dev nD) (v2 : BitVec 32) (v16 : BitVec 32) (v617 : BitVec 32) (l : List (Bool × J)) (Q : (Σ' (v651 : BitVec 32), BitVec 32) → sProp 𝕄) :
    iprop(Recs (GG I) K ∗ ow c 1 ∗ dnL (F := F) c l ∗ fl (F := F) c true 22
      ∗ fl (F := F) c false 21 ∗ RB (GG I) 6 c (pb 6 2 c) fullShare ∗ RB (GG I) 6 c (my 6 2 c) fullShare.right ∗ fl (F := F) c false 22
      ∗ RB (GG I) 7 c (my 7 1 c) fullShare.right ∗ cp (F := F) c 23)
      ⊢ iprop((∀ v651, ∀ v652, (ow c 0 ∗ dnL (F := F) c ((false, 22) :: (false, 21) :: (true, 22) :: l) ∗ RB (GG I) 6 c (my 6 3 c) fullShare ∗ fl (F := F) c false 23
      ∗ RB (GG I) 7 c (my 7 2 c) fullShare.right) -∗ Q ⟨v651, v652⟩)
          -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v2 v16 v617) Q) := by
  rw [k0_part24_eq_skeleton]; unfold k0_part24_skel
  simp only [Prog.lift, Prog.bind_op, Prog.bind_ret, Prog.pure_eq_ret]
  iintro ⟨#HR, HO, HL, HR22, HS21, HP6, HBr6, HS22, HBr7, HC23⟩ Hk
  iapply (wp_rcv (GG I) K c 22 1 (by decide) (by decide) (β := 7) (s' := 1) (l := l) rfl rfl rfl rfl) $$ [HR22 HO HL]
  · isplitr; · iexact HR
    isplitl [HR22]; · iexact HR22
    isplitl [HO] <;> iassumption
  iintro ⟨HL, HP7, HO⟩
  iapply (wp_snt (GG I) K c 21 1 (by decide) (β := 6) (s' := 2) (l := ((true, 22) :: l)) rfl rfl rfl rfl) $$ [HS21 HO HL]
  · isplitr; · iexact HR
    isplitl [HS21]; · iexact HS21
    isplitl [HO] <;> iassumption
  iintro ⟨HL, HBl6, HO⟩
  ihave HBf6 := (RB_step' (GG I) 6 2 c (s0 := 2) (s1 := 3) rfl rfl) $$ [HBl6 HBr6 HP6]
  · isplitl [HBl6]; · iexact HBl6
    isplitl [HBr6] <;> iassumption
  iapply (wp_snt (GG I) K c 22 1 (by decide) (β := 7) (s' := 1) (l := ((false, 21) :: (true, 22) :: l)) rfl rfl rfl rfl) $$ [HS22 HO HL]
  · isplitr; · iexact HR
    isplitl [HS22]; · iexact HS22
    isplitl [HO] <;> iassumption
  iintro ⟨HL, HBl7, HO⟩
  ihave HBf7 := (RB_step' (GG I) 7 1 c (s0 := 1) (s1 := 2) rfl rfl) $$ [HBl7 HBr7 HP7]
  · isplitl [HBl7]; · iexact HBl7
    isplitl [HBr7] <;> iassumption
  iapply (wp_cp (GG I) K c _ 23 (dev_23 c) 0 rfl (β := 7) (s' := 2) rfl rfl (isCopy_23 (GG I) c) rfl rfl) $$ [HC23 HBf7 HO]
  · isplitr; · iexact HR
    isplitl [HC23]; · iexact HC23
    isplitl [HBf7] <;> iassumption
  iintro ⟨HS23, HBr7, HO⟩
  rw [wp_ret]; imodintro
  iapply Hk
  isplitl [HO]; · iexact HO
  isplitl [HL]; · iexact HL
  isplitl [HBf6]; · iexact HBf6
  isplitl [HS23]; · iexact HS23
  iexact HBr7

/-- Stretch 25 of the body: 2 waits, 10 loads, 5 stores. -/
theorem part_25 (c : Dev nD) (v651 : BitVec 32) (v652 : BitVec 32) (l : List (Bool × J)) (Q : (PUnit) → sProp 𝕄) :
    iprop(Recs (GG I) K ∗ ow c 0 ∗ dnL (F := F) c l ∗ fl (F := F) c true 23
      ∗ fl (F := F) c false 23 ∗ RB (GG I) 7 c (my 7 2 c) fullShare.right ∗ RB (GG I) 6 c (my 6 3 c) fullShare ∗ outP I c 0)
      ⊢ iprop(((ow c 0 ∗ dnL (F := F) c ((false, 23) :: (true, 23) :: l) ∗ RB (GG I) 7 c (my 7 3 c) fullShare ∗ RB (GG I) 6 c (my 6 3 c) fullShare
      ∗ outP I c 1280) -∗ Q ⟨⟩)
          -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c v651 v652) Q) := by
  rw [k0_part25_eq_skeleton]; unfold k0_part25_skel
  simp only [Prog.lift, Prog.bind_op, Prog.bind_ret, Prog.pure_eq_ret]
  iintro ⟨#HR, HO, HL, HR23, HS23, HBr7, HBf6, HOUT⟩ Hk
  iapply (wp_rcv (GG I) K c 23 0 (by decide) (by decide) (β := 7) (s' := 2) (l := l) rfl rfl rfl rfl) $$ [HR23 HO HL]
  · isplitr; · iexact HR
    isplitl [HR23]; · iexact HR23
    isplitl [HO] <;> iassumption
  iintro ⟨HL, HP7, HO⟩
  iapply (wp_snt (GG I) K c 23 0 (by decide) (β := 7) (s' := 2) (l := ((true, 23) :: l)) rfl rfl rfl rfl) $$ [HS23 HO HL]
  · isplitr; · iexact HR
    isplitl [HS23]; · iexact HS23
    isplitl [HO] <;> iassumption
  iintro ⟨HL, HBl7, HO⟩
  ihave HBf7 := (RB_step' (GG I) 7 2 c (s0 := 2) (s1 := 3) rfl rfl) $$ [HBl7 HBr7 HP7]
  · isplitl [HBl7]; · iexact HBl7
    isplitl [HBr7] <;> iassumption
  iapply (wp_load_at c (M := Memref.whole cc0_scratch6) (f := GG I 6) (P := RB (GG I) 6 c (my 6 3 c) fullShare) rfl (full_ld 6 c _)) $$ HBf6; iintro HBf6
  iapply (wp_out_any I c 0) $$ HOUT; iintro %v676 HOUT
  iapply (wp_out_put I c 0 (piece_0 I)) $$ HOUT; iintro HOUT
  iapply (wp_load_at c (M := Memref.whole cc0_scratch7) (f := GG I 7) (P := RB (GG I) 7 c (my 7 3 c) fullShare) rfl (full_ld 7 c _)) $$ HBf7; iintro HBf7
  iapply (wp_out_any I c 256) $$ HOUT; iintro %v678 HOUT
  iapply (wp_out_put I c 256 (piece_1 I)) $$ HOUT; iintro HOUT
  iapply (wp_load_at c (M := Memref.whole cc0_scratch6) (f := GG I 6) (P := RB (GG I) 6 c (my 6 3 c) fullShare) rfl (full_ld 6 c _)) $$ HBf6; iintro HBf6
  iapply (wp_out_any I c 512) $$ HOUT; iintro %v680 HOUT
  iapply (wp_out_put I c 512 (piece_2 I)) $$ HOUT; iintro HOUT
  iapply (wp_load_at c (M := Memref.whole cc0_scratch7) (f := GG I 7) (P := RB (GG I) 7 c (my 7 3 c) fullShare) rfl (full_ld 7 c _)) $$ HBf7; iintro HBf7
  iapply (wp_out_any I c 768) $$ HOUT; iintro %v682 HOUT
  iapply (wp_out_put I c 768 (piece_3 I)) $$ HOUT; iintro HOUT
  iapply (wp_load_at c (M := Memref.whole cc0_scratch6) (f := GG I 6) (P := RB (GG I) 6 c (my 6 3 c) fullShare) rfl (full_ld 6 c _)) $$ HBf6; iintro HBf6
  iapply (wp_out_any I c 1024) $$ HOUT; iintro %v684 HOUT
  iapply (wp_out_put I c 1024 (piece_4 I)) $$ HOUT; iintro HOUT
  rw [wp_ret]; imodintro
  iapply Hk
  isplitl [HO]; · iexact HO
  isplitl [HL]; · iexact HL
  isplitl [HBf7]; · iexact HBf7
  isplitl [HBf6]; · iexact HBf6
  iexact HOUT

/-- Stretch 26 of the body: 17 loads, 8 stores. -/
theorem part_26 (c : Dev nD) (Q : (Vec F S256x256 .bf16) → sProp 𝕄) :
    iprop(Recs (GG I) K ∗ ow c 0 ∗ RB (GG I) 7 c (my 7 3 c) fullShare ∗ outP I c 1280
      ∗ RB (GG I) 6 c (my 6 3 c) fullShare)
      ⊢ iprop(((ow c 0 ∗ RB (GG I) 7 c (my 7 3 c) fullShare ∗ outP I c 3328 ∗ RB (GG I) 6 c (my 6 3 c) fullShare) -∗ Q ((Memref.whole cc0_scratch7).view.readAt (Elt F) (Rect.unit (s := S2048x256) ![1792, 0] S256x256.size inb_S2048x256_S256x256_1792_0).toLoadRect (GG I 7)))
          -∗ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 ) Q) := by
  rw [k0_part26_eq_skeleton]; unfold k0_part26_skel
  simp only [Prog.lift, Prog.bind_op, Prog.bind_ret, Prog.pure_eq_ret]
  iintro ⟨#HR, HO, HBf7, HOUT, HBf6⟩ Hk
  iapply (wp_load_at c (M := Memref.whole cc0_scratch7) (f := GG I 7) (P := RB (GG I) 7 c (my 7 3 c) fullShare) rfl (full_ld 7 c _)) $$ HBf7; iintro HBf7
  iapply (wp_out_any I c 1280) $$ HOUT; iintro %v686 HOUT
  iapply (wp_out_put I c 1280 (piece_5 I)) $$ HOUT; iintro HOUT
  iapply (wp_load_at c (M := Memref.whole cc0_scratch6) (f := GG I 6) (P := RB (GG I) 6 c (my 6 3 c) fullShare) rfl (full_ld 6 c _)) $$ HBf6; iintro HBf6
  iapply (wp_out_any I c 1536) $$ HOUT; iintro %v688 HOUT
  iapply (wp_out_put I c 1536 (piece_6 I)) $$ HOUT; iintro HOUT
  iapply (wp_load_at c (M := Memref.whole cc0_scratch7) (f := GG I 7) (P := RB (GG I) 7 c (my 7 3 c) fullShare) rfl (full_ld 7 c _)) $$ HBf7; iintro HBf7
  iapply (wp_out_any I c 1792) $$ HOUT; iintro %v690 HOUT
  iapply (wp_out_put I c 1792 (piece_7 I)) $$ HOUT; iintro HOUT
  iapply (wp_load_at c (M := Memref.whole cc0_scratch6) (f := GG I 6) (P := RB (GG I) 6 c (my 6 3 c) fullShare) rfl (full_ld 6 c _)) $$ HBf6; iintro HBf6
  iapply (wp_out_any I c 2048) $$ HOUT; iintro %v692 HOUT
  iapply (wp_out_put I c 2048 (piece_8 I)) $$ HOUT; iintro HOUT
  iapply (wp_load_at c (M := Memref.whole cc0_scratch7) (f := GG I 7) (P := RB (GG I) 7 c (my 7 3 c) fullShare) rfl (full_ld 7 c _)) $$ HBf7; iintro HBf7
  iapply (wp_out_any I c 2304) $$ HOUT; iintro %v694 HOUT
  iapply (wp_out_put I c 2304 (piece_9 I)) $$ HOUT; iintro HOUT
  iapply (wp_load_at c (M := Memref.whole cc0_scratch6) (f := GG I 6) (P := RB (GG I) 6 c (my 6 3 c) fullShare) rfl (full_ld 6 c _)) $$ HBf6; iintro HBf6
  iapply (wp_out_any I c 2560) $$ HOUT; iintro %v696 HOUT
  iapply (wp_out_put I c 2560 (piece_10 I)) $$ HOUT; iintro HOUT
  iapply (wp_load_at c (M := Memref.whole cc0_scratch7) (f := GG I 7) (P := RB (GG I) 7 c (my 7 3 c) fullShare) rfl (full_ld 7 c _)) $$ HBf7; iintro HBf7
  iapply (wp_out_any I c 2816) $$ HOUT; iintro %v698 HOUT
  iapply (wp_out_put I c 2816 (piece_11 I)) $$ HOUT; iintro HOUT
  iapply (wp_load_at c (M := Memref.whole cc0_scratch6) (f := GG I 6) (P := RB (GG I) 6 c (my 6 3 c) fullShare) rfl (full_ld 6 c _)) $$ HBf6; iintro HBf6
  iapply (wp_out_any I c 3072) $$ HOUT; iintro %v700 HOUT
  iapply (wp_out_put I c 3072 (piece_12 I)) $$ HOUT; iintro HOUT
  iapply (wp_load_at c (M := Memref.whole cc0_scratch7) (f := GG I 7) (P := RB (GG I) 7 c (my 7 3 c) fullShare) rfl (full_ld 7 c _)) $$ HBf7; iintro HBf7
  rw [wp_ret]; imodintro
  iapply Hk
  isplitl [HO]; · iexact HO
  isplitl [HBf7]; · iexact HBf7
  isplitl [HOUT]; · iexact HOUT
  iexact HBf6

end Cert.MlpProof

end
-- ==== Proof.Body.lean ====
/-
`Body`: the run of the whole body on one device: the entry handshake, the stretches in order, the last three pieces of the result.
-/
module

public import proofs.«01_k».proof.Proof.PartsA
public import proofs.«01_k».proof.Proof.PartsB
public import proofs.«01_k».proof.Proof.PartsC
public import proofs.«01_k».proof.Proof.PartsD

@[expose] public section

set_option maxRecDepth 4000

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × CI → ℕ) (I : Inp F)

omit [FloatOps F] in
/-- Twenty-four resources, one by one. -/
theorem bigSep_J (Φ : J → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ

/-- What one entry signal takes: its token, and the regions it opens to the partner. -/
def sg (c : Dev nD) (i : Fin 3) : sProp 𝕄 := iprop(dutyTok ER (barCell (par i c)) 0 i ∗ barPay (F := F) (par i c) i)

/-- The opening stretch: the three signals, the entry wait, and the load of the device's rows. -/
theorem part_1 (c : Dev nD) (Q : (Σ' (d0 : Dev nD) (v2 : BitVec 32) (v12 : BitVec 32) (v16 : BitVec 32), Vec F S512x256 .bf16) → sProp 𝕄) :
    iprop(Recs (GG I) K ∗ ow c 27 ∗ sg (F := F) c 0 ∗ sg (F := F) c 1 ∗ sg (F := F) c 2 ∗ cred (tallyAt (barCell c) () 3)
      ∗ atPos ER (barCell c) 0 ∅ 0 ∗ stg c cc0_stg0_0 (I.f0 c))
      ⊢ iprop((∀ v2, ∀ v12, ∀ v16, (ow c 24 ∗ semVal (barCell c) 0 ∗ (bigSep Finset.univ fun j : J => land (F := F) j (peer j c))
            ∗ stg c cc0_stg0_0 (I.f0 c)) -∗ Q ⟨c, v2, v12, v16, l0 I c⟩)
          -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) Q) := by
  rw [k0_part1_eq_skeleton]; unfold k0_part1_skel
  simp only [semSignalWord, semWaitWord, Prog.lift, Prog.bind_op, Prog.bind_ret, Prog.pure_eq_ret, wp_deviceId]
  unfold sg
  iintro ⟨#HR, HO, ⟨Ht0, Hp0⟩, ⟨Ht1, Hp1⟩, ⟨Ht2, Hp2⟩, Hc, Hat, HX0⟩ Hk
  iapply (wp_sig (GG I) K c _ 0 (par_0 c) 26 rfl rfl) $$ [Ht0 Hp0 HO]
  · isplitr; · iexact HR
    isplitl [Ht0]; · iexact Ht0
    isplitl [Hp0] <;> iassumption
  iintro HO
  iapply (wp_sig (GG I) K c _ 1 (par_1 c) 25 rfl rfl) $$ [Ht1 Hp1 HO]
  · isplitr; · iexact HR
    isplitl [Ht1]; · iexact Ht1
    isplitl [Hp1] <;> iassumption
  iintro HO
  iapply (wp_sig (GG I) K c _ 2 (par_2 c) 24 rfl rfl) $$ [Ht2 Hp2 HO]
  · isplitr; · iexact HR
    isplitl [Ht2]; · iexact Ht2
    isplitl [Hp2] <;> iassumption
  iintro HO
  iapply (wp_entry (GG I) K c rfl) $$ [Hc Hat HO]
  · isplitr; · iexact HR
    isplitl [Hc]; · iexact Hc
    isplitl [Hat] <;> iassumption
  iintro ⟨Hz, Hl, HO⟩
  iapply (wp_load_at c (M := Memref.whole cc0_stg0_0) (S := Finset.univ) (q := fullShare) (f := I.f0 c) (P := stg c cc0_stg0_0 (I.f0 c)) rfl (Finset.subset_univ _)) $$ HX0; iintro HX0
  rw [wp_ret]; imodintro
  iapply Hk
  isplitl [HO]; · iexact HO
  isplitl [Hz]; · iexact Hz
  isplitl [Hl] <;> iassumption

/-- The cells in the order the body has waited for them, last first. -/
abbrev waited : List (Bool × J) :=
  [(false, 23), (true, 23), (false, 22), (false, 21), (true, 22), (true, 21), (false, 20), (false, 19), (true, 20), (true, 19), (false, 18), (true, 18), (false, 17), (false, 16), (true, 17), (true, 16), (false, 15), (false, 14), (true, 15), (true, 14), (false, 13), (false, 12), (true, 13), (true, 12), (false, 11), (false, 10), (true, 11), (true, 10), (false, 9), (false, 8), (true, 9), (true, 8), (false, 7), (false, 6), (true, 7), (true, 6), (false, 5), (false, 4), (true, 5), (true, 4), (false, 3), (false, 2), (true, 3), (true, 2), (false, 1), (false, 0), (true, 1), (true, 0)]

/-- What the body starts from on device `c`. -/
def bodyIn (c : Dev nD) : sProp 𝕄 :=
  iprop(ow c 27 ∗ (sg (F := F) c 0 ∗ sg (F := F) c 1 ∗ sg (F := F) c 2) ∗ cred (tallyAt (barCell c) () 3) ∗ atPos ER (barCell c) 0 ∅ 0
    ∗ (bigSep Finset.univ fun j : J => todo (F := F) c j) ∗ (bigSep Finset.univ fun j : J => fl (F := F) c true j)
    ∗ (RA (F := F) 0 c (my 0 0 c) ∗ RA (F := F) 1 c (my 1 0 c) ∗ RA (F := F) 2 c (my 2 0 c) ∗ RA (F := F) 3 c (my 3 0 c) ∗ RA (F := F) 4 c (my 4 0 c) ∗ RA (F := F) 5 c (my 5 0 c) ∗ RA (F := F) 6 c (my 6 0 c) ∗ RA (F := F) 7 c (my 7 0 c))
    ∗ (stg c cc0_stg0_0 (I.f0 c) ∗ stg c cc0_stg1_0 (I.f1 c) ∗ stg c cc0_stg2_0 (I.f2 c) ∗ stg c cc0_stg3_0 (I.f3 c) ∗ stg c cc0_stg4_0 (I.f4 c) ∗ stg c cc0_stg5_0 (I.f5 c) ∗ stg c cc0_stg6_0 (I.f6 c))
    ∗ outP I c 0)
/-- What it leaves. -/
def bodyOut (c : Dev nD) : sProp 𝕄 :=
  iprop(ow c 0 ∗ semVal (barCell c) 0 ∗ dnL (F := F) c waited
    ∗ (RB (GG I) 0 c (my 0 3 c) fullShare ∗ RB (GG I) 1 c (my 1 3 c) fullShare ∗ RB (GG I) 2 c (my 2 3 c) fullShare ∗ RB (GG I) 3 c (my 3 3 c) fullShare ∗ RB (GG I) 4 c (my 4 3 c) fullShare ∗ RB (GG I) 5 c (my 5 3 c) fullShare ∗ RB (GG I) 6 c (my 6 3 c) fullShare ∗ RB (GG I) 7 c (my 7 3 c) fullShare)
    ∗ (stg c cc0_stg0_0 (I.f0 c) ∗ stg c cc0_stg1_0 (I.f1 c) ∗ stg c cc0_stg2_0 (I.f2 c) ∗ stg c cc0_stg3_0 (I.f3 c) ∗ stg c cc0_stg4_0 (I.f4 c) ∗ stg c cc0_stg5_0 (I.f5 c) ∗ stg c cc0_stg6_0 (I.f6 c))
    ∗ outP I c 4096)

set_option maxHeartbeats 4000000 in
/-- The body, from what it starts from to what it leaves. -/
theorem sound_body (c : Dev nD) (Q : PUnit → sProp 𝕄) :
    iprop(Recs (GG I) K ∗ bodyIn I c)
      ⊢ iprop((bodyOut I c -∗ Q ⟨⟩) -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) Q) := by
  rw [cc0_body_eq_skeleton]; unfold cc0_body_skel bodyIn
  simp only [Prog.lift, wp_bind, Prog.bind_op, Prog.bind_ret, Prog.pure_eq_ret]
  iintro ⟨#HR, HO, ⟨Hs0, Hs1, Hs2⟩, Hc, Hat, HT, HF, ⟨HA0, HA1, HA2, HA3, HA4, HA5, HA6, HA7⟩, ⟨HX0, HX1, HX2, HX3, HX4, HX5, HX6⟩, HOUT⟩ Hk
  ihave HF := (Entails.of_eq (bigSep_J fun j : J => fl (F := F) c true j)) $$ HF
  icases HF with ⟨HR0, HR1, HR2, HR3, HR4, HR5, HR6, HR7, HR8, HR9, HR10, HR11, HR12, HR13, HR14, HR15, HR16, HR17, HR18, HR19, HR20, HR21, HR22, HR23⟩
  iapply (part_1 K I c _) $$ [HO Hs0 Hs1 Hs2 Hc Hat HX0]
  · isplitr; · iexact HR
    isplitl [HO]; · iexact HO
    isplitl [Hs0]; · iexact Hs0
    isplitl [Hs1]; · iexact Hs1
    isplitl [Hs2]; · iexact Hs2
    isplitl [Hc]; · iexact Hc
    isplitl [Hat] <;> iassumption
  iintro %v2 %v12 %v16 ⟨HO, Hz, HLd, HX0⟩
  ihave HCs := (show iprop((bigSep Finset.univ fun j : J => todo (F := F) c j) ∗ (bigSep Finset.univ fun j : J => land (F := F) j (peer j c)))
      ⊢ (bigSep Finset.univ fun j : J => cp (F := F) c j : sProp 𝕄) from Entails.of_eq (bigSep_sep' _ _ _).symm) $$ [HT HLd]
  · isplitl [HT] <;> iassumption
  ihave HCs := (Entails.of_eq (bigSep_J fun j : J => cp (F := F) c j)) $$ HCs
  icases HCs with ⟨HC0, HC1, HC2, HC3, HC4, HC5, HC6, HC7, HC8, HC9, HC10, HC11, HC12, HC13, HC14, HC15, HC16, HC17, HC18, HC19, HC20, HC21, HC22, HC23⟩
  ihave HL := (show (emp : sProp 𝕄) ⊢ dnL (F := F) c [] from BI.Entails.refl _) $$ []
  · iempintro
  iapply (part_2 K I c v2 v12 v16 _) $$ [HO HX1 HA0 HX2 HA3 HX3 HA1 HX4 HA4 HX5 HA2]
  · isplitr; · iexact HR
    isplitl [HO]; · iexact HO
    isplitl [HX1]; · iexact HX1
    isplitl [HA0]; · iexact HA0
    isplitl [HX2]; · iexact HX2
    isplitl [HA3]; · iexact HA3
    isplitl [HX3]; · iexact HX3
    isplitl [HA1]; · iexact HA1
    isplitl [HX4]; · iexact HX4
    isplitl [HA4]; · iexact HA4
    isplitl [HX5]; · iexact HX5
    iexact HA2
  iintro %v57 ⟨HO, HX1, HBf0, HX2, HBf3, HX3, HBf1, HX4, HBf4, HX5, HBf2⟩
  iapply (part_3 K I c v2 v12 v57 _) $$ [HO HX6 HA5 HC0 HBf0 HC1 HBf3]
  · isplitr; · iexact HR
    isplitl [HO]; · iexact HO
    isplitl [HX6]; · iexact HX6
    isplitl [HA5]; · iexact HA5
    isplitl [HC0]; · iexact HC0
    isplitl [HBf0]; · iexact HBf0
    isplitl [HC1]; · iexact HC1
    iexact HBf3
  iintro %v73 %v92 %v93 %v94 ⟨HO, HX6, HBf5, HS0, HBr0, HS1, HBr3⟩
  iapply (part_4 K I c v2 v16 v92 v93 v94 _) $$ [HO HC2 HBf1 HC3 HBf4]
  · isplitr; · iexact HR
    isplitl [HO]; · iexact HO
    isplitl [HC2]; · iexact HC2
    isplitl [HBf1]; · iexact HBf1
    isplitl [HC3]; · iexact HC3
    iexact HBf4
  iintro %v114 %v115 ⟨HO, HS2, HBr1, HS3, HBr4⟩
  iapply (part_5 K I c v2 v73 v114 v115 _ _) $$ [HO HL HC4 HBf2 HC5 HBf5 HBr0 HBr3 HR0]
  · isplitr; · iexact HR
    isplitl [HO]; · iexact HO
    isplitl [HL]; · iexact HL
    isplitl [HC4]; · iexact HC4
    isplitl [HBf2]; · iexact HBf2
    isplitl [HC5]; · iexact HC5
    isplitl [HBf5]; · iexact HBf5
    isplitl [HBr0]; · iexact HBr0
    isplitl [HBr3]; · iexact HBr3
    iexact HR0
  iintro %v150 %c0_i32_119 ⟨HO, HL, HS4, HBr2, HS5, HBr5, HBr0, HBr3, HP0⟩
  iapply (part_6 K I c v94 v150 c0_i32_119 _ _) $$ [HO HL HR1 HS0 HP0 HBr0 HS1 HBr3 HR2]
  · isplitr; · iexact HR
    isplitl [HO]; · iexact HO
    isplitl [HL]; · iexact HL
    isplitl [HR1]; · iexact HR1
    isplitl [HS0]; · iexact HS0
    isplitl [HP0]; · iexact HP0
    isplitl [HBr0]; · iexact HBr0
    isplitl [HS1]; · iexact HS1
    isplitl [HBr3]; · iexact HBr3
    iexact HR2
  iintro ⟨HO, HL, HBf0, HBf3, HP1⟩
  iapply (part_7 K I c v115 _ _) $$ [HO HL HR3 HS2 HP1 HBr1 HS3 HBr4 HR4 HR5]
  · isplitr; · iexact HR
    isplitl [HO]; · iexact HO
    isplitl [HL]; · iexact HL
    isplitl [HR3]; · iexact HR3
    isplitl [HS2]; · iexact HS2
    isplitl [HP1]; · iexact HP1
    isplitl [HBr1]; · iexact HBr1
    isplitl [HS3]; · iexact HS3
    isplitl [HBr4]; · iexact HBr4
    isplitl [HR4]; · iexact HR4
    iexact HR5
  iintro ⟨HO, HL, HBf1, HBf4, HP2, HP5⟩
  iapply (part_8 K I c v2 _ _) $$ [HO HL HS4 HP2 HBr2 HS5 HP5 HBr5 HC6 HBf0]
  · isplitr; · iexact HR
    isplitl [HO]; · iexact HO
    isplitl [HL]; · iexact HL
    isplitl [HS4]; · iexact HS4
    isplitl [HP2]; · iexact HP2
    isplitl [HBr2]; · iexact HBr2
    isplitl [HS5]; · iexact HS5
    isplitl [HP5]; · iexact HP5
    isplitl [HBr5]; · iexact HBr5
    isplitl [HC6]; · iexact HC6
    iexact HBf0
  iintro %v205 %v206 ⟨HO, HL, HBf2, HBf5, HS6, HBr0⟩
  iapply (part_9 K I c v2 v12 v16 v205 _) $$ [HO HC7 HBf3 HC8 HBf1 HC9 HBf4]
  · isplitr; · iexact HR
    isplitl [HO]; · iexact HO
    isplitl [HC7]; · iexact HC7
    isplitl [HBf3]; · iexact HBf3
    isplitl [HC8]; · iexact HC8
    isplitl [HBf1]; · iexact HBf1
    isplitl [HC9]; · iexact HC9
    iexact HBf4
  iintro %v227 %v247 %v248 ⟨HO, HS7, HBr3, HS8, HBr1, HS9, HBr4⟩
  iapply (part_10 K I c v2 v206 v247 v248 _) $$ [HO HC10 HBf2 HC11 HBf5 HBr0 HBr3]
  · isplitr; · iexact HR
    isplitl [HO]; · iexact HO
    isplitl [HC10]; · iexact HC10
    isplitl [HBf2]; · iexact HBf2
    isplitl [HC11]; · iexact HC11
    isplitl [HBf5]; · iexact HBf5
    isplitl [HBr0]; · iexact HBr0
    iexact HBr3
  iintro ⟨HO, HS10, HBr2, HS11, HBr5, HBr0, HBr3⟩
  iapply (part_11 K I c v206 v227 _ _) $$ [HO HL HR6 HR7 HS6 HBr0 HS7 HBr3 HR8]
  · isplitr; · iexact HR
    isplitl [HO]; · iexact HO
    isplitl [HL]; · iexact HL
    isplitl [HR6]; · iexact HR6
    isplitl [HR7]; · iexact HR7
    isplitl [HS6]; · iexact HS6
    isplitl [HBr0]; · iexact HBr0
    isplitl [HS7]; · iexact HS7
    isplitl [HBr3]; · iexact HBr3
    iexact HR8
  iintro ⟨HO, HL, HBf0, HBf3, HP1⟩
  iapply (part_12 K I c v227 v248 _ _) $$ [HO HL HR9 HS8 HP1 HBr1 HS9 HBr4 HR10]
  · isplitr; · iexact HR
    isplitl [HO]; · iexact HO
    isplitl [HL]; · iexact HL
    isplitl [HR9]; · iexact HR9
    isplitl [HS8]; · iexact HS8
    isplitl [HP1]; · iexact HP1
    isplitl [HBr1]; · iexact HBr1
    isplitl [HS9]; · iexact HS9
    isplitl [HBr4]; · iexact HBr4
    iexact HR10
  iintro %v325 ⟨HO, HL, HBf1, HBf4, HP2⟩
  iapply (part_13 K I c v2 v325 _ _) $$ [HO HL HR11 HS10 HP2 HBr2 HS11 HBr5 HC12 HBf0]
  · isplitr; · iexact HR
    isplitl [HO]; · iexact HO
    isplitl [HL]; · iexact HL
    isplitl [HR11]; · iexact HR11
    isplitl [HS10]; · iexact HS10
    isplitl [HP2]; · iexact HP2
    isplitl [HBr2]; · iexact HBr2
    isplitl [HS11]; · iexact HS11
    isplitl [HBr5]; · iexact HBr5
    isplitl [HC12]; · iexact HC12
    iexact HBf0
  iintro %v340 %v341 ⟨HO, HL, HBf2, HBf5, HS12, HBr0⟩
  iapply (part_14 K I c v2 v12 v340 v341 _) $$ [HO HC13 HBf3 HC14 HBf1 HC15 HBf4]
  · isplitr; · iexact HR
    isplitl [HO]; · iexact HO
    isplitl [HC13]; · iexact HC13
    isplitl [HBf3]; · iexact HBf3
    isplitl [HC14]; · iexact HC14
    isplitl [HBf1]; · iexact HBf1
    isplitl [HC15]; · iexact HC15
    iexact HBf4
  iintro %v361 %v362 %c512_i32_396 ⟨HO, HS13, HBr3, HS14, HBr1, HS15, HBr4⟩
  iapply (part_15 K I c v2 v16 v361 c512_i32_396 _) $$ [HO HC16 HBf2 HC17 HBf5 HBr0]
  · isplitr; · iexact HR
    isplitl [HO]; · iexact HO
    isplitl [HC16]; · iexact HC16
    isplitl [HBf2]; · iexact HBf2
    isplitl [HC17]; · iexact HC17
    isplitl [HBf5]; · iexact HBf5
    iexact HBr0
  iintro %v383 %v404 ⟨HO, HS16, HBr2, HS17, HBr5, HBr0⟩
  iapply (part_16 K I c v341 v404 _ _) $$ [HO HL HBr3 HR12 HR13 HS12 HBr0 HS13]
  · isplitr; · iexact HR
    isplitl [HO]; · iexact HO
    isplitl [HL]; · iexact HL
    isplitl [HBr3]; · iexact HBr3
    isplitl [HR12]; · iexact HR12
    isplitl [HR13]; · iexact HR13
    isplitl [HS12]; · iexact HS12
    isplitl [HBr0]; · iexact HBr0
    iexact HS13
  iintro ⟨HO, HL, HBf0, HBf3⟩
  iapply (part_17 K I c v362 v383 _ _) $$ [HO HL HR14 HR15 HS14 HBr1 HS15 HBr4]
  · isplitr; · iexact HR
    isplitl [HO]; · iexact HO
    isplitl [HL]; · iexact HL
    isplitl [HR14]; · iexact HR14
    isplitl [HR15]; · iexact HR15
    isplitl [HS14]; · iexact HS14
    isplitl [HBr1]; · iexact HBr1
    isplitl [HS15]; · iexact HS15
    iexact HBr4
  iintro %v455 ⟨HO, HL, HBf1, HBf4⟩
  iapply (part_18 K I c v2 v383 v455 _ _) $$ [HO HL HR16 HR17 HS16 HBr2 HS17 HBr5 HBf0]
  · isplitr; · iexact HR
    isplitl [HO]; · iexact HO
    isplitl [HL]; · iexact HL
    isplitl [HR16]; · iexact HR16
    isplitl [HR17]; · iexact HR17
    isplitl [HS16]; · iexact HS16
    isplitl [HBr2]; · iexact HBr2
    isplitl [HS17]; · iexact HS17
    isplitl [HBr5]; · iexact HBr5
    iexact HBf0
  iintro %v477 ⟨HO, HL, HBf2, HBf5, HBf0⟩
  iapply (part_19 K I c v2 v477 _) $$ [HO HBf3 HBf1 HBf4 HBf2 HBf5 HA6]
  · isplitr; · iexact HR
    isplitl [HO]; · iexact HO
    isplitl [HBf3]; · iexact HBf3
    isplitl [HBf1]; · iexact HBf1
    isplitl [HBf4]; · iexact HBf4
    isplitl [HBf2]; · iexact HBf2
    isplitl [HBf5]; · iexact HBf5
    iexact HA6
  iintro %v512 %v513 ⟨HO, HBf3, HBf1, HBf4, HBf2, HBf5, HBf6⟩
  iapply (part_20 K I c v16 v512 v513 _ _) $$ [HO HL HC18 HBf6 HBf2 HBf5 HA7 HR18]
  · isplitr; · iexact HR
    isplitl [HO]; · iexact HO
    isplitl [HL]; · iexact HL
    isplitl [HC18]; · iexact HC18
    isplitl [HBf6]; · iexact HBf6
    isplitl [HBf2]; · iexact HBf2
    isplitl [HBf5]; · iexact HBf5
    isplitl [HA7]; · iexact HA7
    iexact HR18
  iintro ⟨HO, HL, HS18, HBr6, HBf2, HBf5, HBf7, HP6⟩
  iapply (part_21 K I c v2 v16 _ _) $$ [HO HL HS18 HP6 HBr6 HC19 HC20 HBf7]
  · isplitr; · iexact HR
    isplitl [HO]; · iexact HO
    isplitl [HL]; · iexact HL
    isplitl [HS18]; · iexact HS18
    isplitl [HP6]; · iexact HP6
    isplitl [HBr6]; · iexact HBr6
    isplitl [HC19]; · iexact HC19
    isplitl [HC20]; · iexact HC20
    iexact HBf7
  iintro %v552 %v566 %v567 %c256_i32_596 ⟨HO, HL, HS19, HBr6, HS20, HBr7⟩
  iapply (part_22 K I c v2 v552 v566 v567 c256_i32_596 _ _) $$ [HO HL HR19 HR20 HS19 HBr6 HS20 HBr7]
  · isplitr; · iexact HR
    isplitl [HO]; · iexact HO
    isplitl [HL]; · iexact HL
    isplitl [HR19]; · iexact HR19
    isplitl [HR20]; · iexact HR20
    isplitl [HS19]; · iexact HS19
    isplitl [HBr6]; · iexact HBr6
    isplitl [HS20]; · iexact HS20
    iexact HBr7
  iintro %v601 %v602 ⟨HO, HL, HBf6, HBf7⟩
  iapply (part_23 K I c v2 v16 v601 v602 _ _) $$ [HO HL HC21 HBf6 HC22 HBf7 HR21]
  · isplitr; · iexact HR
    isplitl [HO]; · iexact HO
    isplitl [HL]; · iexact HL
    isplitl [HC21]; · iexact HC21
    isplitl [HBf6]; · iexact HBf6
    isplitl [HC22]; · iexact HC22
    isplitl [HBf7]; · iexact HBf7
    iexact HR21
  iintro %v617 ⟨HO, HL, HS21, HBr6, HS22, HBr7, HP6⟩
  iapply (part_24 K I c v2 v16 v617 _ _) $$ [HO HL HR22 HS21 HP6 HBr6 HS22 HBr7 HC23]
  · isplitr; · iexact HR
    isplitl [HO]; · iexact HO
    isplitl [HL]; · iexact HL
    isplitl [HR22]; · iexact HR22
    isplitl [HS21]; · iexact HS21
    isplitl [HP6]; · iexact HP6
    isplitl [HBr6]; · iexact HBr6
    isplitl [HS22]; · iexact HS22
    isplitl [HBr7]; · iexact HBr7
    iexact HC23
  iintro %v651 %v652 ⟨HO, HL, HBf6, HS23, HBr7⟩
  iapply (part_25 K I c v651 v652 _ _) $$ [HO HL HR23 HS23 HBr7 HBf6 HOUT]
  · isplitr; · iexact HR
    isplitl [HO]; · iexact HO
    isplitl [HL]; · iexact HL
    isplitl [HR23]; · iexact HR23
    isplitl [HS23]; · iexact HS23
    isplitl [HBr7]; · iexact HBr7
    isplitl [HBf6]; · iexact HBf6
    iexact HOUT
  iintro ⟨HO, HL, HBf7, HBf6, HOUT⟩
  iapply (part_26 K I c _) $$ [HO HBf7 HOUT HBf6]
  · isplitr; · iexact HR
    isplitl [HO]; · iexact HO
    isplitl [HBf7]; · iexact HBf7
    isplitl [HOUT]; · iexact HOUT
    iexact HBf6
  iintro ⟨HO, HBf7, HOUT, HBf6⟩
  iapply (wp_out_any I c 3328) $$ HOUT; iintro %v702 HOUT
  iapply (wp_out_put I c 3328 (piece_13 I)) $$ HOUT; iintro HOUT
  iapply (wp_load_at c (M := Memref.whole cc0_scratch6) (f := GG I 6) (P := RB (GG I) 6 c (my 6 3 c) fullShare) rfl (full_ld 6 c _)) $$ HBf6; iintro HBf6
  iapply (wp_out_any I c 3584) $$ HOUT; iintro %v704 HOUT
  iapply (wp_out_put I c 3584 (piece_14 I)) $$ HOUT; iintro HOUT
  iapply (wp_load_at c (M := Memref.whole cc0_scratch7) (f := GG I 7) (P := RB (GG I) 7 c (my 7 3 c) fullShare) rfl (full_ld 7 c _)) $$ HBf7; iintro HBf7
  iapply (wp_out_any I c 3840) $$ HOUT; iintro %v706 HOUT
  iapply (wp_out_put I c 3840 (piece_15 I)) $$ HOUT; iintro HOUT
  rw [wp_ret]; imodintro
  iapply Hk
  unfold bodyOut
  isplitl [HO]; · iexact HO
  isplitl [Hz]; · iexact Hz
  isplitl [HL]; · iexact HL
  isplitl [HBf0 HBf1 HBf2 HBf3 HBf4 HBf5 HBf6 HBf7]
  · isplitl [HBf0]; · iexact HBf0
    isplitl [HBf1]; · iexact HBf1
    isplitl [HBf2]; · iexact HBf2
    isplitl [HBf3]; · iexact HBf3
    isplitl [HBf4]; · iexact HBf4
    isplitl [HBf5]; · iexact HBf5
    isplitl [HBf6]; · iexact HBf6
    iexact HBf7
  isplitl [HX0 HX1 HX2 HX3 HX4 HX5 HX6]
  · isplitl [HX0]; · iexact HX0
    isplitl [HX1]; · iexact HX1
    isplitl [HX2]; · iexact HX2
    isplitl [HX3]; · iexact HX3
    isplitl [HX4]; · iexact HX4
    isplitl [HX5]; · iexact HX5
    iexact HX6
  iexact HOUT

end Cert.MlpProof

end
-- ==== Proof.Launch.lean ====
/-
`Launch`: the set-up of the launch: what each device is dealt, how the tokens and the credits go around, and what the body starts from.
-/
module

public import proofs.«01_k».proof.Proof.Body
public import proofs.«01_k».proof.Proof.Gen.KernelIdeal.Points

@[expose] public section

set_option maxRecDepth 4000

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × CI → ℕ) (I : Inp F)

/-! ## Sums over the exchange's semaphores -/

omit [FloatOps F] in
/-- A resource for every semaphore of the exchange: the barrier's, the source cells', the landing cells'. -/
theorem bigSep_CI (Φ : CI → sProp 𝕄) : bigSep Finset.univ Φ
    = iprop(Φ none ∗ (bigSep Finset.univ fun j : J => Φ (some (false, j))) ∗ (bigSep Finset.univ fun j : J => Φ (some (true, j)))) := by
  have h : (Finset.univ : Finset CI) = insert none (Finset.univ.map Function.Embedding.some) := by decide +kernel
  have hn : (none : CI) ∉ (Finset.univ.map Function.Embedding.some : Finset CI) := by decide +kernel
  rw [h, bigSep_insert hn, bigSep_map, bigSep_univ_prod]
  have hb (Ψ : Bool → sProp 𝕄) : bigSep Finset.univ Ψ = iprop(Ψ false ∗ Ψ true) := bigSep_univ_eq_bigSepL [false, true] (by decide) (by decide) Ψ
  rw [hb]; rfl
omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem csem_injective : Function.Injective csem := by
  rintro (_ | ⟨b, j⟩) (_ | ⟨b', j'⟩) h
  · rfl
  · cases h
  · cases h
  · have h' : dsem b j = dsem b' j' := by injection h
    have := dec_dsem b j; rw [h', dec_dsem] at this; exact this.symm
theorem kcell_injective : Function.Injective kcell := by
  rintro ⟨c, k⟩ ⟨c', k'⟩ h
  have h1 : c = c' := congrArg (fun g : GSem nD τ sig => g.1.1) h
  subst h1
  have h2 : csem k = csem k' := congrArg Prod.snd h
  rw [csem_injective h2]

/-! ## What the launch deals -/

/-- The exchange's cells, and the tokens minted for them. -/
def xCells : Finset (GSem nD τ sig) := Finset.univ.map ⟨kcell, kcell_injective⟩
abbrev tokOf (x : (Dev nD × CI) × Fin 3) : GSem nD τ sig × ℕ × Fin 3 := (kcell x.1, 0, x.2)
theorem tokOf_injective : Function.Injective tokOf := by
  rintro ⟨p, i⟩ ⟨p', i'⟩ h
  have h1 : p = p' := kcell_injective (congrArg Prod.fst h)
  have h2 : i = i' := congrArg (fun x : GSem nD τ sig × ℕ × Fin 3 => x.2.2) h
  rw [h1, h2]
def xToks : Finset (GSem nD τ sig × ℕ × Fin 3) := Finset.univ.map ⟨tokOf, tokOf_injective⟩

def u₀ : UU := (initOf (Pipeline.cells cfgs cellOf_inj) (Pipeline.launchToks cfgs cellOf_inj), initOf xCells xToks)

/-- The tokens of device `c`'s own cells. -/
def toks (c : Dev nD) : sProp 𝕄 :=
  iprop((bigSep Finset.univ fun i : Fin 3 => dutyTok ER (barCell c) 0 i)
    ∗ (bigSep Finset.univ fun j : J => dutyTok ER (dcell false j c) 0 0) ∗ (bigSep Finset.univ fun j : J => dutyTok ER (dcell true j c) 0 0))
/-- The tokens of the payments device `c` makes. -/
def payToks (c : Dev nD) : sProp 𝕄 :=
  iprop((bigSep Finset.univ fun i : Fin 3 => dutyTok ER (barCell (par i c)) 0 i)
    ∗ (bigSep Finset.univ fun j : J => dutyTok ER (dcell false j c) 0 0) ∗ (bigSep Finset.univ fun j : J => dutyTok ER (dcell true j (peer j c)) 0 0))

omit [FloatOps F] in
/-- Every token goes to the device that pays with it. -/
theorem toks_around : (bigSep Finset.univ fun c : Dev nD => (toks c : sProp 𝕄)) ⊢ bigSep Finset.univ fun c : Dev nD => payToks c := by
  have hb : (bigSep Finset.univ fun c : Dev nD => bigSep Finset.univ fun i : Fin 3 => (dutyTok ER (barCell c) 0 i : sProp 𝕄))
      = bigSep Finset.univ fun c : Dev nD => bigSep Finset.univ fun i : Fin 3 => dutyTok ER (barCell (par i c)) 0 i := by
    rw [bigSep_univ_comm, bigSep_univ_comm (α := Dev nD)]
    exact bigSep_congr fun i _ => bigSep_univ_equiv (parEquiv i) (fun c : Dev nD => (dutyTok ER (barCell c) 0 i : sProp 𝕄))
  have hr : (bigSep Finset.univ fun c : Dev nD => bigSep Finset.univ fun j : J => (dutyTok ER (dcell true j c) 0 0 : sProp 𝕄))
      = bigSep Finset.univ fun c : Dev nD => bigSep Finset.univ fun j : J => dutyTok ER (dcell true j (peer j c)) 0 0 := by
    rw [bigSep_univ_comm, bigSep_univ_comm (α := Dev nD)]
    exact bigSep_congr fun j _ => bigSep_univ_equiv (parEquiv (axis j)) (fun c : Dev nD => (dutyTok ER (dcell true j c) 0 0 : sProp 𝕄))
  unfold toks payToks
  rw [bigSep_sep', bigSep_sep', bigSep_sep', bigSep_sep', hb, hr]

section Deal
variable (m : (ℓ : Loc nD τ sig) → Buf (Elt F) ℓ)

/-- What the input windows hold: the argument arrays as launched. -/
def inp : Inp F where
  f0 c := (win0_0.blk (0 : Fin 1)).view.read (Elt F) (m ((c : Thread nD τ).loc main_arg0))
  f1 c := (win0_1.blk (0 : Fin 1)).view.read (Elt F) (m ((c : Thread nD τ).loc main_arg1))
  f2 c := (win0_2.blk (0 : Fin 1)).view.read (Elt F) (m ((c : Thread nD τ).loc main_arg4))
  f3 c := (win0_3.blk (0 : Fin 1)).view.read (Elt F) (m ((c : Thread nD τ).loc main_arg2))
  f4 c := (win0_4.blk (0 : Fin 1)).view.read (Elt F) (m ((c : Thread nD τ).loc main_arg5))
  f5 c := (win0_5.blk (0 : Fin 1)).view.read (Elt F) (m ((c : Thread nD τ).loc main_arg3))
  f6 c := (win0_6.blk (0 : Fin 1)).view.read (Elt F) (m ((c : Thread nD τ).loc main_arg6))

/-- The schedule of the exchange, at the contents the arguments give. -/
abbrev RD : Rounds.Schedule (GSem nD τ sig) (Fin 3) 𝕄 := Rd (GG (inp m))

/-- What the launch deals device `c`. -/
def deal (c : Dev nD) : sProp 𝕄 :=
  iprop((bigSep Finset.univ fun k : CI => roundState ER (RD m) (kcell (c, k)) 0)
    ∗ (bigSep Finset.univ fun k : CI => atPos ER (kcell (c, k)) 0 ∅ 0) ∗ (bigSep Finset.univ fun k : CI => reached ER (kcell (c, k)) 0) ∗ toks c)

theorem fund_x : BI.own (ER (initOf xCells xToks)) ⊢ (|==> bigSep Finset.univ (deal m) : sProp 𝕄) := by
  have hX (Φ : GSem nD τ sig → sProp 𝕄) : bigSep xCells Φ = bigSep Finset.univ fun c : Dev nD => bigSep Finset.univ fun k : CI => Φ (kcell (c, k)) := by
    unfold xCells; rw [bigSep_map, bigSep_univ_prod]; rfl
  have hT : bigSep xToks (fun x => (dutyTok ER x.1 x.2.1 x.2.2 : sProp 𝕄)) ⊢ bigSep Finset.univ fun c : Dev nD => toks c := by
    unfold xToks; rw [bigSep_map, bigSep_univ_prod, bigSep_univ_prod]
    refine bigSep_mono fun c _ => ?_
    rw [bigSep_CI]; unfold toks
    refine sep_mono (BI.Entails.refl _) (sep_mono (bigSep_mono fun j _ => ?_) (bigSep_mono fun j _ => ?_))
    · exact bigSep_elim (Finset.mem_univ (0 : Fin 3))
    · exact bigSep_elim (Finset.mem_univ (0 : Fin 3))
  iintro HX
  imod (Rounds.fund ER (RD m) xCells xToks) $$ HX with ⟨Hst, Hr, Hat, Htok⟩
  imodintro
  ihave Hst' := (Entails.of_eq (hX fun g => roundState ER (RD m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold deal; simp only [bigSep_sep']
  isplitl [Hst']; · iexact Hst'
  isplitl [Hat']; · iexact Hat'
  isplitl [Hr']; · iexact Hr'
  iexact Htok'

/-- The kernel's own semaphores: two for each copy. -/
abbrev osem (p : Bool × J) : SemLoc sig := .dma (dsem p.1 p.2)

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun p : Bool × J => dn (F := F) c p.1 p.2 := rfl
omit [FloatOps F] in
theorem bigSep_BJ (Φ : Bool × J → sProp 𝕄) : bigSep Finset.univ Φ
    = iprop((bigSep Finset.univ fun j : J => Φ (false, j)) ∗ (bigSep Finset.univ fun j : J => Φ (true, j))) := by
  rw [bigSep_univ_prod]
  exact bigSep_univ_eq_bigSepL [false, true] (by decide) (by decide) _

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI, bigSep_BJ]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ deal m c)
      ⊢ |={Set.univ}=> iprop((bigSep Finset.univ fun k : CI => iprop(∃ κ : ℕ, cellInv ER (RD m) κ (kcell (c, k))))
          ∗ (bigSep Finset.univ fun k : CI => atPos ER (kcell (c, k)) 0 ∅ 0) ∗ (bigSep Finset.univ fun k : CI => reached ER (kcell (c, k)) 0) ∗ toks c) := by
  unfold deal
  iintro ⟨Hos, Hus, Hst, Hat, Hr, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (RD m) (kcell (c, k)) 0)
      ⊢ (|={Set.univ}=> bigSep Finset.univ fun k => iprop(∃ κ : ℕ, cellInv ER (RD m) κ (kcell (c, k))) : sProp 𝕄) from by
        rw [← bigSep_sep']
        exact (bigSep_mono fun k _ => (Rounds.body_intro ER (RD m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- Every cell's invariant and start mark. -/
def recs (K : Dev nD × CI → ℕ) : sProp 𝕄 :=
  iprop((bigSep Finset.univ fun p : Dev nD × CI => cellInv ER (RD m) (K p) (kcell p))
    ∗ (bigSep Finset.univ fun p : Dev nD × CI => reached ER (kcell p) 0))
instance recs_persistent (K : Dev nD × CI → ℕ) : BI.Persistent (recs m K) := by unfold recs; infer_instance

/-- What every device's body starts from, but for its credits. -/
def ghost (c : Dev nD) : sProp 𝕄 :=
  iprop(∃ K, recs m K ∗ (bigSep Finset.univ fun k : CI => atPos ER (kcell (c, k)) 0 ∅ 0) ∗ payToks c)

theorem ghost_intro (K : Dev nD × CI → ℕ) (c : Dev nD) :
    iprop(recs m K ∗ (bigSep Finset.univ fun k : CI => atPos ER (kcell (c, k)) 0 ∅ 0) ∗ payToks c) ⊢ ghost m c := by
  unfold ghost
  iintro ⟨H1, H2, H3⟩
  iexists K
  isplitl [H1]; · iexact H1
  isplitl [H2] <;> iassumption

theorem regroup :
    (bigSep Finset.univ fun c : Dev nD => iprop((bigSep Finset.univ fun k : CI => iprop(∃ κ : ℕ, cellInv ER (RD m) κ (kcell (c, k))))
          ∗ (bigSep Finset.univ fun k : CI => atPos ER (kcell (c, k)) 0 ∅ 0) ∗ (bigSep Finset.univ fun k : CI => reached ER (kcell (c, k)) 0) ∗ toks c) : sProp 𝕄)
      ⊢ bigSep Finset.univ (ghost m) := by
  rw [bigSep_sep', bigSep_sep', bigSep_sep', ← bigSep_univ_prod (fun p : Dev nD × CI => iprop(∃ κ : ℕ, cellInv ER (RD m) κ (kcell p))),
    ← bigSep_univ_prod (fun p : Dev nD × CI => (reached ER (kcell p) 0 : sProp 𝕄))]
  iintro ⟨HI, Hat, #HR, Htok⟩
  ihave HK := (BI.bigSep_exists_pi Finset.univ (fun (p : Dev nD × CI) (κ : ℕ) => (cellInv ER (RD m) κ (kcell p) : sProp 𝕄))) $$ HI
  icases HK with ⟨%K, #HI⟩
  ihave Htk := (toks_around (F := F)) $$ Htok
  ihave HL := (show iprop((bigSep Finset.univ fun c : Dev nD => bigSep Finset.univ fun k : CI => (atPos ER (kcell (c, k)) 0 ∅ 0 : sProp 𝕄))
        ∗ (bigSep Finset.univ fun c : Dev nD => payToks (F := F) c))
      ⊢ (bigSep Finset.univ fun c : Dev nD => iprop((bigSep Finset.univ fun k : CI => (atPos ER (kcell (c, k)) 0 ∅ 0 : sProp 𝕄)) ∗ payToks c) : sProp 𝕄)
      from Entails.of_eq (bigSep_sep' _ _ _).symm) $$ [Hat Htk]
  · isplitl [Hat] <;> iassumption
  ihave HRR := (show iprop((bigSep Finset.univ fun p : Dev nD × CI => cellInv ER (RD m) (K p) (kcell p))
      ∗ (bigSep Finset.univ fun p : Dev nD × CI => reached ER (kcell p) 0)) ⊢ (bigSep (Finset.univ : Finset (Dev nD)) fun _ => recs m K : sProp 𝕄)
      from BI.bigSep_of_persistent Finset.univ (recs m K)) $$ []
  · isplitl; · iexact HI
    iexact HR
  ihave H := (show iprop((bigSep (Finset.univ : Finset (Dev nD)) fun _ => recs m K)
        ∗ (bigSep Finset.univ fun c : Dev nD => iprop((bigSep Finset.univ fun k : CI => (atPos ER (kcell (c, k)) 0 ∅ 0 : sProp 𝕄)) ∗ payToks c)))
      ⊢ (bigSep Finset.univ (ghost m) : sProp 𝕄) from by
        rw [← bigSep_sep']
        exact bigSep_mono fun c _ => ghost_intro m K c) $$ [HRR HL]
  · isplitl [HRR] <;> iassumption
  iexact H

/-- The semaphores of all devices become the exchange's cells at once. -/
theorem glob : (bigSep Finset.univ fun c => iprop(Pipeline.ownSems0 (Ix := Unit) (Name := ℕ) (U := UU) (Lvl := ℕ) (Val := Elt F) (τ := τ) osem c ∗ unscopedSems0 c ∗ deal m c) : sProp 𝕄)
    ⊢ |={Set.univ}=> bigSep Finset.univ (ghost m) :=
  ((bigSep_mono fun c _ => core_alloc m c).trans (bigSep_fupd _ _)).trans (BI.fupd_mono (regroup m))

end Deal

/-! ## The credits -/

theorem Orec_apply (d : Dev nD) (n : ℕ) (g : GSem nD τ sig) : Orec d n g () = ∑ k ∈ Finset.range n, payN d k g () := by
  induction n with
  | zero => rfl
  | succ n ih => rw [Orec_succ, Pi.add_apply, Finsupp.add_apply, ih, Finset.sum_range_succ]

theorem pay_copy_rcv (d c : Dev nD) (j j' : J) :
    (tallyAt (dcell true j' (peer j' d)) () (amt j') : CellTallies nD τ sig Unit) (dcell true j c) () = if j' = j ∧ d = peer j c then amt j else 0 := by
  rw [tallyAt_apply]
  by_cases h : j' = j ∧ d = peer j c
  · obtain ⟨rfl, rfl⟩ := h
    rw [peer_peer, if_pos ⟨rfl, rfl⟩, if_pos ⟨rfl, rfl⟩]
  · rw [if_neg h, if_neg]
    rintro ⟨h1, -⟩
    have h2 := kcell_injective h1
    have e1 : c = peer j' d := congrArg Prod.fst h2
    have e2 : j = j' := by
      have := congrArg Prod.snd h2; injection this with this; exact congrArg Prod.snd this
    subst e2
    exact h ⟨rfl, by rw [e1, peer_peer]⟩

theorem owed_rcv (d c : Dev nD) (j : J) : Orec d 27 (dcell true j c) () = if d = peer j c then amt j else 0 := by
  have hbar (i : Fin 3) : (tallyAt (barCell (par i d)) () 1 : CellTallies nD τ sig Unit) (dcell true j c) () = 0 := by
    rw [tallyAt_apply, if_neg]
    rintro ⟨h1, -⟩
    have := congrArg Prod.snd (kcell_injective h1); cases this
  have hj : j.val < 24 := j.isLt
  rw [Orec_apply, Finset.sum_eq_single (23 - j.val)]
  · rw [payN_copy d j (23 - j.val) (by omega), pay_copy_rcv]
    by_cases h : d = peer j c
    · rw [if_pos ⟨rfl, h⟩, if_pos h]
    · rw [if_neg (fun x => h x.2), if_neg h]
  · intro k hk hne
    rw [Finset.mem_range] at hk
    by_cases h24 : k < 24
    · rw [payN_copy d ⟨23 - k, by omega⟩ k (by simp only; omega), pay_copy_rcv, if_neg]
      rintro ⟨h1, -⟩
      have := congrArg Fin.val h1
      simp only at this; omega
    · rw [payN_bar d ⟨26 - k, by omega⟩ k (by simp only; omega), hbar]
  · intro h; exact absurd (Finset.mem_range.mpr (by omega)) h

theorem owed_bar (d c : Dev nD) : Orec d 27 (barCell c) () = ∑ i : Fin 3, if d = par i c then 1 else 0 := by
  have hbar (i : Fin 3) : (tallyAt (barCell (par i d)) () 1 : CellTallies nD τ sig Unit) (barCell c) () = if d = par i c then 1 else 0 := by
    rw [tallyAt_apply]
    by_cases h : d = par i c
    · subst h; rw [par_par, if_pos ⟨rfl, rfl⟩, if_pos rfl]
    · rw [if_neg h, if_neg]
      rintro ⟨h1, -⟩
      have e1 : c = par i d := congrArg Prod.fst (kcell_injective h1)
      exact h (by rw [e1, par_par])
  rw [Orec_apply, Finset.sum_range_succ, Finset.sum_range_succ, Finset.sum_range_succ, payN_bar d 2 24 rfl, payN_bar d 1 25 rfl, payN_bar d 0 26 rfl,
    hbar, hbar, hbar, Finset.sum_eq_zero, Fin.sum_univ_three]
  · omega
  · intro k hk
    rw [Finset.mem_range] at hk
    rw [payN_copy d ⟨23 - k, by omega⟩ k (by simp only; omega), tallyAt_apply, if_neg]
    rintro ⟨h1, -⟩
    have := congrArg Prod.snd (kcell_injective h1); cases this

/-- What device `c` owes at launch. -/
def O₀ (c : Dev nD) : CellTallies nD τ sig Unit := Orec c 27

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, show (∑ d : Dev nD, O₀ d (barCell c) ()) = _ from Finset.sum_congr rfl fun d _ => owed_bar d c, Finset.sum_comm]
  simp only [Finset.sum_ite_eq', Finset.mem_univ, if_true]; rfl
omit [FloatOps F] in
theorem launch_rcv (c : Dev nD) (j : J) :
    tallyOn (dcell true j c) (launchCredit (Pipeline.owing O₀) 0 (dcell true j c)) = (tallyAt (dcell true j c) () (amt j) : CellTallies nD τ sig Unit) := by
  unfold tallyAt; refine congrArg _ (Finsupp.ext fun u => ?_); cases u
  rw [Pipeline.launchCredit_owing, Finsupp.single_eq_same, show (∑ d : Dev nD, O₀ d (dcell true j c) ()) = _ from Finset.sum_congr rfl fun d _ => owed_rcv d c j, Finset.sum_ite_eq' Finset.univ (peer j c) fun _ => amt j,
    if_pos (Finset.mem_univ _)]

omit [FloatOps F] in
theorem drop_mid (A B C : sProp 𝕄) : iprop(A ∗ B ∗ C) ⊢ iprop(A ∗ C) := by
  iintro ⟨H, -, H'⟩
  isplitl [H] <;> iassumption

omit [FloatOps F] in
/-- A device's credits: its three entry signals and its twenty-four landings. -/
theorem creds (c : Dev nD) :
    (Pipeline.launchCred O₀ c : sProp 𝕄) ⊢ iprop(cred (tallyAt (barCell c) () 3) ∗ (bigSep Finset.univ fun j : J => cred (tallyAt (dcell true j c) () (amt j)))) := by
  unfold Pipeline.launchCred
  refine (bigSep_subset (Finset.subset_univ (Finset.univ.map ⟨csem, csem_injective⟩))).trans ?_
  rw [bigSep_map, bigSep_CI]
  have h1 := bigSep_congr (s := Finset.univ) fun (j : J) _ => congrArg (cred : _ → sProp 𝕄) (launch_rcv c j)
  rw [← launch_bar c, ← h1]
  exact drop_mid _ _ _

end Cert.MlpProof

end
-- ==== Proof.Run.lean ====
/-
`Run`: the run of the whole kernel on eight devices: what every device's result array holds when it ends.
-/
module

public import proofs.«01_k».proof.Proof.Launch
public import Idealize.ShloMosaic.Lib.Pipeline.CollectiveSegs

@[expose] public section

set_option maxRecDepth 4000

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## The buffers at entry -/

/-- A copy's buffer and step. -/
def bufStep (j : J) : Fin 8 × Fin 3 := (buf j, ⟨st j % 3, Nat.mod_lt _ (by decide)⟩)
theorem bufStep_injective : Function.Injective bufStep := by decide +kernel
theorem bufStep_all : (Finset.univ : Finset (Fin 8 × Fin 3)) = Finset.univ.map ⟨bufStep, bufStep_injective⟩ := by decide +kernel

omit [FloatOps F] in
/-- The twenty-four landing regions of a device are the regions its eight buffers have beside its own slots. -/
theorem lands_eq (c : Dev nD) : (bigSep Finset.univ fun β : Fin 8 => bigSep Finset.univ fun s : Fin 3 => (RA (F := F) β c (pb β s.val c) : sProp 𝕄))
    = bigSep Finset.univ fun j : J => land (F := F) j c := by
  rw [← bigSep_univ_prod fun p : Fin 8 × Fin 3 => (RA (F := F) p.1 c (pb p.1 p.2.val c) : sProp 𝕄)]
  rw [bufStep_all, bigSep_map]
  refine bigSep_congr fun j _ => ?_
  unfold land
  have hs : st j % 3 = st j := by revert j; decide +kernel
  show (RA (buf j) c (pb (buf j) (st j % 3) c) : sProp 𝕄) = _
  rw [hs]

omit [FloatOps F] in
/-- Along each axis they are what the entry signal hands over. -/
theorem lands_axes (c : Dev nD) : (bigSep Finset.univ fun j : J => (land (F := F) j c : sProp 𝕄))
    = bigSep Finset.univ fun i : Fin 3 => barPay (F := F) (par i c) i := by
  rw [bigSep_fiberwise Finset.univ axis fun j : J => (land (F := F) j c : sProp 𝕄),
    show (Finset.univ : Finset J).image axis = Finset.univ by decide]
  refine bigSep_congr fun i _ => ?_
  unfold barPay; rw [par_par]

omit [FloatOps F] in
/-- The eight buffers at entry: the device's own slots, and what its three signals hand over. -/
theorem bufs_split (c : Dev nD) : (bigSep Finset.univ fun β : Fin 8 => (RA (F := F) β c Finset.univ : sProp 𝕄))
    ⊢ iprop((bigSep Finset.univ fun β : Fin 8 => RA (F := F) β c (my β 0 c)) ∗ bigSep Finset.univ fun i : Fin 3 => barPay (F := F) (par i c) i) := by
  rw [← lands_axes, ← lands_eq, ← bigSep_sep']
  refine bigSep_mono fun β _ => ?_
  rw [bigSep_three]
  exact RA_split β c

/-- What the body of device `c` starts from, but for its buffers. -/
def start (c : Dev nD) : sProp 𝕄 :=
  iprop(ghost m c ∗ cred (tallyAt (barCell c) () 3) ∗ (bigSep Finset.univ fun j : J => cred (tallyAt (dcell true j c) () (amt j))) ∗ levAts L lv)
/-- Before the body: that, and its eight buffers. -/
def Φ₀ (c : Dev nD) : sProp 𝕄 := iprop(start m c ∗ bigSep Finset.univ fun β : Fin 8 => RA (F := F) β c Finset.univ)
/-- After the body: every semaphore at zero, and the buffers whole again. -/
def Φ₁ (c : Dev nD) : sProp 𝕄 :=
  iprop(semVal (barCell c) 0 ∗ (bigSep Finset.univ fun p : Bool × J => dn (F := F) c p.1 p.2) ∗ bigSep Finset.univ fun β : Fin 8 => RA (F := F) β c Finset.univ)

/-- The proof data of the one call. -/
def dats (_ : Fin 1) (c : Dev nD) : Dat τ (Elt F) Unit ℕ UU ℕ cfg0 c where
  A w := m ((cfg0.win w).arr.view.loc (c : Thread nD τ))
  after w _ := match w with
    | ⟨0, _⟩ => (inp m).f0 c
    | ⟨1, _⟩ => (inp m).f1 c
    | ⟨2, _⟩ => (inp m).f2 c
    | ⟨3, _⟩ => (inp m).f3 c
    | ⟨4, _⟩ => (inp m).f4 c
    | ⟨5, _⟩ => (inp m).f5 c
    | ⟨6, _⟩ => (inp m).f6 c
    | ⟨7, _⟩ => outC (inp m)
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- The pieces of the start, put as the body takes them. -/
theorem assemble (c : Dev nD) :
    iprop((bigSep Finset.univ fun k : CI => atPos ER (kcell (c, k)) 0 ∅ 0) ∗ payToks (F := F) c
        ∗ cred (tallyAt (barCell c) () 3) ∗ (bigSep Finset.univ fun j : J => cred (tallyAt (dcell true j c) () (amt j)))
        ∗ bigSep Finset.univ fun β : Fin 8 => RA (F := F) β c Finset.univ)
      ⊢ iprop((sg (F := F) c 0 ∗ sg (F := F) c 1 ∗ sg (F := F) c 2) ∗ cred (tallyAt (barCell c) () 3) ∗ atPos ER (barCell c) 0 ∅ 0
        ∗ (bigSep Finset.univ fun j : J => todo (F := F) c j) ∗ (bigSep Finset.univ fun j : J => fl (F := F) c true j)
        ∗ (RA (F := F) 0 c (my 0 0 c) ∗ RA (F := F) 1 c (my 1 0 c) ∗ RA (F := F) 2 c (my 2 0 c) ∗ RA (F := F) 3 c (my 3 0 c) ∗ RA (F := F) 4 c (my 4 0 c) ∗ RA (F := F) 5 c (my 5 0 c) ∗ RA (F := F) 6 c (my 6 0 c) ∗ RA (F := F) 7 c (my 7 0 c))) := by
  unfold payToks
  rw [bigSep_CI]
  iintro ⟨⟨HaB, HaS, HaR⟩, ⟨HtB, HtS, HtR⟩, HcB, HcR, Hb⟩
  ihave Hb := (bufs_split (F := F) c) $$ Hb
  icases Hb with ⟨HA, HP⟩
  ihave HP := (Entails.of_eq (bigSep_three fun i : Fin 3 => barPay (F := F) (par i c) i)) $$ HP
  icases HP with ⟨Hp0, Hp1, Hp2⟩
  ihave HtB := (Entails.of_eq (bigSep_three fun i : Fin 3 => (dutyTok ER (barCell (par i c)) 0 i : sProp 𝕄))) $$ HtB
  icases HtB with ⟨Ht0, Ht1, Ht2⟩
  isplitl [Ht0 Hp0 Ht1 Hp1 Ht2 Hp2]
  · unfold sg
    isplitl [Ht0 Hp0]; · isplitl [Ht0] <;> iassumption
    isplitl [Ht1 Hp1]; · isplitl [Ht1] <;> iassumption
    isplitl [Ht2] <;> iassumption
  isplitl [HcB]; · iexact HcB
  isplitl [HaB]; · iexact HaB
  isplitl [HtS HtR HaS]
  · iapply (show iprop((bigSep Finset.univ fun j : J => dutyTok ER (dcell false j c) 0 0) ∗ (bigSep Finset.univ fun j : J => dutyTok ER (dcell true j (peer j c)) 0 0)
        ∗ (bigSep Finset.univ fun j : J => atPos ER (dcell false j c) 0 ∅ 0)) ⊢ (bigSep Finset.univ fun j : J => todo (F := F) c j : sProp 𝕄)
      from Entails.of_eq (by unfold todo; rw [bigSep_sep', bigSep_sep']))
    isplitl [HtS]; · iexact HtS
    isplitl [HtR] <;> iassumption
  isplitl [HcR HaR]
  · iapply (show iprop((bigSep Finset.univ fun j : J => cred (tallyAt (dcell true j c) () (amt j))) ∗ (bigSep Finset.univ fun j : J => atPos ER (dcell true j c) 0 ∅ 0))
        ⊢ (bigSep Finset.univ fun j : J => fl (F := F) c true j : sProp 𝕄)
      from Entails.of_eq (by unfold fl; rw [bigSep_sep']))
    isplitl [HcR] <;> iassumption
  iapply (Entails.of_eq (bigSep_eight fun β : Fin 8 => RA (F := F) β c (my β 0 c))); iexact HA

omit [FloatOps F] in
theorem dnL_eq (c : Dev nD) (l : List (Bool × J)) : (dnL (F := F) c l : sProp 𝕄) ⊢ BI.bigSepL l fun p => dn (F := F) c p.1 p.2 := by
  induction l with
  | nil => exact BI.Entails.refl _
  | cons p l ih =>
    cases l with
    | nil =>
      show iprop(dn (F := F) c p.1 p.2 ∗ emp) ⊢ (dn (F := F) c p.1 p.2 : sProp 𝕄)
      iintro ⟨H, -⟩; iexact H
    | cons q l => exact sep_mono_right ih

omit [FloatOps F] in
/-- The forty-eight semaphores at zero. -/
theorem dnL_all (c : Dev nD) : (dnL (F := F) c waited : sProp 𝕄) ⊢ bigSep Finset.univ fun p : Bool × J => dn (F := F) c p.1 p.2 := by
  rw [bigSep_univ_eq_bigSepL waited (by decide +kernel) (by decide +kernel) fun p : Bool × J => (dn (F := F) c p.1 p.2 : sProp 𝕄)]
  exact dnL_eq c waited

/-- A buffer held in all its slots is held whole. -/
theorem RB_RA (G : (β : Fin 8) → (bufR β).ty.Contents (Elt F)) (c : Dev nD) (β : Fin 8) :
    (RB G β c (my β 3 c) fullShare : sProp 𝕄) ⊢ RA β c Finset.univ := by
  rw [my_three]; unfold RA RB
  iintro H; iexists (G β); iexact H

/-- The result's staging buffer with every row done. -/
theorem outP_all (I : Inp F) (c : Dev nD) : (outP I c 4096 : sProp 𝕄) ⊢ stg c cc0_stg7_0 (outC I) := by
  unfold outP
  iintro ⟨%f, %hf, H⟩
  have e : f = outC I := funext fun i => hf i (by
    exact lt_of_eq_of_lt (dif_pos (show 0 < cc0_stg7_0.ty.shape.rank from Nat.zero_lt_two)) (i 0).isLt)
  subst e; iexact H
theorem outP_none (I : Inp F) (c : Dev nD) (f : cc0_stg7_0.ty.Contents (Elt F)) : (stg c cc0_stg7_0 f : sProp 𝕄) ⊢ outP I c 0 := by
  unfold outP
  iintro H
  iexists f
  isplitr
  · ipureintro; intro i h; exact absurd h (Nat.not_lt_zero _)
  iexact H

/-! ## The body obligation -/

/-- A staging buffer at contents `X`, as the pipeline has it. -/
abbrev stgE (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stgE c b X := by
  unfold owns; simp only [Memref.view_whole, View.read_whole, View.set_whole]
omit [FloatOps F] in
theorem stgE_intro (c : Dev nD) (b : Ref sig .tc) (X : b.ty.Contents (Elt F)) : (stg c b X : sProp 𝕄) ⊢ stgE c b X := by
  iintro H; iexists X; isplitr; · (ipureintro; rfl)
  iexact H

/-- What the pipeline gives the body, and what it wants back. -/
def bodyPre (c : Dev nD) : sProp 𝕄 :=
  iprop(Φ₀ m c ∗ (dats m 0 c).owesAt () (t0_0).castSucc
    ∗ (∃ d, stgE c cc0_stg0_0 ((dats m 0 c).before (0 : Fin 8) t0_0 d))
    ∗ (∃ d, stgE c cc0_stg1_0 ((dats m 0 c).before (1 : Fin 8) t0_0 d))
    ∗ (∃ d, stgE c cc0_stg2_0 ((dats m 0 c).before (2 : Fin 8) t0_0 d))
    ∗ (∃ d, stgE c cc0_stg3_0 ((dats m 0 c).before (3 : Fin 8) t0_0 d))
    ∗ (∃ d, stgE c cc0_stg4_0 ((dats m 0 c).before (4 : Fin 8) t0_0 d))
    ∗ (∃ d, stgE c cc0_stg5_0 ((dats m 0 c).before (5 : Fin 8) t0_0 d))
    ∗ (∃ d, stgE c cc0_stg6_0 ((dats m 0 c).before (6 : Fin 8) t0_0 d))
    ∗ (∃ d, stgE c cc0_stg7_0 ((dats m 0 c).before (7 : Fin 8) t0_0 d)))
def bodyPost (c : Dev nD) : sProp 𝕄 :=
  iprop(Φ₁ c ∗ (dats m 0 c).owesAt () (t0_0).succ ∗ stgE c cc0_stg0_0 ((inp m).f0 c) ∗ stgE c cc0_stg1_0 ((inp m).f1 c) ∗ stgE c cc0_stg2_0 ((inp m).f2 c) ∗ stgE c cc0_stg3_0 ((inp m).f3 c) ∗ stgE c cc0_stg4_0 ((inp m).f4 c) ∗ stgE c cc0_stg5_0 ((inp m).f5 c) ∗ stgE c cc0_stg6_0 ((inp m).f6 c) ∗ stgE c cc0_stg7_0 (outC (inp m)))

theorem before_0 (c : Dev nD) (d) : (dats m 0 c).before (0 : Fin 8) t0_0 d = (inp m).f0 c := by
  unfold Dat.before; rw [if_pos (fetch0_0 t0_0)]; rfl
theorem before_1 (c : Dev nD) (d) : (dats m 0 c).before (1 : Fin 8) t0_0 d = (inp m).f1 c := by
  unfold Dat.before; rw [if_pos (fetch0_1 t0_0)]; rfl
theorem before_2 (c : Dev nD) (d) : (dats m 0 c).before (2 : Fin 8) t0_0 d = (inp m).f2 c := by
  unfold Dat.before; rw [if_pos (fetch0_2 t0_0)]; rfl
theorem before_3 (c : Dev nD) (d) : (dats m 0 c).before (3 : Fin 8) t0_0 d = (inp m).f3 c := by
  unfold Dat.before; rw [if_pos (fetch0_3 t0_0)]; rfl
theorem before_4 (c : Dev nD) (d) : (dats m 0 c).before (4 : Fin 8) t0_0 d = (inp m).f4 c := by
  unfold Dat.before; rw [if_pos (fetch0_4 t0_0)]; rfl
theorem before_5 (c : Dev nD) (d) : (dats m 0 c).before (5 : Fin 8) t0_0 d = (inp m).f5 c := by
  unfold Dat.before; rw [if_pos (fetch0_5 t0_0)]; rfl
theorem before_6 (c : Dev nD) (d) : (dats m 0 c).before (6 : Fin 8) t0_0 d = (inp m).f6 c := by
  unfold Dat.before; rw [if_pos (fetch0_6 t0_0)]; rfl

set_option maxHeartbeats 1000000 in
theorem body_run (c : Dev nD) : bodyPre m c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) (fun _ => bodyPost m c) := by
  unfold bodyPre Φ₀ start ghost recs
  iintro ⟨⟨⟨⟨%K, ⟨#HI, #HRe⟩, Hat, Hpt⟩, HcB, HcR, #Hlev⟩, Hb⟩, Ho, ⟨%d0, %g0, %hg0, HX0⟩, ⟨%d1, %g1, %hg1, HX1⟩, ⟨%d2, %g2, %hg2, HX2⟩, ⟨%d3, %g3, %hg3, HX3⟩, ⟨%d4, %g4, %hg4, HX4⟩, ⟨%d5, %g5, %hg5, HX5⟩, ⟨%d6, %g6, %hg6, HX6⟩, ⟨%d7, %g7, %hg7, HX7⟩⟩
  rw [before_0] at hg0; subst hg0
  rw [before_1] at hg1; subst hg1
  rw [before_2] at hg2; subst hg2
  rw [before_3] at hg3; subst hg3
  rw [before_4] at hg4; subst hg4
  rw [before_5] at hg5; subst hg5
  rw [before_6] at hg6; subst hg6
  unfold Dat.owesAt Pipeline.owesWithin
  icases Ho with ⟨%W, %hW, HO⟩
  rw [show (dats m 0 c).owed (t0_0).castSucc = Orec c 27 from rfl]
  ihave Has := (assemble (F := F) c) $$ [Hat Hpt HcB HcR Hb]
  · isplitl [Hat]; · iexact Hat
    isplitl [Hpt]; · iexact Hpt
    isplitl [HcB]; · iexact HcB
    isplitl [HcR] <;> iassumption
  icases Has with ⟨Hsg, HcB, HaB, Htd, Hfl, HA⟩
  iapply (sound_body K (inp m) c fun _ => bodyPost m c) $$ [HO Hsg HcB HaB Htd Hfl HA HX0 HX1 HX2 HX3 HX4 HX5 HX6 HX7]
  · isplitr
    · unfold Recs
      isplitr; · iexact HI
      isplitr; · iexact HRe
      iexact Hlev
    unfold bodyIn
    isplitl [HO]; · unfold ow; iexists W; iexact HO
    isplitl [Hsg]; · iexact Hsg
    isplitl [HcB]; · iexact HcB
    isplitl [HaB]; · iexact HaB
    isplitl [Htd]; · iexact Htd
    isplitl [Hfl]; · iexact Hfl
    isplitl [HA]; · iexact HA
    isplitl [HX0 HX1 HX2 HX3 HX4 HX5 HX6]
    · isplitl [HX0]; · iexact HX0
      isplitl [HX1]; · iexact HX1
      isplitl [HX2]; · iexact HX2
      isplitl [HX3]; · iexact HX3
      isplitl [HX4]; · iexact HX4
      isplitl [HX5]; · iexact HX5
      iexact HX6
    iapply (outP_none (inp m) c g7); iexact HX7
  unfold bodyOut bodyPost Φ₁ ow Dat.owesAt Pipeline.owesWithin
  iintro ⟨⟨%W', HO⟩, Hz, HL, ⟨HB0, HB1, HB2, HB3, HB4, HB5, HB6, HB7⟩, ⟨HX0, HX1, HX2, HX3, HX4, HX5, HX6⟩, HOUT⟩
  rw [show (dats m 0 c).owed (t0_0).succ = 0 from rfl]
  isplitl [Hz HL HB0 HB1 HB2 HB3 HB4 HB5 HB6 HB7]
  · isplitl [Hz]; · iexact Hz
    isplitl [HL]; · iapply (dnL_all (F := F) c); iexact HL
    iapply (Entails.of_eq (bigSep_eight fun β : Fin 8 => RA (F := F) β c Finset.univ).symm)
    isplitl [HB0]; · iapply (RB_RA (GG (inp m)) c 0); iexact HB0
    isplitl [HB1]; · iapply (RB_RA (GG (inp m)) c 1); iexact HB1
    isplitl [HB2]; · iapply (RB_RA (GG (inp m)) c 2); iexact HB2
    isplitl [HB3]; · iapply (RB_RA (GG (inp m)) c 3); iexact HB3
    isplitl [HB4]; · iapply (RB_RA (GG (inp m)) c 4); iexact HB4
    isplitl [HB5]; · iapply (RB_RA (GG (inp m)) c 5); iexact HB5
    isplitl [HB6]; · iapply (RB_RA (GG (inp m)) c 6); iexact HB6
    iapply (RB_RA (GG (inp m)) c 7); iexact HB7
  isplitl [HO]
  · iexists W'
    isplitr; · ipureintro; exact fun _ _ => Or.inl trivial
    iexact HO
  isplitl [HX0]; · iapply (stgE_intro c cc0_stg0_0 ((inp m).f0 c)); iexact HX0
  isplitl [HX1]; · iapply (stgE_intro c cc0_stg1_0 ((inp m).f1 c)); iexact HX1
  isplitl [HX2]; · iapply (stgE_intro c cc0_stg2_0 ((inp m).f2 c)); iexact HX2
  isplitl [HX3]; · iapply (stgE_intro c cc0_stg3_0 ((inp m).f3 c)); iexact HX3
  isplitl [HX4]; · iapply (stgE_intro c cc0_stg4_0 ((inp m).f4 c)); iexact HX4
  isplitl [HX5]; · iapply (stgE_intro c cc0_stg5_0 ((inp m).f5 c)); iexact HX5
  isplitl [HX6]; · iapply (stgE_intro c cc0_stg6_0 ((inp m).f6 c)); iexact HX6
  iapply (stgE_intro c cc0_stg7_0 (outC (inp m))); iapply (outP_all (inp m) c); iexact HOUT

set_option maxRecDepth 16384 in
/-- The library's body obligation on core `c`. -/
theorem body_obligation (c : Dev nD) : BodyObligation (dats (F := F) m 0 c) (defs₀ (F := F)) 𝒱₀ () Set.univ := fun t => by
  rw [fin_N0 t]
  have hW (Φ : Fin cfg0.W → sProp 𝕄) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ
  rw [hW, hW]
  simp only [owns_whole_eq]
  show bodyPre m c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) (fun _ => bodyPost m c)
  exact body_run m c

/-! ## The run -/

theorem ownSemFacts : Pipeline.OwnSemFacts cfg0.spec osem :=
  ⟨by decide +kernel, fun p q h => by
    have h' : csem (some p) = csem (some q) := h
    have := csem_injective h'; injection this, by decide +kernel⟩

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

omit [FloatOps F] in
/-- The buffers no window stages are the eight gathered ones. -/
theorem rest_eq (c : Dev nD) : (Pipeline.scopedRest (Ix := Unit) (Name := ℕ) (U := UU) (Lvl := ℕ) (Val := Elt F) cfg0.spec c : sProp 𝕄)
    = bigSep Finset.univ fun β : Fin 8 => RA (F := F) β c Finset.univ := by
  rw [show (Pipeline.scopedRest (Ix := Unit) (Name := ℕ) (U := UU) (Lvl := ℕ) (Val := Elt F) cfg0.spec c : sProp 𝕄) = _ from scopedRest0_eq c, bigSep_eight]
  simp only [RA_univ]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, rest_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, rest_eq, ownSems0_eq, unscopedSems0_eq]
  exact BI.Entails.refl _

theorem waits (c : Dev nD) : (levAts L lv : sProp 𝕄) ⊢ Pipeline.cellsWaits cfgs (dats m) () 0 c :=
  Pipeline.cellsWaits_intro cfgs (dats m) () 0 c fun w s t => by
    have h0 : lv ((c : Thread nD τ), .dma ((cfg0.win w).sem s)) () ≤ 0 := by
      have : ∀ (w : Fin cfg0.W) (s : Fin (cfg0.win w).nbuf), dec ((cfg0.win w).sem s) = none := by decide +kernel
      dsimp only [lv]; rw [this]
    rcases t with ⟨_ | _, ht⟩
    · exact mayWait (F := F) c _ 27 0 h0 (fun _ => Nat.one_pos) (fun j _ => by omega)
    · exact mayWait (F := F) c _ 0 0 h0 (fun _ => Nat.one_pos) (fun j _ => by omega)

/-- The memory the run starts from. -/
def s₀ : MemSt nD τ sig (Elt F) := ⟨m, fun _ => 0, ρ⟩

/-- What each windowed array holds at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On eight devices, for any float values and from any memory with zero counters: every weakly fair execution of the
    kernel ends, with every windowed array at its computed contents and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := deal m) (G' := ghost m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MlpProof

end
-- ==== Proof.Frames.lean ====
/-
`Frames`: every program ends with its arguments kept and its counters at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.MlpProof

open Idealize.ShloMosaic Idealize.ShloMosaic.TcCoe Idealize.SL.Sem Cert.KernelIdeal Cert.KernelIdeal.Gen

attribute [local instance] Cert.Kernel.Gen.facts

variable {F : FTy → Type} [FloatOps F] (m : (ℓ : Loc nD τ sig) → Buf (Elt F) ℓ)

/-- Window 0 leaves argument 0 as it was. -/
theorem final_0 (c : Dev nD) : finalA m c (0 : Fin 8) = m ((c : Thread nD τ).loc main_arg0) :=
  (dats m 0 c).arrAt_in (0 : Fin 8) rfl _

/-- Window 1 leaves argument 1 as it was. -/
theorem final_1 (c : Dev nD) : finalA m c (1 : Fin 8) = m ((c : Thread nD τ).loc main_arg1) :=
  (dats m 0 c).arrAt_in (1 : Fin 8) rfl _

/-- Window 2 leaves argument 4 as it was. -/
theorem final_2 (c : Dev nD) : finalA m c (2 : Fin 8) = m ((c : Thread nD τ).loc main_arg4) :=
  (dats m 0 c).arrAt_in (2 : Fin 8) rfl _

/-- Window 3 leaves argument 2 as it was. -/
theorem final_3 (c : Dev nD) : finalA m c (3 : Fin 8) = m ((c : Thread nD τ).loc main_arg2) :=
  (dats m 0 c).arrAt_in (3 : Fin 8) rfl _

/-- Window 4 leaves argument 5 as it was. -/
theorem final_4 (c : Dev nD) : finalA m c (4 : Fin 8) = m ((c : Thread nD τ).loc main_arg5) :=
  (dats m 0 c).arrAt_in (4 : Fin 8) rfl _

/-- Window 5 leaves argument 3 as it was. -/
theorem final_5 (c : Dev nD) : finalA m c (5 : Fin 8) = m ((c : Thread nD τ).loc main_arg3) :=
  (dats m 0 c).arrAt_in (5 : Fin 8) rfl _

/-- Window 6 leaves argument 6 as it was. -/
theorem final_6 (c : Dev nD) : finalA m c (6 : Fin 8) = m ((c : Thread nD τ).loc main_arg6) :=
  (dats m 0 c).arrAt_in (6 : Fin 8) rfl _

/-- At the end of a run every argument is what it was at the start. -/
theorem args_kept {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c (0 : Fin 8)).trans (final_0 m c), (h c (1 : Fin 8)).trans (final_1 m c), (h c (3 : Fin 8)).trans (final_3 m c), (h c (5 : Fin 8)).trans (final_5 m c), (h c (2 : Fin 8)).trans (final_2 m c), (h c (4 : Fin 8)).trans (final_4 m c), (h c (6 : Fin 8)).trans (final_6 m c)⟩

/-- The two texts of the kernel's body are the same program. -/
theorem body_same : Cert.Kernel.cc0_body (F := Bits) = cc0_body (F := Bits) := rfl

/-- So their body tables are the same. -/
theorem bodies_same : Cert.Kernel.defs₀ (F := Bits) = defs₀ (F := Bits) := by
  unfold Cert.Kernel.defs₀ defs₀
  rw [body_same]
  congr 1
  funext l x
  match l, x with
  | 0, (t, s) => rfl

/-- And so are the whole tables. -/
theorem defs_same : Cert.Kernel.defs (F := Bits) = defs (F := Bits) := by
  unfold Cert.Kernel.defs defs
  exact congrArg (Pipeline.defs pcfgs) bodies_same

/-- What a run of one table's main ends in, a run of an equal table's main ends in. -/
theorem run_of_defs (m : (ℓ : Loc nD τ sig) → Buf (Elt Bits) ℓ) (ρ : Dev nD → PrngReg)
    (Q : PUnit × MemSt nD τ sig (Elt Bits) → Prop) {d : Defs nD τ sig (Elt Bits) (Pipeline.Sig Λ₀ (Fin 1) fun p => (pcfgs (F := Bits) p).Adm)}
    (hd : d = defs (F := Bits)) (h : θ_run (defs (F := Bits)) (onTc (τ := τ) (main (F := Bits))) (s₀ m ρ) Q) :
    θ_run d (onTc (τ := τ) (main (F := Bits))) (s₀ m ρ) Q := hd ▸ h

/-- The kernel as compiled ends with its arguments kept and its counters at zero. -/
theorem frame_kernel : Cert.quiescent_Kernel (hKernel := Cert.Kernel.Gen.facts) := fun m ρ _ =>
  run_of_defs m ρ _ defs_same
    ((θ_run defs _ _).mono (fun _ h => ⟨args_kept m h.1, h.2⟩) (run_main (F := Bits) m ρ))

/-- So does the kernel over the reals. -/
theorem frame_kernelIdeal : Cert.quiescent_KernelIdeal (hKernelIdeal := Cert.KernelIdeal.Gen.facts) := fun m ρ _ =>
  (θ_run Cert.KernelIdeal.defs _ _).mono (fun _ h => ⟨args_kept m h.1, h.2⟩) (run_main (F := Ideal) m ρ)

/-- And so does the reference, which has no semaphores. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.MlpProof

end
-- ==== Proof.Sums.lean ====
/-
`Sums`: a layer of the perceptron over the extended reals, as a sum over its hidden units, and the two ways the kernel
computes it: slot by slot in the order in which the slots arrive, and over hidden units listed in another order.
-/
module

public import proofs.«01_k».proof.Proof.Protocol
public import Idealize.ShloMosaic.Lib.MatmulPlain
public import Idealize.ShloMosaic.Lib.ValueIdx
public import Idealize.ShloMosaic.Lib.ValueIdxCore
public import Idealize.ShloMosaic.Lib.IdealHost

@[expose] public section

noncomputable section

namespace Cert.MlpProof

open Idealize.ShloMosaic Idealize.ShloMosaic.ValueIdx
open scoped BigOperators

/-! ## A layer -/

/-- A row through a layer of `N` hidden units, whose `i`-th unit has the incoming weights in row `i` of `G` and the outgoing ones in row
    `i` of `W`. -/
def layer {N : ℕ} (G W : (⟨2, ![N, 256]⟩ : Shape).Idx → EReal) (x : Fin 256 → EReal) (n : Fin 256) : EReal :=
  ∑ i : Fin N, max (∑ k : Fin 256, x k * G (ix2 i k)) 0 * W (ix2 i n)

/-- The two products of a layer with the rectifier between them are, at an entry, the layer of the entry's row. -/
theorem products_apply {M N : ℕ} (x : FVec Ideal ⟨2, ![M, 256]⟩ .bf16) (G W : FVec Ideal ⟨2, ![N, 256]⟩ .bf16)
    (a : FVec Ideal ⟨2, ![M, N]⟩ .f32) (b : FVec Ideal ⟨2, ![M, 256]⟩ .f32) (z : Ideal .f32) (h : FTy.bf16.bits < FTy.f32.bits)
    (ha : ∀ j, a j = 0) (hb : ∀ j, b j = 0) (hz : z = 0) (r : Fin M) (n : Fin 256) :
    FloatOps.matmul (DotDims.plain M N 256) none
      (truncf .bf16 (maximumf (FloatOps.matmul (DotDims.transposedRhs M 256 N) none x G a) (broadcast _ z)) h : FVec Ideal ⟨2, ![M, N]⟩ .bf16) W b
      (ix2 r n) = layer G W (fun k => x (ix2 r k)) n := by
  rw [Ideal.matmul_plain_apply, hb, zero_add]
  refine Finset.sum_congr rfl fun i _ => ?_
  rw [truncf_apply, maximumf_apply, Ideal.matmul_transposedRhs_apply, ha, zero_add, broadcast_apply, hz]

/-! ## Slot by slot -/

/-- The sum over `N` consecutive numbers from `o` on. -/
def seg (f : ℕ → EReal) (o N : ℕ) : EReal := ∑ j ∈ Finset.range N, f (o + j)

/-- Two stretches one after the other. -/
theorem seg_add (f : ℕ → EReal) (o N N' : ℕ) : seg f o (N + N') = seg f o N + seg f (o + N) N' := by
  unfold seg
  rw [Finset.sum_range_add]
  simp only [Nat.add_assoc]

theorem seg_two (f : ℕ → EReal) (o : ℕ) : seg f o 1024 = seg f o 512 + seg f (o + 512) 512 := seg_add f o 512 512
theorem seg_four (f : ℕ → EReal) (o : ℕ) : seg f o 2048 = seg f o 1024 + seg f (o + 1024) 1024 := seg_add f o 1024 1024
theorem seg_eight (f : ℕ → EReal) (o : ℕ) : seg f o 4096 = seg f o 2048 + seg f (o + 2048) 2048 := seg_add f o 2048 2048

/-- Own slot, then the slot beside it, then the pair beside these two, then the four beside these four: all eight slots. -/
theorem arrivals (f : ℕ → EReal) (s : Fin 8) :
    seg f (s.val / 2 ^ 0 * 2 ^ 0 * 512) 512 + seg f ((s.val / 2 ^ 0 ^^^ 1) * 2 ^ 0 * 512) 512
      + seg f ((s.val / 2 ^ 1 ^^^ 1) * 2 ^ 1 * 512) 1024 + seg f ((s.val / 2 ^ 2 ^^^ 1) * 2 ^ 2 * 512) 2048
      = seg f 0 4096 := by
  simp only [seg_eight, seg_four, seg_two]
  fin_cases s <;> simp <;> abel

/-- A stretch of hidden units is that stretch of the layer's sum. -/
theorem layer_seg {N : ℕ} (G W : (⟨2, ![4096, 256]⟩ : Shape).Idx → EReal) (g w : (⟨2, ![N, 256]⟩ : Shape).Idx → EReal) (o : ℕ)
    (x : Fin 256 → EReal) (n : Fin 256) (f : ℕ → EReal)
    (hf : ∀ i : Fin 4096, f i.val = max (∑ k : Fin 256, x k * G (ix2 i k)) 0 * W (ix2 i n))
    (ho : ∀ j : Fin N, o + j.val < 4096)
    (hg : ∀ (j : Fin N) (k : Fin 256), g (ix2 j k) = G (ix2 ⟨o + j.val, ho j⟩ k))
    (hw : ∀ (j : Fin N) (k : Fin 256), w (ix2 j k) = W (ix2 ⟨o + j.val, ho j⟩ k)) :
    layer g w x n = seg f o N := by
  unfold layer seg
  rw [Finset.sum_range]
  refine Finset.sum_congr rfl fun j _ => ?_
  rw [hf ⟨o + j.val, ho j⟩, hw]
  simp only [hg]

/-- The terms of a layer's sum, numbered. -/
def unit (G W : (⟨2, ![4096, 256]⟩ : Shape).Idx → EReal) (x : Fin 256 → EReal) (n : Fin 256) (i : ℕ) : EReal :=
  if h : i < 4096 then max (∑ k : Fin 256, x k * G (ix2 ⟨i, h⟩ k)) 0 * W (ix2 ⟨i, h⟩ n) else 0

theorem unit_val (G W : (⟨2, ![4096, 256]⟩ : Shape).Idx → EReal) (x : Fin 256 → EReal) (n : Fin 256) (i : Fin 4096) :
    unit G W x n i.val = max (∑ k : Fin 256, x k * G (ix2 i k)) 0 * W (ix2 i n) := dif_pos i.isLt

/-- The layer is the whole stretch of its terms. -/
theorem layer_whole (G W : (⟨2, ![4096, 256]⟩ : Shape).Idx → EReal) (x : Fin 256 → EReal) (n : Fin 256) :
    layer G W x n = seg (unit G W x n) 0 4096 := by
  unfold layer seg
  rw [Finset.sum_range]
  refine Finset.sum_congr rfl fun j _ => ?_
  rw [Nat.zero_add, unit_val]

/-! ## In another order -/

/-- The hidden unit of the whole array at place `i` of a gathered buffer. -/
def place (β : Fin 8) (i : Fin 4096) : Fin 4096 :=
  ⟨(who β (Fin.ofNat 8 (i.val / 512))).val * 512 + i.val % 512, by
    have := (who β (Fin.ofNat 8 (i.val / 512))).isLt; have : (8 : ℕ) = Cert.KernelIdeal.nD := rfl; omega⟩

/-- The place of a hidden unit of the whole array in a gathered buffer. -/
def back (β : Fin 8) (i : Fin 4096) : Fin 4096 :=
  ⟨(sl β (Fin.ofNat 8 (i.val / 512))).val * 512 + i.val % 512, by
    have := (sl β (Fin.ofNat 8 (i.val / 512))).isLt; omega⟩

theorem ofNat_at (t : Fin 8) (r : ℕ) (h : r < 512) : (Fin.ofNat 8 ((t.val * 512 + r) / 512) : Fin 8) = t := by
  apply Fin.ext
  show (t.val * 512 + r) / 512 % 8 = t.val
  have := t.isLt; omega

theorem back_place (β : Fin 8) (i : Fin 4096) : back β (place β i) = i := by
  apply Fin.ext
  show (sl β (Fin.ofNat 8 ((place β i).val / 512))).val * 512 + (place β i).val % 512 = i.val
  have h : (Fin.ofNat 8 ((place β i).val / 512) : Fin 8) = who β (Fin.ofNat 8 (i.val / 512)) :=
    ofNat_at _ _ (Nat.mod_lt _ (by decide))
  rw [h, sl_who]
  show i.val / 512 % 8 * 512 + ((who β (Fin.ofNat 8 (i.val / 512))).val * 512 + i.val % 512) % 512 = i.val
  have := i.isLt; omega

theorem place_back (β : Fin 8) (i : Fin 4096) : place β (back β i) = i := by
  apply Fin.ext
  show (who β (Fin.ofNat 8 ((back β i).val / 512))).val * 512 + (back β i).val % 512 = i.val
  have h : (Fin.ofNat 8 ((back β i).val / 512) : Fin 8) = sl β (Fin.ofNat 8 (i.val / 512)) :=
    ofNat_at _ _ (Nat.mod_lt _ (by decide))
  rw [h, who_sl]
  show i.val / 512 % 8 * 512 + ((sl β (Fin.ofNat 8 (i.val / 512))).val * 512 + i.val % 512) % 512 = i.val
  have := i.isLt; omega

/-- Places and hidden units match one to one. -/
def placeEquiv (β : Fin 8) : Fin 4096 ≃ Fin 4096 := ⟨place β, back β, back_place β, place_back β⟩

/-- The layer with incoming weights in the columns of `A` and outgoing weights in the rows of `B`, as the problem has them. -/
def mlp (A : (⟨2, ![256, 4096]⟩ : Shape).Idx → EReal) (B : (⟨2, ![4096, 256]⟩ : Shape).Idx → EReal) (x : Fin 256 → EReal) (n : Fin 256) : EReal :=
  ∑ h : Fin 4096, max (∑ k : Fin 256, x k * A (ix2 k h)) 0 * B (ix2 h n)

/-- Over gathered weights the layer is the problem's: its sum runs over the same hidden units in another order. -/
theorem layer_gathered (β : Fin 8) (G W : (⟨2, ![4096, 256]⟩ : Shape).Idx → EReal)
    (A : (⟨2, ![256, 4096]⟩ : Shape).Idx → EReal) (B : (⟨2, ![4096, 256]⟩ : Shape).Idx → EReal)
    (hG : ∀ (i : Fin 4096) (k : Fin 256), G (ix2 i k) = A (ix2 k (place β i)))
    (hW : ∀ (i : Fin 4096) (k : Fin 256), W (ix2 i k) = B (ix2 (place β i) k)) (x : Fin 256 → EReal) (n : Fin 256) :
    layer G W x n = mlp A B x n := by
  unfold layer mlp
  refine Eq.trans (Finset.sum_congr rfl fun i _ => ?_)
    (Equiv.sum_comp (placeEquiv β) fun h => max (∑ k : Fin 256, x k * A (ix2 k h)) 0 * B (ix2 h n))
  rw [hW]
  simp only [hG]
  rfl

end Cert.MlpProof

end
-- ==== Proof.Layers.lean ====
/-
`Layers`: what the kernel computes over the extended reals. Every row of the result is the device's row sent through the three layers,
first slot by slot and then over whole gathered weights.
-/
module

public import proofs.«01_k».proof.Proof.Sums
public import proofs.«01_k».proof.Proof.Facts
public import Idealize.ShloMosaic.Lib.ValueLayout
public import Idealize.ShloMosaic.Lib.Layout

@[expose] public section

noncomputable section

namespace Cert.MlpProof

open Cert.KernelIdeal Cert.KernelIdeal.Gen

open Idealize.ShloMosaic
open Idealize.ShloMosaic.TcCoe
open Idealize.ShloMosaic.ValueIdx

/-! ## The payloads at an entry -/

theorem pay1_eq (v : FVec Ideal S512x256 .bf16) : k0_pay1 (F := Ideal) v = v := shapeCast_self _ _

theorem pay2_apply (v : FVec Ideal S256x512 .bf16) (j : Fin 512) (k : Fin 256) : k0_pay2 (F := Ideal) v (ix2 j k) = v (ix2 k j) := by
  unfold k0_pay2
  simp only [shapeCast_self]
  exact transpose_ix2_apply _ _ _ _
theorem pay4_apply (v : FVec Ideal S256x512 .bf16) (j : Fin 512) (k : Fin 256) : k0_pay4 (F := Ideal) v (ix2 j k) = v (ix2 k j) := by
  unfold k0_pay4
  simp only [shapeCast_self]
  exact transpose_ix2_apply _ _ _ _
theorem pay6_apply (v : FVec Ideal S256x512 .bf16) (j : Fin 512) (k : Fin 256) : k0_pay6 (F := Ideal) v (ix2 j k) = v (ix2 k j) := by
  unfold k0_pay6
  simp only [shapeCast_self]
  exact transpose_ix2_apply _ _ _ _
theorem pay3_eq (v : FVec Ideal S512x256 .bf16) : k0_pay3 (F := Ideal) v = v := by
  unfold k0_pay3; simp only [shapeCast_self]
theorem pay5_eq (v : FVec Ideal S512x256 .bf16) : k0_pay5 (F := Ideal) v = v := by
  unfold k0_pay5; simp only [shapeCast_self]
theorem pay7_eq (v : FVec Ideal S512x256 .bf16) : k0_pay7 (F := Ideal) v = v := by
  unfold k0_pay7; simp only [shapeCast_self]

/-- The zero arrays the products start from, and the rectifier's zero. -/
theorem zeros {s : Shape} (j : s.Idx) : constant (F := Ideal) s .f32 0x00000000#32 j = 0 := Ideal.ofBits_zero_f32
theorem zero_cst : (Scalar.ofBits .f32 0x00000000#32 : Ideal .f32) = 0 := Ideal.ofBits_zero_f32

theorem pay8_apply (x : FVec Ideal S512x256 .bf16) (g w : FVec Ideal S512x256 .bf16) (r : Fin 512) (n : Fin 256) :
    k0_pay8 (F := Ideal) x g w (ix2 r n) = layer g w (fun k => x (ix2 r k)) n :=
  products_apply x g w _ _ _ bitsLt_bf16_f32 zeros zeros zero_cst r n

theorem pay9_apply (x : FVec Ideal S512x256 .bf16) (y : FVec Ideal S512x256 .f32) (g w : FVec Ideal S512x256 .bf16) (r : Fin 512) (n : Fin 256) :
    k0_pay9 (F := Ideal) x y g w (ix2 r n) = y (ix2 r n) + layer g w (fun k => x (ix2 r k)) n :=
  congrArg (y (ix2 r n) + ·) (products_apply x g w _ _ _ bitsLt_bf16_f32 zeros zeros zero_cst r n)

theorem pay11_apply (x : FVec Ideal S512x256 .bf16) (y : FVec Ideal S512x256 .f32) (g w : FVec Ideal S1024x256 .bf16) (r : Fin 512) (n : Fin 256) :
    k0_pay11 (F := Ideal) y (k0_pay10 x g) w (ix2 r n) = y (ix2 r n) + layer g w (fun k => x (ix2 r k)) n :=
  congrArg (y (ix2 r n) + ·) (products_apply x g w _ _ _ bitsLt_bf16_f32 zeros zeros zero_cst r n)

/-- Layer 0's last four slots, and layer 1 on the sums. -/
theorem pay13_apply (x : FVec Ideal S512x256 .bf16) (y : FVec Ideal S512x256 .f32) (g w : FVec Ideal S2048x256 .bf16)
    (G W : FVec Ideal S4096x256 .bf16) (r : Fin 512) (n : Fin 256) :
    k0_pay13 (F := Ideal) y (k0_pay12 x g) cst0 w G W (ix2 r n)
      = layer G W (fun q => y (ix2 r q) + layer g w (fun k => x (ix2 r k)) q) n := by
  refine (products_apply (M := 512) (N := 4096) _ G W _ _ _ bitsLt_bf16_f32 zeros zeros zero_cst r n).trans ?_
  refine congrArg (fun f => layer G W f n) (funext fun q => ?_)
  exact congrArg (y (ix2 r q) + ·) (products_apply x g w _ _ _ bitsLt_bf16_f32 zeros zeros zero_cst r q)

/-- Layer 2 on the first half of the rows. -/
theorem pay14_apply (y : FVec Ideal S512x256 .f32) (h : FVec Ideal S512x2048 .f32) (w : FVec Ideal S2048x256 .bf16)
    (G W G' W' : FVec Ideal S4096x256 .bf16) (r : Fin 256) (n : Fin 256) :
    k0_pay14 (F := Ideal) y h cst0 w G W G' W' (ix2 r n)
      = layer G' W' (fun q => k0_pay13 (F := Ideal) y h cst0 w G W (ix2 ⟨r.val, by omega⟩ q)) n := by
  unfold k0_pay14
  simp only [shapeCast_self]
  refine (products_apply (M := 256) (N := 4096) _ G' W' _ _ _ bitsLt_bf16_f32 zeros zeros zero_cst r n).trans ?_
  refine congrArg (fun f => layer G' W' f n) (funext fun q => ?_)
  exact slice2_axis0_apply 0 _ _ _ _ _ (Nat.zero_add _).symm

/-- Layer 2 on the second half. -/
theorem pay15_apply (y : FVec Ideal S512x256 .bf16) (G' W' : FVec Ideal S4096x256 .bf16) (r : Fin 256) (n : Fin 256) :
    k0_pay15 (F := Ideal) y G' W' (ix2 r n) = layer G' W' (fun q => y (ix2 ⟨256 + r.val, by omega⟩ q)) n := by
  unfold k0_pay15
  simp only [shapeCast_self]
  refine (products_apply (M := 256) (N := 4096) _ G' W' _ _ _ bitsLt_bf16_f32 zeros zeros zero_cst r n).trans ?_
  refine congrArg (fun f => layer G' W' f n) (funext fun q => ?_)
  exact slice2_axis0_apply 256 _ _ _ _ _ rfl

/-! ## Layer 0 slot by slot -/

/-- The rows of a gathered buffer from `o` on, read at row `j`, are row `o + j`. -/
theorem stretch_apply {N : ℕ} (g : (⟨2, ![4096, 256]⟩ : Shape).Idx → EReal) (off : Fin 2 → ℕ)
    (inb : ∀ a, off a + (⟨2, ![N, 256]⟩ : Shape).size a ≤ (⟨2, ![4096, 256]⟩ : Shape).size a) (o : ℕ) (h : off 0 = o ∧ off 1 = 0)
    (j : Fin N) (k : Fin 256) (hj : o + j.val < 4096) :
    g ((Rect.unit (s := (⟨2, ![4096, 256]⟩ : Shape)) off (⟨2, ![N, 256]⟩ : Shape).size inb).emb (ix2 j k)) = g (ix2 ⟨o + j.val, hj⟩ k) := by
  refine congrArg g (funext fun a => Fin.ext ?_)
  match a with
  | ⟨0, _⟩ => exact (ValueKit.rect_emb_unit_val _ _ _ _ _).trans (congrArg (· + j.val) h.1)
  | ⟨1, _⟩ => exact (ValueKit.rect_emb_unit_val _ _ _ _ _).trans ((congrArg (· + k.val) h.2).trans (Nat.zero_add _))

/-- A layer over a stretch of the gathered rows is that stretch of the whole layer's sum. -/
theorem stretch_layer {N : ℕ} (G W : (⟨2, ![4096, 256]⟩ : Shape).Idx → EReal) (off : Fin 2 → ℕ)
    (inb : ∀ a, off a + (⟨2, ![N, 256]⟩ : Shape).size a ≤ (⟨2, ![4096, 256]⟩ : Shape).size a) (o : ℕ) (h : off 0 = o ∧ off 1 = 0)
    (x : Fin 256 → EReal) (n : Fin 256) :
    layer (N := N) (fun i => G ((Rect.unit (s := (⟨2, ![4096, 256]⟩ : Shape)) off (⟨2, ![N, 256]⟩ : Shape).size inb).emb i))
      (fun i => W ((Rect.unit (s := (⟨2, ![4096, 256]⟩ : Shape)) off (⟨2, ![N, 256]⟩ : Shape).size inb).emb i)) x n
      = seg (unit G W x n) o N := by
  have hb : off 0 + N ≤ 4096 := inb 0
  have ho : ∀ j : Fin N, o + j.val < 4096 := fun j => by have := j.isLt; have := h.1; omega
  exact layer_seg G W _ _ o x n _ (unit_val G W x n) ho (fun j k => stretch_apply G off inb o h j k (ho j)) (fun j k => stretch_apply W off inb o h j k (ho j))

/-- Equal summands give equal sums. -/
theorem sums_eq {a b a' b' : EReal} (h : a = a') (h' : b = b') : a + b = a' + b' := by rw [h, h']

variable (I : Inp Ideal)

/-- A device's row, as given. -/
def rowIn (c : Dev nD) (r : Fin 512) : Fin 256 → EReal := fun k => I.f0 c (ix2 r k)

theorem v28_row (c : Dev nD) (r : Fin 512) : (fun k => v28 I c (ix2 r k)) = rowIn I c r := by
  funext k
  show k0_pay1 (F := Ideal) (l0 I c) (ix2 r k) = _
  rw [pay1_eq, l0_eq]; rfl

/-- Layer 0's sums over the slots that are there before the last four. -/
theorem v414_apply (c : Dev nD) (r : Fin 512) (n : Fin 256) :
    v414 I c (ix2 r n) = seg (unit (g0 I) (g3 I) (rowIn I c r) n) ((sl 0 c).val / 2 ^ 0 * 2 ^ 0 * 512) 512
      + seg (unit (g0 I) (g3 I) (rowIn I c r) n) (((sl 0 c).val / 2 ^ 0 ^^^ 1) * 2 ^ 0 * 512) 512
      + seg (unit (g0 I) (g3 I) (rowIn I c r) n) (((sl 0 c).val / 2 ^ 1 ^^^ 1) * 2 ^ 1 * 512) 1024 := by
  rw [← v28_row]
  refine (pay11_apply (v28 I c) (v278 I c) _ _ r n).trans (sums_eq ?_ ?_)
  · refine (pay9_apply (v28 I c) (v143 I c) _ _ r n).trans (sums_eq ?_ ?_)
    · refine (pay8_apply (v28 I c) _ _ r n).trans ?_
      exact stretch_layer (N := 512) (g0 I) (g3 I) (k0_off1 c) (k0_off1_inb c) _ (own0_off c) _ n
    · exact stretch_layer (N := 512) (g0 I) (g3 I) (k0_off13 c) (k0_off13_inb c) _ (sec0_off c) _ n
  · exact stretch_layer (N := 1024) (g0 I) (g3 I) (k0_off20 c) (k0_off20_inb c) _ (thi0_off c) _ n

/-- After layer 1 a device's row has gone through both layers. -/
theorem v496_apply (c : Dev nD) (r : Fin 512) (n : Fin 256) :
    v496 I c (ix2 r n) = layer (g1 I) (g4 I) (layer (g0 I) (g3 I) (rowIn I c r)) n := by
  refine (pay13_apply (v28 I c) (v414 I c) _ (v485 I c) (w1 I) (w4 I) r n).trans ?_
  rw [w1_eq, w4_eq]
  refine congrArg (fun f => layer (g1 I) (g4 I) f n) (funext fun q => ?_)
  rw [layer_whole (g0 I) (g3 I), ← arrivals _ (sl 0 c), v414_apply, v28_row]
  refine sums_eq rfl ?_
  exact stretch_layer (N := 2048) (g0 I) (g3 I) (k0_off24 c) (k0_off24_inb c) _ (fou0_off c) _ q

/-- A device's row of the result. -/
def rowOut (c : Dev nD) (r : Fin 512) : Fin 256 → EReal :=
  layer (g2 I) (g5 I) (layer (g1 I) (g4 I) (layer (g0 I) (g3 I) (rowIn I c r)))

theorem va_apply (c : Dev nD) (r : Fin 256) (n : Fin 256) : va I c (ix2 r n) = rowOut I c ⟨r.val, by omega⟩ n := by
  refine (pay14_apply (v414 I c) (v480 I c) (v485 I c) (w1 I) (w4 I) (w2 I) (w5 I) r n).trans ?_
  rw [w2_eq, w5_eq]
  exact congrArg (fun f => layer (g2 I) (g5 I) f n) (funext fun q => v496_apply I c _ q)

theorem vb_apply (c : Dev nD) (r : Fin 256) (n : Fin 256) : vb I c (ix2 r n) = rowOut I c ⟨256 + r.val, by omega⟩ n := by
  refine (pay15_apply (v496 I c) (w2 I) (w5 I) r n).trans ?_
  rw [w2_eq, w5_eq]
  exact congrArg (fun f => layer (g2 I) (g5 I) f n) (funext fun q => v496_apply I c _ q)

/-- Row `i` of the result is row `i % 512` of device `i / 512`, through the three layers. -/
theorem outC_apply (i : Fin 4096) (n : Fin 256) :
    outC I (ix2 i n) = rowOut I (Fin.ofNat 8 (i.val / 512)) ⟨i.val % 512, Nat.mod_lt _ (by decide)⟩ n := by
  show (if i.val / 256 % 2 = 0 then va I (Fin.ofNat 8 (i.val / 512)) (ix2 ⟨i.val % 256, Nat.mod_lt _ (by decide)⟩ n)
    else vb I (Fin.ofNat 8 (i.val / 512)) (ix2 ⟨i.val % 256, Nat.mod_lt _ (by decide)⟩ n)) = _
  split
  · rw [va_apply]; congr 1; apply Fin.ext; show i.val % 256 = i.val % 512; omega
  · rw [vb_apply]; congr 1; apply Fin.ext; show 256 + i.val % 256 = i.val % 512; omega

end Cert.MlpProof

end
-- ==== Proof.Whole.lean ====
/-
`Whole`: the result of the kernel and the result of the reference as functions of the whole arrays. Both send every row through the three
layers of the problem.
-/
module

public import proofs.«01_k».proof.Proof.Layers
public import proofs.«01_k».proof.Proof.Gen.ReferenceIdeal
public import Idealize.ShloMosaic.Lib.StackMember

@[expose] public section

noncomputable section

namespace Cert.MlpProof

open Cert.KernelIdeal Cert.KernelIdeal.Gen

open Idealize.ShloMosaic
open Idealize.ShloMosaic.TcCoe
open Idealize.ShloMosaic.ValueIdx

/-! ## The reference -/

/-- A layer of the reference, as it is written there. -/
def refLayer (X : FVec Ideal ⟨2, ![4096, 256]⟩ .bf16) (A : FVec Ideal ⟨2, ![256, 4096]⟩ .bf16) (B : FVec Ideal ⟨2, ![4096, 256]⟩ .bf16) :
    FVec Ideal ⟨2, ![4096, 256]⟩ .bf16 :=
  truncf .bf16 (Host.dotGeneral Cert.ReferenceIdeal.dot_S4096x4096_S4096x256_S4096x256_1_0_0_1_n_n none
    (extf .f32 (maximumf (truncf .bf16 (Host.dotGeneral Cert.ReferenceIdeal.dot_S4096x256_S256x4096_S4096x4096_1_0_0_1_n_n none
        (extf .f32 X Cert.ReferenceIdeal.Gen.facts.bitsLt_bf16_f32) (extf .f32 A Cert.ReferenceIdeal.Gen.facts.bitsLt_bf16_f32)) Cert.ReferenceIdeal.Gen.facts.bitsLt_bf16_f32)
      (broadcastInDim Cert.ReferenceIdeal.S4096x4096 ![] Cert.ReferenceIdeal.Gen.facts.bcast_S_S4096x4096 (constant Cert.ReferenceIdeal.S_ .bf16 0x0000#16))) Cert.ReferenceIdeal.Gen.facts.bitsLt_bf16_f32)
    (extf .f32 B Cert.ReferenceIdeal.Gen.facts.bitsLt_bf16_f32)) Cert.ReferenceIdeal.Gen.facts.bitsLt_bf16_f32

/-- It sends each row through the layer. -/
theorem refLayer_apply (X : FVec Ideal ⟨2, ![4096, 256]⟩ .bf16) (A : FVec Ideal ⟨2, ![256, 4096]⟩ .bf16) (B : FVec Ideal ⟨2, ![4096, 256]⟩ .bf16)
    (i : Fin 4096) (n : Fin 256) : refLayer X A B (ix2 i n) = mlp A B (fun k => X (ix2 i k)) n := by
  unfold refLayer
  rw [truncf_apply]
  refine (StackMember.dotGeneral_plain_apply (m := 4096) (k := 4096) (n := 256) none _ _ i n).trans ?_
  refine Finset.sum_congr rfl fun h _ => ?_
  rw [extf_apply, extf_apply, maximumf_apply, truncf_apply]
  refine congrArg₂ (fun a b => max a b * B (ix2 h n)) ?_ ?_
  · exact StackMember.dotGeneral_plain_apply (m := 4096) (k := 256) (n := 4096) none _ _ i h
  · exact (broadcastInDim_scalar_apply _ _ _).trans Ideal.ofBits_zero_bf16

/-- The three layers on the row `x`. -/
def net (A0 A1 A2 : (⟨2, ![256, 4096]⟩ : Shape).Idx → EReal) (B0 B1 B2 : (⟨2, ![4096, 256]⟩ : Shape).Idx → EReal) (x : Fin 256 → EReal) :
    Fin 256 → EReal := mlp A2 B2 (mlp A1 B1 (mlp A0 B0 x))

/-- The reference's result is every row through the three layers. -/
theorem refNet_apply (X : FVec Ideal ⟨2, ![4096, 256]⟩ .bf16) (A0 A1 A2 : FVec Ideal ⟨2, ![256, 4096]⟩ .bf16)
    (B0 B1 B2 : FVec Ideal ⟨2, ![4096, 256]⟩ .bf16) (i : Fin 4096) (n : Fin 256) :
    refLayer (refLayer (refLayer X A0 B0) A1 B1) A2 B2 (ix2 i n) = net A0 A1 A2 B0 B1 B2 (fun k => X (ix2 i k)) n := by
  rw [refLayer_apply]
  refine congrArg (fun f => mlp A2 B2 f n) (funext fun k => ?_)
  rw [refLayer_apply]
  exact congrArg (fun f => mlp A1 B1 f k) (funext fun k' => refLayer_apply _ _ _ _ _)

/-! ## The kernel -/

/-- Every device's arrays are its blocks of the whole ones: rows of `X` and of the outgoing weights, columns of the incoming ones. -/
structure Cut (I : Inp Ideal) (X : FVec Ideal ⟨2, ![4096, 256]⟩ .bf16) (A0 A1 A2 : FVec Ideal ⟨2, ![256, 4096]⟩ .bf16)
    (B0 B1 B2 : FVec Ideal ⟨2, ![4096, 256]⟩ .bf16) : Prop where
  x : ∀ c : Dev nD, I.f0 c = Layout.block ⟨2, ![512, 256]⟩ ⟨2, ![4096, 256]⟩ 0 8 c X
  a0 : ∀ c : Dev nD, I.f1 c = Layout.block ⟨2, ![256, 512]⟩ ⟨2, ![256, 4096]⟩ 1 8 c A0
  a1 : ∀ c : Dev nD, I.f3 c = Layout.block ⟨2, ![256, 512]⟩ ⟨2, ![256, 4096]⟩ 1 8 c A1
  a2 : ∀ c : Dev nD, I.f5 c = Layout.block ⟨2, ![256, 512]⟩ ⟨2, ![256, 4096]⟩ 1 8 c A2
  b0 : ∀ c : Dev nD, I.f2 c = Layout.block ⟨2, ![512, 256]⟩ ⟨2, ![4096, 256]⟩ 0 8 c B0
  b1 : ∀ c : Dev nD, I.f4 c = Layout.block ⟨2, ![512, 256]⟩ ⟨2, ![4096, 256]⟩ 0 8 c B1
  b2 : ∀ c : Dev nD, I.f6 c = Layout.block ⟨2, ![512, 256]⟩ ⟨2, ![4096, 256]⟩ 0 8 c B2

/-- Row `j` of block `c` is row `512 c + j`. -/
theorem block_rows (V : (⟨2, ![4096, 256]⟩ : Shape).Idx → EReal) (c : Fin 8) (j : Fin 512) (k : Fin 256) :
    Layout.block ⟨2, ![512, 256]⟩ ⟨2, ![4096, 256]⟩ 0 8 c V (by decide) (ix2 j k) = V (ix2 ⟨c.val * 512 + j.val, by omega⟩ k) := by
  rw [Layout.block_apply]
  refine congrArg V (funext fun a => Fin.ext ?_)
  match a with
  | ⟨0, _⟩ => rfl
  | ⟨1, _⟩ => rfl

/-- Column `j` of block `c` is column `512 c + j`. -/
theorem block_cols (V : (⟨2, ![256, 4096]⟩ : Shape).Idx → EReal) (c : Fin 8) (k : Fin 256) (j : Fin 512) :
    Layout.block ⟨2, ![256, 512]⟩ ⟨2, ![256, 4096]⟩ 1 8 c V (by decide) (ix2 k j) = V (ix2 k ⟨c.val * 512 + j.val, by omega⟩) := by
  rw [Layout.block_apply]
  refine congrArg V (funext fun a => Fin.ext ?_)
  match a with
  | ⟨0, _⟩ => rfl
  | ⟨1, _⟩ => rfl

variable {I : Inp Ideal} {X : FVec Ideal ⟨2, ![4096, 256]⟩ .bf16} {A0 A1 A2 : FVec Ideal ⟨2, ![256, 4096]⟩ .bf16}
  {B0 B1 B2 : FVec Ideal ⟨2, ![4096, 256]⟩ .bf16} (H : Cut I X A0 A1 A2 B0 B1 B2)

/-- The outgoing weights are gathered in the order of the incoming ones. -/
theorem who_pair : who 3 = who 0 ∧ who 4 = who 1 ∧ who 5 = who 2 := by
  refine ⟨funext ?_, funext ?_, funext ?_⟩ <;> decide +kernel

theorem place_pair (i : Fin 4096) : place 3 i = place 0 i ∧ place 4 i = place 1 i ∧ place 5 i = place 2 i := by
  unfold place
  refine ⟨?_, ?_, ?_⟩ <;> apply Fin.ext <;> simp only [who_pair.1, who_pair.2.1, who_pair.2.2]

include H

theorem g0_at (i : Fin 4096) (k : Fin 256) : g0 I (ix2 i k) = A0 (ix2 k (place 0 i)) := by
  show k0_pay2 (F := Ideal) (l1 I _) (ix2 _ k) = _
  rw [pay2_apply, l1_eq, H.a0]; exact block_cols _ _ _ _
theorem g1_at (i : Fin 4096) (k : Fin 256) : g1 I (ix2 i k) = A1 (ix2 k (place 1 i)) := by
  show k0_pay4 (F := Ideal) (l3 I _) (ix2 _ k) = _
  rw [pay4_apply, l3_eq, H.a1]; exact block_cols _ _ _ _
theorem g2_at (i : Fin 4096) (k : Fin 256) : g2 I (ix2 i k) = A2 (ix2 k (place 2 i)) := by
  show k0_pay6 (F := Ideal) (l5 I _) (ix2 _ k) = _
  rw [pay6_apply, l5_eq, H.a2]; exact block_cols _ _ _ _
theorem g3_at (i : Fin 4096) (k : Fin 256) : g3 I (ix2 i k) = B0 (ix2 (place 0 i) k) := by
  rw [← (place_pair i).1]
  show k0_pay3 (F := Ideal) (l2 I _) (ix2 _ k) = _
  rw [pay3_eq, l2_eq, H.b0]; exact block_rows _ _ _ _
theorem g4_at (i : Fin 4096) (k : Fin 256) : g4 I (ix2 i k) = B1 (ix2 (place 1 i) k) := by
  rw [← (place_pair i).2.1]
  show k0_pay5 (F := Ideal) (l4 I _) (ix2 _ k) = _
  rw [pay5_eq, l4_eq, H.b1]; exact block_rows _ _ _ _
theorem g5_at (i : Fin 4096) (k : Fin 256) : g5 I (ix2 i k) = B2 (ix2 (place 2 i) k) := by
  rw [← (place_pair i).2.2]
  show k0_pay7 (F := Ideal) (l6 I _) (ix2 _ k) = _
  rw [pay7_eq, l6_eq, H.b2]; exact block_rows _ _ _ _

/-- The gathered layers are the problem's. -/
theorem layer0_eq (x : Fin 256 → EReal) : layer (g0 I) (g3 I) x = mlp A0 B0 x :=
  funext (layer_gathered 0 _ _ _ _ (g0_at H) (g3_at H) x)
theorem layer1_eq (x : Fin 256 → EReal) : layer (g1 I) (g4 I) x = mlp A1 B1 x :=
  funext (layer_gathered 1 _ _ _ _ (g1_at H) (g4_at H) x)
theorem layer2_eq (x : Fin 256 → EReal) : layer (g2 I) (g5 I) x = mlp A2 B2 x :=
  funext (layer_gathered 2 _ _ _ _ (g2_at H) (g5_at H) x)

/-- The kernel's result is every row through the three layers. -/
theorem outNet_apply (i : Fin 4096) (n : Fin 256) : outC I (ix2 i n) = net A0 A1 A2 B0 B1 B2 (fun k => X (ix2 i k)) n := by
  rw [outC_apply]
  unfold rowOut net
  rw [layer0_eq H, layer1_eq H, layer2_eq H]
  refine congrArg (fun f => mlp A2 B2 (mlp A1 B1 (mlp A0 B0 f)) n) (funext fun k => ?_)
  unfold rowIn
  rw [H.x]
  refine (block_rows _ _ _ _).trans (congrArg (fun j => X (ix2 j k)) (Fin.ext ?_))
  show i.val / 512 % 8 * 512 + i.val % 512 = i.val
  have := i.isLt; omega

/-- The kernel's result is the reference's. -/
theorem out_eq : outC I = refLayer (refLayer (refLayer X A0 B0) A1 B1) A2 B2 := by
  funext j
  have h : ∀ i : (⟨2, ![4096, 256]⟩ : Shape).Idx, outC I i = refLayer (refLayer (refLayer X A0 B0) A1 B1) A2 B2 i := fun i => by
    rw [eq_ix2 i]
    exact (outNet_apply H _ _).trans (refNet_apply X A0 A1 A2 B0 B1 B2 _ _).symm
  exact h j

end Cert.MlpProof

end
-- ==== Proof.Algebraic.lean ====
/-
`Algebraic`: from arguments that are the devices' blocks of the reference's, the kernel ends with the reference's result on every device.
-/
module

public import proofs.«01_k».proof.Proof.Frames
public import proofs.«01_k».proof.Proof.Whole

@[expose] public section

noncomputable section

namespace Cert.MlpProof

open Idealize.ShloMosaic Idealize.ShloMosaic.TcCoe Idealize.SL.Sem Cert.KernelIdeal Cert.KernelIdeal.Gen

variable (m : (ℓ : Loc nD τ sig) → Buf (Elt Ideal) ℓ)

/-- Every window covers its whole array, so what it stages is the argument itself. -/
theorem inp_f0 (c : Dev nD) : (inp m).f0 c = m ((c : Thread nD τ).loc main_arg0) := by
  have hz : (fun a => win0_0.index (0 : Fin 1) a * main_arg0.ty.shape.size a) = fun _ => 0 := funext fun a => by fin_cases a <;> decide
  refine Eq.trans ?_ (Memref.read_access_unit_zero (Elt Ideal) main_arg0 hz (fun a => by fin_cases a <;> decide) (m ((c : Thread nD τ).loc main_arg0)))
  unfold inp
  rfl
theorem inp_f1 (c : Dev nD) : (inp m).f1 c = m ((c : Thread nD τ).loc main_arg1) := by
  have hz : (fun a => win0_1.index (0 : Fin 1) a * main_arg1.ty.shape.size a) = fun _ => 0 := funext fun a => by fin_cases a <;> decide
  refine Eq.trans ?_ (Memref.read_access_unit_zero (Elt Ideal) main_arg1 hz (fun a => by fin_cases a <;> decide) (m ((c : Thread nD τ).loc main_arg1)))
  unfold inp
  rfl
theorem inp_f2 (c : Dev nD) : (inp m).f2 c = m ((c : Thread nD τ).loc main_arg4) := by
  have hz : (fun a => win0_2.index (0 : Fin 1) a * main_arg4.ty.shape.size a) = fun _ => 0 := funext fun a => by fin_cases a <;> decide
  refine Eq.trans ?_ (Memref.read_access_unit_zero (Elt Ideal) main_arg4 hz (fun a => by fin_cases a <;> decide) (m ((c : Thread nD τ).loc main_arg4)))
  unfold inp
  rfl
theorem inp_f3 (c : Dev nD) : (inp m).f3 c = m ((c : Thread nD τ).loc main_arg2) := by
  have hz : (fun a => win0_3.index (0 : Fin 1) a * main_arg2.ty.shape.size a) = fun _ => 0 := funext fun a => by fin_cases a <;> decide
  refine Eq.trans ?_ (Memref.read_access_unit_zero (Elt Ideal) main_arg2 hz (fun a => by fin_cases a <;> decide) (m ((c : Thread nD τ).loc main_arg2)))
  unfold inp
  rfl
theorem inp_f4 (c : Dev nD) : (inp m).f4 c = m ((c : Thread nD τ).loc main_arg5) := by
  have hz : (fun a => win0_4.index (0 : Fin 1) a * main_arg5.ty.shape.size a) = fun _ => 0 := funext fun a => by fin_cases a <;> decide
  refine Eq.trans ?_ (Memref.read_access_unit_zero (Elt Ideal) main_arg5 hz (fun a => by fin_cases a <;> decide) (m ((c : Thread nD τ).loc main_arg5)))
  unfold inp
  rfl
theorem inp_f5 (c : Dev nD) : (inp m).f5 c = m ((c : Thread nD τ).loc main_arg3) := by
  have hz : (fun a => win0_5.index (0 : Fin 1) a * main_arg3.ty.shape.size a) = fun _ => 0 := funext fun a => by fin_cases a <;> decide
  refine Eq.trans ?_ (Memref.read_access_unit_zero (Elt Ideal) main_arg3 hz (fun a => by fin_cases a <;> decide) (m ((c : Thread nD τ).loc main_arg3)))
  unfold inp
  rfl
theorem inp_f6 (c : Dev nD) : (inp m).f6 c = m ((c : Thread nD τ).loc main_arg6) := by
  have hz : (fun a => win0_6.index (0 : Fin 1) a * main_arg6.ty.shape.size a) = fun _ => 0 := funext fun a => by fin_cases a <;> decide
  refine Eq.trans ?_ (Memref.read_access_unit_zero (Elt Ideal) main_arg6 hz (fun a => by fin_cases a <;> decide) (m ((c : Thread nD τ).loc main_arg6)))
  unfold inp
  rfl

/-- The result's window is written back whole. -/
theorem final_7 (c : Dev nD) : finalA m c (7 : Fin 8) = outC (inp m) := by
  unfold finalA
  refine Eq.trans (Memref.read_access_unit_zero (Elt Ideal) main_v1 (off := fun a => win0_7.index (0 : Fin 1) a * main_v1.ty.shape.size a)
    (funext fun a => by fin_cases a <;> decide) (fun a => by fin_cases a <;> decide) _).symm ?_
  rw [show cfg0.N = ((0 : Fin 1) : Fin cfg0.N).val + 1 from rfl, (dats m 0 c).arrAt_succ (7 : Fin 8) (0 : Fin 1)]
  rw [show (cfg0.win (7 : Fin 8)).flush (0 : Fin 1) = true from by decide, if_pos rfl]
  exact View.read_write_univ _ _

/-- From blocks of the reference's arguments the kernel ends, on every device, with the reference's result, every argument kept. -/
theorem algebraic : Cert.algebraic_KernelIdeal_ReferenceIdeal (hKernelIdeal := Cert.KernelIdeal.Gen.facts)
    (hReferenceIdeal := Cert.ReferenceIdeal.Gen.facts) := fun m g m' g' _ hb => by
  have H : Cut (inp m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)) :=
    { x := fun c => (inp_f0 m c).trans (hb c).1
      a0 := fun c => (inp_f1 m c).trans (hb c).2.1
      a1 := fun c => (inp_f3 m c).trans (hb c).2.2.1
      a2 := fun c => (inp_f5 m c).trans (hb c).2.2.2.1
      b0 := fun c => (inp_f2 m c).trans (hb c).2.2.2.2.1
      b1 := fun c => (inp_f4 m c).trans (hb c).2.2.2.2.2.1
      b2 := fun c => (inp_f6 m c).trans (hb c).2.2.2.2.2.2 }
  refine ⟨outC (inp m), ?_, ?_⟩
  · exact (θ_run Cert.KernelIdeal.defs _ _).mono (fun r h c => ⟨(h.1 c (7 : Fin 8)).trans (final_7 m c), args_kept m h.1 c⟩)
      (run_main (F := Ideal) m g)
  · exact (θ_run Cert.ReferenceIdeal.defs _ _).mono (fun r h => ⟨(h 0).1.trans (out_eq H).symm, (h 0).2⟩)
      (Cert.ReferenceIdeal.Value.run (F := Ideal) m' g')

end Cert.MlpProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MlpProof.frame_kernel, Cert.MlpProof.frame_kernelIdeal, Cert.MlpProof.frame_reference, trivial, Cert.MlpProof.algebraic⟩

end Cert.Proof

end
